-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S1 : Shape := ⟨1, ![1]⟩
abbrev S4096x8192 : Shape := ⟨2, ![4096, 8192]⟩
abbrev S1x1 : Shape := ⟨2, ![1, 1]⟩
abbrev S256x2048 : Shape := ⟨2, ![256, 2048]⟩
abbrev S2x256x2048 : Shape := ⟨3, ![2, 256, 2048]⟩
abbrev S2 : Shape := ⟨1, ![2]⟩
abbrev S_ : Shape := ⟨0, ![]⟩
abbrev S1x256x2048 : Shape := ⟨3, ![1, 256, 2048]⟩

abbrev nBuf : Space → Nat
  | .hbm => 8
  | .vmem => 12
  | .smem => 1
  | _ => 0

abbrev bufTy : (tb : Table) → Fin (tcTables nBuf tb) → BufTy
  | .hbm, ⟨0, _⟩ => ⟨S4096x256, .bf16⟩
  | .hbm, ⟨1, _⟩ => ⟨S256x8192, .bf16⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .local _ .vmem, ⟨0, _⟩ => ⟨S256x2048, .f32⟩
  | .local _ .vmem, ⟨1, _⟩ => ⟨S256x2048, .f32⟩
  | .local _ .vmem, ⟨2, _⟩ => ⟨S2x256x2048, .f32⟩
  | .local _ .vmem, ⟨3, _⟩ => ⟨S256x2048, .f32⟩
  | .local _ .vmem, ⟨4, _⟩ => ⟨S256x2048, .f32⟩
  | .local _ .vmem, ⟨5, _⟩ => ⟨S2x256x2048, .f32⟩
  | .local _ .vmem, ⟨6, _⟩ => ⟨S256x2048, .f32⟩
  | .local _ .vmem, ⟨7, _⟩ => ⟨S256x2048, .f32⟩
  | .local _ .vmem, ⟨8, _⟩ => ⟨S2x256x2048, .f32⟩
  | .local _ .vmem, ⟨9, _⟩ => ⟨S256x2048, .f32⟩
  | .local _ .vmem, ⟨10, _⟩ => ⟨S256x2048, .f32⟩
  | .local _ .vmem, ⟨11, _⟩ => ⟨S2x256x2048, .f32⟩
  | .local _ .smem, ⟨0, _⟩ => ⟨S1x1, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 5 25 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_stg0_0 : Ref sig .tc := ⟨.smem, 0, rfl⟩
abbrev cc0_sem0_0 : DmaSem sig := 0
abbrev barrier0 : Sem sig := 4

abbrev nD : Nat := 16
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v8 : BitVec 32 := Scalar.muli v2 c256_i32
  let c0_i32_5 : BitVec 32 := 0#32
  ![v8.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_6 : BitVec 32 := 256#32
  let v12 : BitVec 32 := Scalar.muli v2 c256_i32_6
  let c2048_i32 : BitVec 32 := 2048#32
  ![v12.toNat, 2048]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_8 : BitVec 32 := 256#32
  let v16 : BitVec 32 := Scalar.muli v2 c256_i32_8
  let c4096_i32 : BitVec 32 := 4096#32
  ![v16.toNat, 4096]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_10 : BitVec 32 := 256#32
  let v20 : BitVec 32 := Scalar.muli v2 c256_i32_10
  let c6144_i32 : BitVec 32 := 6144#32
  ![v20.toNat, 6144]
def k0_dev1 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_13 : BitVec 32 := 1#32
  let v25 : BitVec 32 := Scalar.muli v7 c1_i32_13
  let v26 : BitVec 32 := Scalar.addi c0_i32_14 v25
  v26.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_16 : BitVec 32 := 1#32
  let v27 : BitVec 32 := Scalar.muli v4 c1_i32_16
  let v28 : BitVec 32 := Scalar.addi c0_i32_17 v27
  v28.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_29 : BitVec 32 := 1#32
  let v41 : BitVec 32 := Scalar.muli v4 c1_i32_29
  let v42 : BitVec 32 := Scalar.addi c0_i32_30 v41
  v42.toNat
def k0_off5 (d0 : Dev nD) (c1_i32_33 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v49 : BitVec 32 := Scalar.subi v2 c1_i32_33
  let c64_i32 : BitVec 32 := 64#32
  let v50 : BitVec 32 := Scalar.addi v49 c64_i32
  let c16_i32_34 : BitVec 32 := 16#32
  let v51 : BitVec 32 := Scalar.remsi v50 c16_i32_34
  let c256_i32_35 : BitVec 32 := 256#32
  let v52 : BitVec 32 := Scalar.muli v51 c256_i32_35
  let c0_i32_37 : BitVec 32 := 0#32
  ![v52.toNat, 0]
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_41 : BitVec 32 := 1#32
  let v56 : BitVec 32 := Scalar.muli v7 c1_i32_41
  let v57 : BitVec 32 := Scalar.addi c0_i32_42 v56
  v57.toNat
def k0_off6 (d0 : Dev nD) (c_m1_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v64 : BitVec 32 := Scalar.subi v2 c_m1_i32
  let c64_i32_45 : BitVec 32 := 64#32
  let v65 : BitVec 32 := Scalar.addi v64 c64_i32_45
  let c16_i32_46 : BitVec 32 := 16#32
  let v66 : BitVec 32 := Scalar.remsi v65 c16_i32_46
  let c256_i32_47 : BitVec 32 := 256#32
  let v67 : BitVec 32 := Scalar.muli v66 c256_i32_47
  let c4096_i32_49 : BitVec 32 := 4096#32
  ![v67.toNat, 4096]
def k0_off6_at (r : Fin 16) : BitVec 32 :=
  if r.val < 8 then
    if r.val < 4 then
      if r.val < 2 then
        if r.val < 1 then
          4294967295#32
        else
          4294967294#32
      else
        if r.val < 3 then
          4294967293#32
        else
          4294967292#32
    else
      if r.val < 6 then
        if r.val < 5 then
          4294967291#32
        else
          4294967290#32
      else
        if r.val < 7 then
          4294967289#32
        else
          4294967288#32
  else
    if r.val < 12 then
      if r.val < 10 then
        if r.val < 9 then
          4294967287#32
        else
          4294967286#32
      else
        if r.val < 11 then
          4294967285#32
        else
          4294967284#32
    else
      if r.val < 14 then
        if r.val < 13 then
          4294967283#32
        else
          4294967282#32
      else
        if r.val < 15 then
          4294967281#32
        else
          0#32
def k0_dev5 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_53 : BitVec 32 := 1#32
  let v71 : BitVec 32 := Scalar.muli v4 c1_i32_53
  let v72 : BitVec 32 := Scalar.addi c0_i32_54 v71
  v72.toNat
def k0_off7 (d0 : Dev nD) (c1_i32_57 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v79 : BitVec 32 := Scalar.subi v2 c1_i32_57
  let c64_i32_58 : BitVec 32 := 64#32
  let v80 : BitVec 32 := Scalar.addi v79 c64_i32_58
  let c16_i32_59 : BitVec 32 := 16#32
  let v81 : BitVec 32 := Scalar.remsi v80 c16_i32_59
  let c256_i32_60 : BitVec 32 := 256#32
  let v82 : BitVec 32 := Scalar.muli v81 c256_i32_60
  let c2048_i32_62 : BitVec 32 := 2048#32
  ![v82.toNat, 2048]
def k0_dev6 (d0 : Dev nD) : Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_66 : BitVec 32 := 1#32
  let v86 : BitVec 32 := Scalar.muli v7 c1_i32_66
  let v87 : BitVec 32 := Scalar.addi c0_i32_67 v86
  v87.toNat
def k0_off8 (d0 : Dev nD) (c_m1_i32_70 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v94 : BitVec 32 := Scalar.subi v2 c_m1_i32_70
  let c64_i32_71 : BitVec 32 := 64#32
  let v95 : BitVec 32 := Scalar.addi v94 c64_i32_71
  let c16_i32_72 : BitVec 32 := 16#32
  let v96 : BitVec 32 := Scalar.remsi v95 c16_i32_72
  let c256_i32_73 : BitVec 32 := 256#32
  let v97 : BitVec 32 := Scalar.muli v96 c256_i32_73
  let c6144_i32_75 : BitVec 32 := 6144#32
  ![v97.toNat, 6144]
def k0_off8_at (r : Fin 16) : BitVec 32 :=
  if r.val < 8 then
    if r.val < 4 then
      if r.val < 2 then
        if r.val < 1 then
          4294967295#32
        else
          4294967294#32
      else
        if r.val < 3 then
          4294967293#32
        else
          4294967292#32
    else
      if r.val < 6 then
        if r.val < 5 then
          4294967291#32
        else
          4294967290#32
      else
        if r.val < 7 then
          4294967289#32
        else
          4294967288#32
  else
    if r.val < 12 then
      if r.val < 10 then
        if r.val < 9 then
          4294967287#32
        else
          4294967286#32
      else
        if r.val < 11 then
          4294967285#32
        else
          4294967284#32
    else
      if r.val < 14 then
        if r.val < 13 then
          4294967283#32
        else
          4294967282#32
      else
        if r.val < 15 then
          4294967281#32
        else
          0#32
def k0_dev7 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_98 : BitVec 32 := 1#32
  let v121 : BitVec 32 := Scalar.muli v7 c1_i32_98
  let v122 : BitVec 32 := Scalar.addi c0_i32_99 v121
  v122.toNat
def k0_dev8 (d0 : Dev nD) : Nat :=
  let c0_i32_104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_103 : BitVec 32 := 1#32
  let v123 : BitVec 32 := Scalar.muli v4 c1_i32_103
  let v124 : BitVec 32 := Scalar.addi c0_i32_104 v123
  v124.toNat
def k0_dev9 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_136 : BitVec 32 := 1#32
  let v158 : BitVec 32 := Scalar.muli v4 c1_i32_136
  let v159 : BitVec 32 := Scalar.addi c0_i32_137 v158
  v159.toNat
def k0_dev10 (d0 : Dev nD) : Nat :=
  let c0_i32_142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_141 : BitVec 32 := 1#32
  let v160 : BitVec 32 := Scalar.muli v7 c1_i32_141
  let v161 : BitVec 32 := Scalar.addi c0_i32_142 v160
  v161.toNat
def k0_dev11 (d0 : Dev nD) : Nat :=
  let c0_i32_174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_173 : BitVec 32 := 1#32
  let v195 : BitVec 32 := Scalar.muli v7 c1_i32_173
  let v196 : BitVec 32 := Scalar.addi c0_i32_174 v195
  v196.toNat
def k0_dev12 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_178 : BitVec 32 := 1#32
  let v197 : BitVec 32 := Scalar.muli v4 c1_i32_178
  let v198 : BitVec 32 := Scalar.addi c0_i32_179 v197
  v198.toNat
def k0_dev13 (d0 : Dev nD) : Nat :=
  let c0_i32_212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_211 : BitVec 32 := 1#32
  let v232 : BitVec 32 := Scalar.muli v4 c1_i32_211
  let v233 : BitVec 32 := Scalar.addi c0_i32_212 v232
  v233.toNat
def k0_dev14 (d0 : Dev nD) : Nat :=
  let c0_i32_217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_216 : BitVec 32 := 1#32
  let v234 : BitVec 32 := Scalar.muli v7 c1_i32_216
  let v235 : BitVec 32 := Scalar.addi c0_i32_217 v234
  v235.toNat
def k0_dev15 (d0 : Dev nD) : Nat :=
  let c0_i32_249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_248 : BitVec 32 := 1#32
  let v269 : BitVec 32 := Scalar.muli v7 c1_i32_248
  let v270 : BitVec 32 := Scalar.addi c0_i32_249 v269
  v270.toNat
def k0_dev16 (d0 : Dev nD) : Nat :=
  let c0_i32_256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_255 : BitVec 32 := 1#32
  let v271 : BitVec 32 := Scalar.muli v4 c1_i32_255
  let v272 : BitVec 32 := Scalar.addi c0_i32_256 v271
  v272.toNat
def k0_dev17 (d0 : Dev nD) : Nat :=
  let c0_i32_288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_287 : BitVec 32 := 1#32
  let v306 : BitVec 32 := Scalar.muli v4 c1_i32_287
  let v307 : BitVec 32 := Scalar.addi c0_i32_288 v306
  v307.toNat
def k0_dev18 (d0 : Dev nD) : Nat :=
  let c0_i32_295 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_294 : BitVec 32 := 1#32
  let v308 : BitVec 32 := Scalar.muli v7 c1_i32_294
  let v309 : BitVec 32 := Scalar.addi c0_i32_295 v308
  v309.toNat
def k0_dev19 (d0 : Dev nD) : Nat :=
  let c0_i32_327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_326 : BitVec 32 := 1#32
  let v343 : BitVec 32 := Scalar.muli v7 c1_i32_326
  let v344 : BitVec 32 := Scalar.addi c0_i32_327 v343
  v344.toNat
def k0_dev20 (d0 : Dev nD) : Nat :=
  let c0_i32_334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_333 : BitVec 32 := 1#32
  let v345 : BitVec 32 := Scalar.muli v4 c1_i32_333
  let v346 : BitVec 32 := Scalar.addi c0_i32_334 v345
  v346.toNat
def k0_dev21 (d0 : Dev nD) : Nat :=
  let c0_i32_367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_366 : BitVec 32 := 1#32
  let v380 : BitVec 32 := Scalar.muli v4 c1_i32_366
  let v381 : BitVec 32 := Scalar.addi c0_i32_367 v380
  v381.toNat
def k0_dev22 (d0 : Dev nD) : Nat :=
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_373 : BitVec 32 := 1#32
  let v382 : BitVec 32 := Scalar.muli v7 c1_i32_373
  let v383 : BitVec 32 := Scalar.addi c0_i32_374 v382
  v383.toNat
def k0_dev23 (d0 : Dev nD) : Nat :=
  let c0_i32_407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_406 : BitVec 32 := 1#32
  let v417 : BitVec 32 := Scalar.muli v7 c1_i32_406
  let v418 : BitVec 32 := Scalar.addi c0_i32_407 v417
  v418.toNat
def k0_dev24 (d0 : Dev nD) : Nat :=
  let c0_i32_414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_413 : BitVec 32 := 1#32
  let v419 : BitVec 32 := Scalar.muli v4 c1_i32_413
  let v420 : BitVec 32 := Scalar.addi c0_i32_414 v419
  v420.toNat
def k0_dev25 (d0 : Dev nD) : Nat :=
  let c0_i32_446 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_445 : BitVec 32 := 1#32
  let v454 : BitVec 32 := Scalar.muli v4 c1_i32_445
  let v455 : BitVec 32 := Scalar.addi c0_i32_446 v454
  v455.toNat
def k0_dev26 (d0 : Dev nD) : Nat :=
  let c0_i32_453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_452 : BitVec 32 := 1#32
  let v456 : BitVec 32 := Scalar.muli v7 c1_i32_452
  let v457 : BitVec 32 := Scalar.addi c0_i32_453 v456
  v457.toNat
def k0_dev27 (d0 : Dev nD) : Nat :=
  let c0_i32_485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_484 : BitVec 32 := 1#32
  let v491 : BitVec 32 := Scalar.muli v7 c1_i32_484
  let v492 : BitVec 32 := Scalar.addi c0_i32_485 v491
  v492.toNat
def k0_dev28 (d0 : Dev nD) : Nat :=
  let c0_i32_492 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_491 : BitVec 32 := 1#32
  let v493 : BitVec 32 := Scalar.muli v4 c1_i32_491
  let v494 : BitVec 32 := Scalar.addi c0_i32_492 v493
  v494.toNat
def k0_dev29 (d0 : Dev nD) : Nat :=
  let c0_i32_525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_524 : BitVec 32 := 1#32
  let v528 : BitVec 32 := Scalar.muli v4 c1_i32_524
  let v529 : BitVec 32 := Scalar.addi c0_i32_525 v528
  v529.toNat
def k0_dev30 (d0 : Dev nD) : Nat :=
  let c0_i32_532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_531 : BitVec 32 := 1#32
  let v530 : BitVec 32 := Scalar.muli v7 c1_i32_531
  let v531 : BitVec 32 := Scalar.addi c0_i32_532 v530
  v531.toNat
def k0_dev31 (d0 : Dev nD) : Nat :=
  let c0_i32_565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_564 : BitVec 32 := 1#32
  let v565 : BitVec 32 := Scalar.muli v7 c1_i32_564
  let v566 : BitVec 32 := Scalar.addi c0_i32_565 v565
  v566.toNat
def k0_dev32 (d0 : Dev nD) : Nat :=
  let c0_i32_572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_571 : BitVec 32 := 1#32
  let v567 : BitVec 32 := Scalar.muli v4 c1_i32_571
  let v568 : BitVec 32 := Scalar.addi c0_i32_572 v567
  v568.toNat
def k0_dev33 (d0 : Dev nD) : Nat :=
  let c0_i32_604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_603 : BitVec 32 := 1#32
  let v602 : BitVec 32 := Scalar.muli v4 c1_i32_603
  let v603 : BitVec 32 := Scalar.addi c0_i32_604 v602
  v603.toNat
def k0_dev34 (d0 : Dev nD) : Nat :=
  let c0_i32_611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_610 : BitVec 32 := 1#32
  let v604 : BitVec 32 := Scalar.muli v7 c1_i32_610
  let v605 : BitVec 32 := Scalar.addi c0_i32_611 v604
  v605.toNat
def k0_dev35 (d0 : Dev nD) : Nat :=
  let c0_i32_643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_642 : BitVec 32 := 1#32
  let v639 : BitVec 32 := Scalar.muli v7 c1_i32_642
  let v640 : BitVec 32 := Scalar.addi c0_i32_643 v639
  v640.toNat
def k0_dev36 (d0 : Dev nD) : Nat :=
  let c0_i32_650 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_649 : BitVec 32 := 1#32
  let v641 : BitVec 32 := Scalar.muli v4 c1_i32_649
  let v642 : BitVec 32 := Scalar.addi c0_i32_650 v641
  v642.toNat
def k0_dev37 (d0 : Dev nD) : Nat :=
  let c0_i32_683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_682 : BitVec 32 := 1#32
  let v676 : BitVec 32 := Scalar.muli v4 c1_i32_682
  let v677 : BitVec 32 := Scalar.addi c0_i32_683 v676
  v677.toNat
def k0_dev38 (d0 : Dev nD) : Nat :=
  let c0_i32_690 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_689 : BitVec 32 := 1#32
  let v678 : BitVec 32 := Scalar.muli v7 c1_i32_689
  let v679 : BitVec 32 := Scalar.addi c0_i32_690 v678
  v679.toNat
def k0_dev39 (d0 : Dev nD) : Nat :=
  let c0_i32_723 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_722 : BitVec 32 := 1#32
  let v713 : BitVec 32 := Scalar.muli v7 c1_i32_722
  let v714 : BitVec 32 := Scalar.addi c0_i32_723 v713
  v714.toNat
def k0_dev40 (d0 : Dev nD) : Nat :=
  let c0_i32_730 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_729 : BitVec 32 := 1#32
  let v715 : BitVec 32 := Scalar.muli v4 c1_i32_729
  let v716 : BitVec 32 := Scalar.addi c0_i32_730 v715
  v716.toNat
def k0_dev41 (d0 : Dev nD) : Nat :=
  let c0_i32_762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_761 : BitVec 32 := 1#32
  let v750 : BitVec 32 := Scalar.muli v4 c1_i32_761
  let v751 : BitVec 32 := Scalar.addi c0_i32_762 v750
  v751.toNat
def k0_dev42 (d0 : Dev nD) : Nat :=
  let c0_i32_769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_768 : BitVec 32 := 1#32
  let v752 : BitVec 32 := Scalar.muli v7 c1_i32_768
  let v753 : BitVec 32 := Scalar.addi c0_i32_769 v752
  v753.toNat
def k0_dev43 (d0 : Dev nD) : Nat :=
  let c0_i32_801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_800 : BitVec 32 := 1#32
  let v787 : BitVec 32 := Scalar.muli v7 c1_i32_800
  let v788 : BitVec 32 := Scalar.addi c0_i32_801 v787
  v788.toNat
def k0_dev44 (d0 : Dev nD) : Nat :=
  let c0_i32_808 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_807 : BitVec 32 := 1#32
  let v789 : BitVec 32 := Scalar.muli v4 c1_i32_807
  let v790 : BitVec 32 := Scalar.addi c0_i32_808 v789
  v790.toNat
def k0_dev45 (d0 : Dev nD) : Nat :=
  let c0_i32_841 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_840 : BitVec 32 := 1#32
  let v824 : BitVec 32 := Scalar.muli v4 c1_i32_840
  let v825 : BitVec 32 := Scalar.addi c0_i32_841 v824
  v825.toNat
def k0_dev46 (d0 : Dev nD) : Nat :=
  let c0_i32_848 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_847 : BitVec 32 := 1#32
  let v826 : BitVec 32 := Scalar.muli v7 c1_i32_847
  let v827 : BitVec 32 := Scalar.addi c0_i32_848 v826
  v827.toNat
def k0_dev47 (d0 : Dev nD) : Nat :=
  let c0_i32_881 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_880 : BitVec 32 := 1#32
  let v861 : BitVec 32 := Scalar.muli v7 c1_i32_880
  let v862 : BitVec 32 := Scalar.addi c0_i32_881 v861
  v862.toNat
def k0_dev48 (d0 : Dev nD) : Nat :=
  let c0_i32_888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_887 : BitVec 32 := 1#32
  let v863 : BitVec 32 := Scalar.muli v4 c1_i32_887
  let v864 : BitVec 32 := Scalar.addi c0_i32_888 v863
  v864.toNat
def k0_dev49 (d0 : Dev nD) : Nat :=
  let c0_i32_920 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_919 : BitVec 32 := 1#32
  let v898 : BitVec 32 := Scalar.muli v4 c1_i32_919
  let v899 : BitVec 32 := Scalar.addi c0_i32_920 v898
  v899.toNat
def k0_dev50 (d0 : Dev nD) : Nat :=
  let c0_i32_927 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_926 : BitVec 32 := 1#32
  let v900 : BitVec 32 := Scalar.muli v7 c1_i32_926
  let v901 : BitVec 32 := Scalar.addi c0_i32_927 v900
  v901.toNat
def k0_dev51 (d0 : Dev nD) : Nat :=
  let c0_i32_959 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_958 : BitVec 32 := 1#32
  let v935 : BitVec 32 := Scalar.muli v7 c1_i32_958
  let v936 : BitVec 32 := Scalar.addi c0_i32_959 v935
  v936.toNat
def k0_dev52 (d0 : Dev nD) : Nat :=
  let c0_i32_966 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_965 : BitVec 32 := 1#32
  let v937 : BitVec 32 := Scalar.muli v4 c1_i32_965
  let v938 : BitVec 32 := Scalar.addi c0_i32_966 v937
  v938.toNat
def k0_dev53 (d0 : Dev nD) : Nat :=
  let c0_i32_999 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_998 : BitVec 32 := 1#32
  let v972 : BitVec 32 := Scalar.muli v4 c1_i32_998
  let v973 : BitVec 32 := Scalar.addi c0_i32_999 v972
  v973.toNat
def k0_dev54 (d0 : Dev nD) : Nat :=
  let c0_i32_1006 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1005 : BitVec 32 := 1#32
  let v974 : BitVec 32 := Scalar.muli v7 c1_i32_1005
  let v975 : BitVec 32 := Scalar.addi c0_i32_1006 v974
  v975.toNat
def k0_dev55 (d0 : Dev nD) : Nat :=
  let c0_i32_1039 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1038 : BitVec 32 := 1#32
  let v1009 : BitVec 32 := Scalar.muli v7 c1_i32_1038
  let v1010 : BitVec 32 := Scalar.addi c0_i32_1039 v1009
  v1010.toNat
def k0_dev56 (d0 : Dev nD) : Nat :=
  let c0_i32_1046 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1045 : BitVec 32 := 1#32
  let v1011 : BitVec 32 := Scalar.muli v4 c1_i32_1045
  let v1012 : BitVec 32 := Scalar.addi c0_i32_1046 v1011
  v1012.toNat
def k0_dev57 (d0 : Dev nD) : Nat :=
  let c0_i32_1078 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1077 : BitVec 32 := 1#32
  let v1046 : BitVec 32 := Scalar.muli v4 c1_i32_1077
  let v1047 : BitVec 32 := Scalar.addi c0_i32_1078 v1046
  v1047.toNat
def k0_dev58 (d0 : Dev nD) : Nat :=
  let c0_i32_1085 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1084 : BitVec 32 := 1#32
  let v1048 : BitVec 32 := Scalar.muli v7 c1_i32_1084
  let v1049 : BitVec 32 := Scalar.addi c0_i32_1085 v1048
  v1049.toNat
def k0_dev59 (d0 : Dev nD) : Nat :=
  let c0_i32_1117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1116 : BitVec 32 := 1#32
  let v1083 : BitVec 32 := Scalar.muli v7 c1_i32_1116
  let v1084 : BitVec 32 := Scalar.addi c0_i32_1117 v1083
  v1084.toNat
def k0_dev60 (d0 : Dev nD) : Nat :=
  let c0_i32_1124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1123 : BitVec 32 := 1#32
  let v1085 : BitVec 32 := Scalar.muli v4 c1_i32_1123
  let v1086 : BitVec 32 := Scalar.addi c0_i32_1124 v1085
  v1086.toNat
def k0_dev61 (d0 : Dev nD) : Nat :=
  let c0_i32_1157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1156 : BitVec 32 := 1#32
  let v1120 : BitVec 32 := Scalar.muli v4 c1_i32_1156
  let v1121 : BitVec 32 := Scalar.addi c0_i32_1157 v1120
  v1121.toNat
def k0_dev62 (d0 : Dev nD) : Nat :=
  let c0_i32_1164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1163 : BitVec 32 := 1#32
  let v1122 : BitVec 32 := Scalar.muli v7 c1_i32_1163
  let v1123 : BitVec 32 := Scalar.addi c0_i32_1164 v1122
  v1123.toNat
def k0_dev63 (d0 : Dev nD) : Nat :=
  let c0_i32_1197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1196 : BitVec 32 := 1#32
  let v1157 : BitVec 32 := Scalar.muli v7 c1_i32_1196
  let v1158 : BitVec 32 := Scalar.addi c0_i32_1197 v1157
  v1158.toNat
def k0_dev64 (d0 : Dev nD) : Nat :=
  let c0_i32_1204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1203 : BitVec 32 := 1#32
  let v1159 : BitVec 32 := Scalar.muli v4 c1_i32_1203
  let v1160 : BitVec 32 := Scalar.addi c0_i32_1204 v1159
  v1160.toNat
def k0_dev65 (d0 : Dev nD) : Nat :=
  let c0_i32_1236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1235 : BitVec 32 := 1#32
  let v1194 : BitVec 32 := Scalar.muli v4 c1_i32_1235
  let v1195 : BitVec 32 := Scalar.addi c0_i32_1236 v1194
  v1195.toNat
def k0_dev66 (d0 : Dev nD) : Nat :=
  let c0_i32_1243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1242 : BitVec 32 := 1#32
  let v1196 : BitVec 32 := Scalar.muli v7 c1_i32_1242
  let v1197 : BitVec 32 := Scalar.addi c0_i32_1243 v1196
  v1197.toNat
def k0_dev67 (d0 : Dev nD) : Nat :=
  let c0_i32_1275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1274 : BitVec 32 := 1#32
  let v1231 : BitVec 32 := Scalar.muli v7 c1_i32_1274
  let v1232 : BitVec 32 := Scalar.addi c0_i32_1275 v1231
  v1232.toNat
def k0_dev68 (d0 : Dev nD) : Nat :=
  let c0_i32_1282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1281 : BitVec 32 := 1#32
  let v1233 : BitVec 32 := Scalar.muli v4 c1_i32_1281
  let v1234 : BitVec 32 := Scalar.addi c0_i32_1282 v1233
  v1234.toNat
def k0_dev69 (d0 : Dev nD) : Nat :=
  let c0_i32_1315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1314 : BitVec 32 := 1#32
  let v1268 : BitVec 32 := Scalar.muli v4 c1_i32_1314
  let v1269 : BitVec 32 := Scalar.addi c0_i32_1315 v1268
  v1269.toNat
def k0_dev70 (d0 : Dev nD) : Nat :=
  let c0_i32_1322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1321 : BitVec 32 := 1#32
  let v1270 : BitVec 32 := Scalar.muli v7 c1_i32_1321
  let v1271 : BitVec 32 := Scalar.addi c0_i32_1322 v1270
  v1271.toNat
def k0_dev71 (d0 : Dev nD) : Nat :=
  let c0_i32_1355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1354 : BitVec 32 := 1#32
  let v1305 : BitVec 32 := Scalar.muli v7 c1_i32_1354
  let v1306 : BitVec 32 := Scalar.addi c0_i32_1355 v1305
  v1306.toNat
def k0_dev72 (d0 : Dev nD) : Nat :=
  let c0_i32_1362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1361 : BitVec 32 := 1#32
  let v1307 : BitVec 32 := Scalar.muli v4 c1_i32_1361
  let v1308 : BitVec 32 := Scalar.addi c0_i32_1362 v1307
  v1308.toNat
def k0_dev73 (d0 : Dev nD) : Nat :=
  let c0_i32_1394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1393 : BitVec 32 := 1#32
  let v1342 : BitVec 32 := Scalar.muli v4 c1_i32_1393
  let v1343 : BitVec 32 := Scalar.addi c0_i32_1394 v1342
  v1343.toNat
def k0_dev74 (d0 : Dev nD) : Nat :=
  let c0_i32_1401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1400 : BitVec 32 := 1#32
  let v1344 : BitVec 32 := Scalar.muli v7 c1_i32_1400
  let v1345 : BitVec 32 := Scalar.addi c0_i32_1401 v1344
  v1345.toNat
def k0_dev75 (d0 : Dev nD) : Nat :=
  let c0_i32_1433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1432 : BitVec 32 := 1#32
  let v1379 : BitVec 32 := Scalar.muli v7 c1_i32_1432
  let v1380 : BitVec 32 := Scalar.addi c0_i32_1433 v1379
  v1380.toNat
def k0_dev76 (d0 : Dev nD) : Nat :=
  let c0_i32_1440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1439 : BitVec 32 := 1#32
  let v1381 : BitVec 32 := Scalar.muli v4 c1_i32_1439
  let v1382 : BitVec 32 := Scalar.addi c0_i32_1440 v1381
  v1382.toNat
def k0_dev77 (d0 : Dev nD) : Nat :=
  let c0_i32_1473 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1472 : BitVec 32 := 1#32
  let v1416 : BitVec 32 := Scalar.muli v4 c1_i32_1472
  let v1417 : BitVec 32 := Scalar.addi c0_i32_1473 v1416
  v1417.toNat
def k0_dev78 (d0 : Dev nD) : Nat :=
  let c0_i32_1480 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1479 : BitVec 32 := 1#32
  let v1418 : BitVec 32 := Scalar.muli v7 c1_i32_1479
  let v1419 : BitVec 32 := Scalar.addi c0_i32_1480 v1418
  v1419.toNat
def k0_dev79 (d0 : Dev nD) : Nat :=
  let c0_i32_1513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1512 : BitVec 32 := 1#32
  let v1453 : BitVec 32 := Scalar.muli v7 c1_i32_1512
  let v1454 : BitVec 32 := Scalar.addi c0_i32_1513 v1453
  v1454.toNat
def k0_dev80 (d0 : Dev nD) : Nat :=
  let c0_i32_1520 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1519 : BitVec 32 := 1#32
  let v1455 : BitVec 32 := Scalar.muli v4 c1_i32_1519
  let v1456 : BitVec 32 := Scalar.addi c0_i32_1520 v1455
  v1456.toNat
def k0_dev81 (d0 : Dev nD) : Nat :=
  let c0_i32_1552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1551 : BitVec 32 := 1#32
  let v1490 : BitVec 32 := Scalar.muli v4 c1_i32_1551
  let v1491 : BitVec 32 := Scalar.addi c0_i32_1552 v1490
  v1491.toNat
def k0_dev82 (d0 : Dev nD) : Nat :=
  let c0_i32_1559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1558 : BitVec 32 := 1#32
  let v1492 : BitVec 32 := Scalar.muli v7 c1_i32_1558
  let v1493 : BitVec 32 := Scalar.addi c0_i32_1559 v1492
  v1493.toNat
def k0_dev83 (d0 : Dev nD) : Nat :=
  let c0_i32_1591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1590 : BitVec 32 := 1#32
  let v1527 : BitVec 32 := Scalar.muli v7 c1_i32_1590
  let v1528 : BitVec 32 := Scalar.addi c0_i32_1591 v1527
  v1528.toNat
def k0_dev84 (d0 : Dev nD) : Nat :=
  let c0_i32_1598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1597 : BitVec 32 := 1#32
  let v1529 : BitVec 32 := Scalar.muli v4 c1_i32_1597
  let v1530 : BitVec 32 := Scalar.addi c0_i32_1598 v1529
  v1530.toNat
def k0_dev85 (d0 : Dev nD) : Nat :=
  let c0_i32_1631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1630 : BitVec 32 := 1#32
  let v1564 : BitVec 32 := Scalar.muli v4 c1_i32_1630
  let v1565 : BitVec 32 := Scalar.addi c0_i32_1631 v1564
  v1565.toNat
def k0_dev86 (d0 : Dev nD) : Nat :=
  let c0_i32_1638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1637 : BitVec 32 := 1#32
  let v1566 : BitVec 32 := Scalar.muli v7 c1_i32_1637
  let v1567 : BitVec 32 := Scalar.addi c0_i32_1638 v1566
  v1567.toNat
def k0_dev87 (d0 : Dev nD) : Nat :=
  let c0_i32_1671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1670 : BitVec 32 := 1#32
  let v1601 : BitVec 32 := Scalar.muli v7 c1_i32_1670
  let v1602 : BitVec 32 := Scalar.addi c0_i32_1671 v1601
  v1602.toNat
def k0_dev88 (d0 : Dev nD) : Nat :=
  let c0_i32_1678 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1677 : BitVec 32 := 1#32
  let v1603 : BitVec 32 := Scalar.muli v4 c1_i32_1677
  let v1604 : BitVec 32 := Scalar.addi c0_i32_1678 v1603
  v1604.toNat
def k0_dev89 (d0 : Dev nD) : Nat :=
  let c0_i32_1710 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1709 : BitVec 32 := 1#32
  let v1638 : BitVec 32 := Scalar.muli v4 c1_i32_1709
  let v1639 : BitVec 32 := Scalar.addi c0_i32_1710 v1638
  v1639.toNat
def k0_dev90 (d0 : Dev nD) : Nat :=
  let c0_i32_1717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1716 : BitVec 32 := 1#32
  let v1640 : BitVec 32 := Scalar.muli v7 c1_i32_1716
  let v1641 : BitVec 32 := Scalar.addi c0_i32_1717 v1640
  v1641.toNat
def k0_dev91 (d0 : Dev nD) : Nat :=
  let c0_i32_1749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1748 : BitVec 32 := 1#32
  let v1675 : BitVec 32 := Scalar.muli v7 c1_i32_1748
  let v1676 : BitVec 32 := Scalar.addi c0_i32_1749 v1675
  v1676.toNat
def k0_dev92 (d0 : Dev nD) : Nat :=
  let c0_i32_1756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1755 : BitVec 32 := 1#32
  let v1677 : BitVec 32 := Scalar.muli v4 c1_i32_1755
  let v1678 : BitVec 32 := Scalar.addi c0_i32_1756 v1677
  v1678.toNat
def k0_dev93 (d0 : Dev nD) : Nat :=
  let c0_i32_1789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1788 : BitVec 32 := 1#32
  let v1712 : BitVec 32 := Scalar.muli v4 c1_i32_1788
  let v1713 : BitVec 32 := Scalar.addi c0_i32_1789 v1712
  v1713.toNat
def k0_dev94 (d0 : Dev nD) : Nat :=
  let c0_i32_1796 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1795 : BitVec 32 := 1#32
  let v1714 : BitVec 32 := Scalar.muli v7 c1_i32_1795
  let v1715 : BitVec 32 := Scalar.addi c0_i32_1796 v1714
  v1715.toNat
def k0_dev95 (d0 : Dev nD) : Nat :=
  let c0_i32_1829 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1828 : BitVec 32 := 1#32
  let v1749 : BitVec 32 := Scalar.muli v7 c1_i32_1828
  let v1750 : BitVec 32 := Scalar.addi c0_i32_1829 v1749
  v1750.toNat
def k0_dev96 (d0 : Dev nD) : Nat :=
  let c0_i32_1836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1835 : BitVec 32 := 1#32
  let v1751 : BitVec 32 := Scalar.muli v4 c1_i32_1835
  let v1752 : BitVec 32 := Scalar.addi c0_i32_1836 v1751
  v1752.toNat
def k0_dev97 (d0 : Dev nD) : Nat :=
  let c0_i32_1868 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1867 : BitVec 32 := 1#32
  let v1786 : BitVec 32 := Scalar.muli v4 c1_i32_1867
  let v1787 : BitVec 32 := Scalar.addi c0_i32_1868 v1786
  v1787.toNat
def k0_dev98 (d0 : Dev nD) : Nat :=
  let c0_i32_1875 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1874 : BitVec 32 := 1#32
  let v1788 : BitVec 32 := Scalar.muli v7 c1_i32_1874
  let v1789 : BitVec 32 := Scalar.addi c0_i32_1875 v1788
  v1789.toNat
def k0_dev99 (d0 : Dev nD) : Nat :=
  let c0_i32_1907 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1906 : BitVec 32 := 1#32
  let v1823 : BitVec 32 := Scalar.muli v7 c1_i32_1906
  let v1824 : BitVec 32 := Scalar.addi c0_i32_1907 v1823
  v1824.toNat
def k0_dev100 (d0 : Dev nD) : Nat :=
  let c0_i32_1914 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1913 : BitVec 32 := 1#32
  let v1825 : BitVec 32 := Scalar.muli v4 c1_i32_1913
  let v1826 : BitVec 32 := Scalar.addi c0_i32_1914 v1825
  v1826.toNat
def k0_dev101 (d0 : Dev nD) : Nat :=
  let c0_i32_1947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1946 : BitVec 32 := 1#32
  let v1860 : BitVec 32 := Scalar.muli v4 c1_i32_1946
  let v1861 : BitVec 32 := Scalar.addi c0_i32_1947 v1860
  v1861.toNat
def k0_dev102 (d0 : Dev nD) : Nat :=
  let c0_i32_1954 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1953 : BitVec 32 := 1#32
  let v1862 : BitVec 32 := Scalar.muli v7 c1_i32_1953
  let v1863 : BitVec 32 := Scalar.addi c0_i32_1954 v1862
  v1863.toNat
def k0_dev103 (d0 : Dev nD) : Nat :=
  let c0_i32_1987 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1986 : BitVec 32 := 1#32
  let v1897 : BitVec 32 := Scalar.muli v7 c1_i32_1986
  let v1898 : BitVec 32 := Scalar.addi c0_i32_1987 v1897
  v1898.toNat
def k0_dev104 (d0 : Dev nD) : Nat :=
  let c0_i32_1994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1993 : BitVec 32 := 1#32
  let v1899 : BitVec 32 := Scalar.muli v4 c1_i32_1993
  let v1900 : BitVec 32 := Scalar.addi c0_i32_1994 v1899
  v1900.toNat
def k0_dev105 (d0 : Dev nD) : Nat :=
  let c0_i32_2026 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2025 : BitVec 32 := 1#32
  let v1934 : BitVec 32 := Scalar.muli v4 c1_i32_2025
  let v1935 : BitVec 32 := Scalar.addi c0_i32_2026 v1934
  v1935.toNat
def k0_dev106 (d0 : Dev nD) : Nat :=
  let c0_i32_2033 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2032 : BitVec 32 := 1#32
  let v1936 : BitVec 32 := Scalar.muli v7 c1_i32_2032
  let v1937 : BitVec 32 := Scalar.addi c0_i32_2033 v1936
  v1937.toNat
def k0_dev107 (d0 : Dev nD) : Nat :=
  let c0_i32_2065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2064 : BitVec 32 := 1#32
  let v1971 : BitVec 32 := Scalar.muli v7 c1_i32_2064
  let v1972 : BitVec 32 := Scalar.addi c0_i32_2065 v1971
  v1972.toNat
def k0_dev108 (d0 : Dev nD) : Nat :=
  let c0_i32_2072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2071 : BitVec 32 := 1#32
  let v1973 : BitVec 32 := Scalar.muli v4 c1_i32_2071
  let v1974 : BitVec 32 := Scalar.addi c0_i32_2072 v1973
  v1974.toNat
def k0_dev109 (d0 : Dev nD) : Nat :=
  let c0_i32_2105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2104 : BitVec 32 := 1#32
  let v2008 : BitVec 32 := Scalar.muli v4 c1_i32_2104
  let v2009 : BitVec 32 := Scalar.addi c0_i32_2105 v2008
  v2009.toNat
def k0_dev110 (d0 : Dev nD) : Nat :=
  let c0_i32_2112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2111 : BitVec 32 := 1#32
  let v2010 : BitVec 32 := Scalar.muli v7 c1_i32_2111
  let v2011 : BitVec 32 := Scalar.addi c0_i32_2112 v2010
  v2011.toNat
def k0_dev111 (d0 : Dev nD) : Nat :=
  let c0_i32_2145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2144 : BitVec 32 := 1#32
  let v2045 : BitVec 32 := Scalar.muli v7 c1_i32_2144
  let v2046 : BitVec 32 := Scalar.addi c0_i32_2145 v2045
  v2046.toNat
def k0_dev112 (d0 : Dev nD) : Nat :=
  let c0_i32_2152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2151 : BitVec 32 := 1#32
  let v2047 : BitVec 32 := Scalar.muli v4 c1_i32_2151
  let v2048 : BitVec 32 := Scalar.addi c0_i32_2152 v2047
  v2048.toNat
def k0_dev113 (d0 : Dev nD) : Nat :=
  let c0_i32_2184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2183 : BitVec 32 := 1#32
  let v2082 : BitVec 32 := Scalar.muli v4 c1_i32_2183
  let v2083 : BitVec 32 := Scalar.addi c0_i32_2184 v2082
  v2083.toNat
def k0_dev114 (d0 : Dev nD) : Nat :=
  let c0_i32_2191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2190 : BitVec 32 := 1#32
  let v2084 : BitVec 32 := Scalar.muli v7 c1_i32_2190
  let v2085 : BitVec 32 := Scalar.addi c0_i32_2191 v2084
  v2085.toNat
def k0_dev115 (d0 : Dev nD) : Nat :=
  let c0_i32_2223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2222 : BitVec 32 := 1#32
  let v2119 : BitVec 32 := Scalar.muli v7 c1_i32_2222
  let v2120 : BitVec 32 := Scalar.addi c0_i32_2223 v2119
  v2120.toNat
def k0_dev116 (d0 : Dev nD) : Nat :=
  let c0_i32_2230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2229 : BitVec 32 := 1#32
  let v2121 : BitVec 32 := Scalar.muli v4 c1_i32_2229
  let v2122 : BitVec 32 := Scalar.addi c0_i32_2230 v2121
  v2122.toNat
def k0_dev117 (d0 : Dev nD) : Nat :=
  let c0_i32_2263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2262 : BitVec 32 := 1#32
  let v2156 : BitVec 32 := Scalar.muli v4 c1_i32_2262
  let v2157 : BitVec 32 := Scalar.addi c0_i32_2263 v2156
  v2157.toNat
def k0_dev118 (d0 : Dev nD) : Nat :=
  let c0_i32_2270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2269 : BitVec 32 := 1#32
  let v2158 : BitVec 32 := Scalar.muli v7 c1_i32_2269
  let v2159 : BitVec 32 := Scalar.addi c0_i32_2270 v2158
  v2159.toNat
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2301 : BitVec 32 := 1#32
  let v2193 : BitVec 32 := Scalar.addi v2 c1_i32_2301
  let c64_i32_2302 : BitVec 32 := 64#32
  let v2194 : BitVec 32 := Scalar.addi v2193 c64_i32_2302
  let c16_i32_2303 : BitVec 32 := 16#32
  let v2195 : BitVec 32 := Scalar.remsi v2194 c16_i32_2303
  let c256_i32_2313 : BitVec 32 := 256#32
  let v2213 : BitVec 32 := Scalar.muli v2195 c256_i32_2313
  let c0_i32_2315 : BitVec 32 := 0#32
  ![v2213.toNat, 0]
def k0_dev119 (d0 : Dev nD) : Nat :=
  let c0_i32_2322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2321 : BitVec 32 := 1#32
  let v2217 : BitVec 32 := Scalar.muli v4 c1_i32_2321
  let v2218 : BitVec 32 := Scalar.addi c0_i32_2322 v2217
  v2218.toNat
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_2347 : BitVec 32 := 4294967295#32
  let v2245 : BitVec 32 := Scalar.addi v2 c_m1_i32_2347
  let c64_i32_2348 : BitVec 32 := 64#32
  let v2246 : BitVec 32 := Scalar.addi v2245 c64_i32_2348
  let c16_i32_2349 : BitVec 32 := 16#32
  let v2247 : BitVec 32 := Scalar.remsi v2246 c16_i32_2349
  let c256_i32_2360 : BitVec 32 := 256#32
  let v2265 : BitVec 32 := Scalar.muli v2247 c256_i32_2360
  let c4096_i32_2362 : BitVec 32 := 4096#32
  ![v2265.toNat, 4096]
def k0_dev120 (d0 : Dev nD) : Nat :=
  let c0_i32_2369 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2368 : BitVec 32 := 1#32
  let v2269 : BitVec 32 := Scalar.muli v7 c1_i32_2368
  let v2270 : BitVec 32 := Scalar.addi c0_i32_2369 v2269
  v2270.toNat
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2394 : BitVec 32 := 1#32
  let v2297 : BitVec 32 := Scalar.addi v2 c1_i32_2394
  let c64_i32_2395 : BitVec 32 := 64#32
  let v2298 : BitVec 32 := Scalar.addi v2297 c64_i32_2395
  let c16_i32_2396 : BitVec 32 := 16#32
  let v2299 : BitVec 32 := Scalar.remsi v2298 c16_i32_2396
  let c256_i32_2407 : BitVec 32 := 256#32
  let v2317 : BitVec 32 := Scalar.muli v2299 c256_i32_2407
  let c2048_i32_2409 : BitVec 32 := 2048#32
  ![v2317.toNat, 2048]
def k0_dev121 (d0 : Dev nD) : Nat :=
  let c0_i32_2416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2415 : BitVec 32 := 1#32
  let v2321 : BitVec 32 := Scalar.muli v4 c1_i32_2415
  let v2322 : BitVec 32 := Scalar.addi c0_i32_2416 v2321
  v2322.toNat
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_2441 : BitVec 32 := 4294967295#32
  let v2349 : BitVec 32 := Scalar.addi v2 c_m1_i32_2441
  let c64_i32_2442 : BitVec 32 := 64#32
  let v2350 : BitVec 32 := Scalar.addi v2349 c64_i32_2442
  let c16_i32_2443 : BitVec 32 := 16#32
  let v2351 : BitVec 32 := Scalar.remsi v2350 c16_i32_2443
  let c256_i32_2454 : BitVec 32 := 256#32
  let v2369 : BitVec 32 := Scalar.muli v2351 c256_i32_2454
  let c6144_i32_2456 : BitVec 32 := 6144#32
  ![v2369.toNat, 6144]
def k0_dev122 (d0 : Dev nD) : Nat :=
  let c0_i32_2463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2462 : BitVec 32 := 1#32
  let v2373 : BitVec 32 := Scalar.muli v7 c1_i32_2462
  let v2374 : BitVec 32 := Scalar.addi c0_i32_2463 v2373
  v2374.toNat
def k0_dev123 (d0 : Dev nD) : Nat :=
  let c0_i32_2483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2482 : BitVec 32 := 1#32
  let v2394 : BitVec 32 := Scalar.muli v7 c1_i32_2482
  let v2395 : BitVec 32 := Scalar.addi c0_i32_2483 v2394
  v2395.toNat
def k0_dev124 (d0 : Dev nD) : Nat :=
  let c0_i32_2491 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2490 : BitVec 32 := 1#32
  let v2396 : BitVec 32 := Scalar.muli v4 c1_i32_2490
  let v2397 : BitVec 32 := Scalar.addi c0_i32_2491 v2396
  v2397.toNat
def k0_dev125 (d0 : Dev nD) : Nat :=
  let c0_i32_2522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2521 : BitVec 32 := 1#32
  let v2428 : BitVec 32 := Scalar.muli v4 c1_i32_2521
  let v2429 : BitVec 32 := Scalar.addi c0_i32_2522 v2428
  v2429.toNat
def k0_dev126 (d0 : Dev nD) : Nat :=
  let c0_i32_2530 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2529 : BitVec 32 := 1#32
  let v2430 : BitVec 32 := Scalar.muli v7 c1_i32_2529
  let v2431 : BitVec 32 := Scalar.addi c0_i32_2530 v2430
  v2431.toNat
def k0_dev127 (d0 : Dev nD) : Nat :=
  let c0_i32_2561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2560 : BitVec 32 := 1#32
  let v2462 : BitVec 32 := Scalar.muli v7 c1_i32_2560
  let v2463 : BitVec 32 := Scalar.addi c0_i32_2561 v2462
  v2463.toNat
def k0_dev128 (d0 : Dev nD) : Nat :=
  let c0_i32_2569 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2568 : BitVec 32 := 1#32
  let v2464 : BitVec 32 := Scalar.muli v4 c1_i32_2568
  let v2465 : BitVec 32 := Scalar.addi c0_i32_2569 v2464
  v2465.toNat
def k0_dev129 (d0 : Dev nD) : Nat :=
  let c0_i32_2600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2599 : BitVec 32 := 1#32
  let v2496 : BitVec 32 := Scalar.muli v4 c1_i32_2599
  let v2497 : BitVec 32 := Scalar.addi c0_i32_2600 v2496
  v2497.toNat
def k0_dev130 (d0 : Dev nD) : Nat :=
  let c0_i32_2608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2607 : BitVec 32 := 1#32
  let v2498 : BitVec 32 := Scalar.muli v7 c1_i32_2607
  let v2499 : BitVec 32 := Scalar.addi c0_i32_2608 v2498
  v2499.toNat
def k0_dev131 (d0 : Dev nD) : Nat :=
  let c0_i32_2648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2647 : BitVec 32 := 1#32
  let v2536 : BitVec 32 := Scalar.muli v7 c1_i32_2647
  let v2537 : BitVec 32 := Scalar.addi c0_i32_2648 v2536
  v2537.toNat
def k0_dev132 (d0 : Dev nD) : Nat :=
  let c0_i32_2656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2655 : BitVec 32 := 1#32
  let v2538 : BitVec 32 := Scalar.muli v4 c1_i32_2655
  let v2539 : BitVec 32 := Scalar.addi c0_i32_2656 v2538
  v2539.toNat
def k0_dev133 (d0 : Dev nD) : Nat :=
  let c0_i32_2696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2695 : BitVec 32 := 1#32
  let v2576 : BitVec 32 := Scalar.muli v4 c1_i32_2695
  let v2577 : BitVec 32 := Scalar.addi c0_i32_2696 v2576
  v2577.toNat
def k0_dev134 (d0 : Dev nD) : Nat :=
  let c0_i32_2704 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2703 : BitVec 32 := 1#32
  let v2578 : BitVec 32 := Scalar.muli v7 c1_i32_2703
  let v2579 : BitVec 32 := Scalar.addi c0_i32_2704 v2578
  v2579.toNat
def k0_dev135 (d0 : Dev nD) : Nat :=
  let c0_i32_2744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2743 : BitVec 32 := 1#32
  let v2616 : BitVec 32 := Scalar.muli v7 c1_i32_2743
  let v2617 : BitVec 32 := Scalar.addi c0_i32_2744 v2616
  v2617.toNat
def k0_dev136 (d0 : Dev nD) : Nat :=
  let c0_i32_2752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2751 : BitVec 32 := 1#32
  let v2618 : BitVec 32 := Scalar.muli v4 c1_i32_2751
  let v2619 : BitVec 32 := Scalar.addi c0_i32_2752 v2618
  v2619.toNat
def k0_dev137 (d0 : Dev nD) : Nat :=
  let c0_i32_2792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2791 : BitVec 32 := 1#32
  let v2656 : BitVec 32 := Scalar.muli v4 c1_i32_2791
  let v2657 : BitVec 32 := Scalar.addi c0_i32_2792 v2656
  v2657.toNat
def k0_dev138 (d0 : Dev nD) : Nat :=
  let c0_i32_2800 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2799 : BitVec 32 := 1#32
  let v2658 : BitVec 32 := Scalar.muli v7 c1_i32_2799
  let v2659 : BitVec 32 := Scalar.addi c0_i32_2800 v2658
  v2659.toNat
def k0_dev139 (d0 : Dev nD) : Nat :=
  let c0_i32_2840 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2839 : BitVec 32 := 1#32
  let v2696 : BitVec 32 := Scalar.muli v7 c1_i32_2839
  let v2697 : BitVec 32 := Scalar.addi c0_i32_2840 v2696
  v2697.toNat
def k0_dev140 (d0 : Dev nD) : Nat :=
  let c0_i32_2848 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2847 : BitVec 32 := 1#32
  let v2698 : BitVec 32 := Scalar.muli v4 c1_i32_2847
  let v2699 : BitVec 32 := Scalar.addi c0_i32_2848 v2698
  v2699.toNat
def k0_dev141 (d0 : Dev nD) : Nat :=
  let c0_i32_2888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2887 : BitVec 32 := 1#32
  let v2736 : BitVec 32 := Scalar.muli v4 c1_i32_2887
  let v2737 : BitVec 32 := Scalar.addi c0_i32_2888 v2736
  v2737.toNat
def k0_dev142 (d0 : Dev nD) : Nat :=
  let c0_i32_2896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2895 : BitVec 32 := 1#32
  let v2738 : BitVec 32 := Scalar.muli v7 c1_i32_2895
  let v2739 : BitVec 32 := Scalar.addi c0_i32_2896 v2738
  v2739.toNat
def k0_dev143 (d0 : Dev nD) : Nat :=
  let c0_i32_2936 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2935 : BitVec 32 := 1#32
  let v2776 : BitVec 32 := Scalar.muli v7 c1_i32_2935
  let v2777 : BitVec 32 := Scalar.addi c0_i32_2936 v2776
  v2777.toNat
def k0_dev144 (d0 : Dev nD) : Nat :=
  let c0_i32_2944 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2943 : BitVec 32 := 1#32
  let v2778 : BitVec 32 := Scalar.muli v4 c1_i32_2943
  let v2779 : BitVec 32 := Scalar.addi c0_i32_2944 v2778
  v2779.toNat
def k0_dev145 (d0 : Dev nD) : Nat :=
  let c0_i32_2984 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2983 : BitVec 32 := 1#32
  let v2816 : BitVec 32 := Scalar.muli v4 c1_i32_2983
  let v2817 : BitVec 32 := Scalar.addi c0_i32_2984 v2816
  v2817.toNat
def k0_dev146 (d0 : Dev nD) : Nat :=
  let c0_i32_2992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2991 : BitVec 32 := 1#32
  let v2818 : BitVec 32 := Scalar.muli v7 c1_i32_2991
  let v2819 : BitVec 32 := Scalar.addi c0_i32_2992 v2818
  v2819.toNat
def k0_dev147 (d0 : Dev nD) : Nat :=
  let c0_i32_3032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3031 : BitVec 32 := 1#32
  let v2856 : BitVec 32 := Scalar.muli v7 c1_i32_3031
  let v2857 : BitVec 32 := Scalar.addi c0_i32_3032 v2856
  v2857.toNat
def k0_dev148 (d0 : Dev nD) : Nat :=
  let c0_i32_3040 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3039 : BitVec 32 := 1#32
  let v2858 : BitVec 32 := Scalar.muli v4 c1_i32_3039
  let v2859 : BitVec 32 := Scalar.addi c0_i32_3040 v2858
  v2859.toNat
def k0_dev149 (d0 : Dev nD) : Nat :=
  let c0_i32_3080 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3079 : BitVec 32 := 1#32
  let v2896 : BitVec 32 := Scalar.muli v4 c1_i32_3079
  let v2897 : BitVec 32 := Scalar.addi c0_i32_3080 v2896
  v2897.toNat
def k0_dev150 (d0 : Dev nD) : Nat :=
  let c0_i32_3088 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3087 : BitVec 32 := 1#32
  let v2898 : BitVec 32 := Scalar.muli v7 c1_i32_3087
  let v2899 : BitVec 32 := Scalar.addi c0_i32_3088 v2898
  v2899.toNat
def k0_dev151 (d0 : Dev nD) : Nat :=
  let c0_i32_3128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3127 : BitVec 32 := 1#32
  let v2936 : BitVec 32 := Scalar.muli v7 c1_i32_3127
  let v2937 : BitVec 32 := Scalar.addi c0_i32_3128 v2936
  v2937.toNat
def k0_dev152 (d0 : Dev nD) : Nat :=
  let c0_i32_3136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3135 : BitVec 32 := 1#32
  let v2938 : BitVec 32 := Scalar.muli v4 c1_i32_3135
  let v2939 : BitVec 32 := Scalar.addi c0_i32_3136 v2938
  v2939.toNat
def k0_dev153 (d0 : Dev nD) : Nat :=
  let c0_i32_3176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3175 : BitVec 32 := 1#32
  let v2976 : BitVec 32 := Scalar.muli v4 c1_i32_3175
  let v2977 : BitVec 32 := Scalar.addi c0_i32_3176 v2976
  v2977.toNat
def k0_dev154 (d0 : Dev nD) : Nat :=
  let c0_i32_3184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3183 : BitVec 32 := 1#32
  let v2978 : BitVec 32 := Scalar.muli v7 c1_i32_3183
  let v2979 : BitVec 32 := Scalar.addi c0_i32_3184 v2978
  v2979.toNat
def k0_dev155 (d0 : Dev nD) : Nat :=
  let c0_i32_3224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3223 : BitVec 32 := 1#32
  let v3016 : BitVec 32 := Scalar.muli v7 c1_i32_3223
  let v3017 : BitVec 32 := Scalar.addi c0_i32_3224 v3016
  v3017.toNat
def k0_dev156 (d0 : Dev nD) : Nat :=
  let c0_i32_3232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3231 : BitVec 32 := 1#32
  let v3018 : BitVec 32 := Scalar.muli v4 c1_i32_3231
  let v3019 : BitVec 32 := Scalar.addi c0_i32_3232 v3018
  v3019.toNat
def k0_dev157 (d0 : Dev nD) : Nat :=
  let c0_i32_3272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3271 : BitVec 32 := 1#32
  let v3056 : BitVec 32 := Scalar.muli v4 c1_i32_3271
  let v3057 : BitVec 32 := Scalar.addi c0_i32_3272 v3056
  v3057.toNat
def k0_dev158 (d0 : Dev nD) : Nat :=
  let c0_i32_3280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3279 : BitVec 32 := 1#32
  let v3058 : BitVec 32 := Scalar.muli v7 c1_i32_3279
  let v3059 : BitVec 32 := Scalar.addi c0_i32_3280 v3058
  v3059.toNat
def k0_dev159 (d0 : Dev nD) : Nat :=
  let c0_i32_3320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3319 : BitVec 32 := 1#32
  let v3096 : BitVec 32 := Scalar.muli v7 c1_i32_3319
  let v3097 : BitVec 32 := Scalar.addi c0_i32_3320 v3096
  v3097.toNat
def k0_dev160 (d0 : Dev nD) : Nat :=
  let c0_i32_3328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3327 : BitVec 32 := 1#32
  let v3098 : BitVec 32 := Scalar.muli v4 c1_i32_3327
  let v3099 : BitVec 32 := Scalar.addi c0_i32_3328 v3098
  v3099.toNat
def k0_dev161 (d0 : Dev nD) : Nat :=
  let c0_i32_3368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3367 : BitVec 32 := 1#32
  let v3136 : BitVec 32 := Scalar.muli v4 c1_i32_3367
  let v3137 : BitVec 32 := Scalar.addi c0_i32_3368 v3136
  v3137.toNat
def k0_dev162 (d0 : Dev nD) : Nat :=
  let c0_i32_3376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3375 : BitVec 32 := 1#32
  let v3138 : BitVec 32 := Scalar.muli v7 c1_i32_3375
  let v3139 : BitVec 32 := Scalar.addi c0_i32_3376 v3138
  v3139.toNat
def k0_dev163 (d0 : Dev nD) : Nat :=
  let c0_i32_3416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3415 : BitVec 32 := 1#32
  let v3176 : BitVec 32 := Scalar.muli v7 c1_i32_3415
  let v3177 : BitVec 32 := Scalar.addi c0_i32_3416 v3176
  v3177.toNat
def k0_dev164 (d0 : Dev nD) : Nat :=
  let c0_i32_3424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3423 : BitVec 32 := 1#32
  let v3178 : BitVec 32 := Scalar.muli v4 c1_i32_3423
  let v3179 : BitVec 32 := Scalar.addi c0_i32_3424 v3178
  v3179.toNat
def k0_dev165 (d0 : Dev nD) : Nat :=
  let c0_i32_3464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3463 : BitVec 32 := 1#32
  let v3216 : BitVec 32 := Scalar.muli v4 c1_i32_3463
  let v3217 : BitVec 32 := Scalar.addi c0_i32_3464 v3216
  v3217.toNat
def k0_dev166 (d0 : Dev nD) : Nat :=
  let c0_i32_3472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3471 : BitVec 32 := 1#32
  let v3218 : BitVec 32 := Scalar.muli v7 c1_i32_3471
  let v3219 : BitVec 32 := Scalar.addi c0_i32_3472 v3218
  v3219.toNat
def k0_dev167 (d0 : Dev nD) : Nat :=
  let c0_i32_3512 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3511 : BitVec 32 := 1#32
  let v3256 : BitVec 32 := Scalar.muli v7 c1_i32_3511
  let v3257 : BitVec 32 := Scalar.addi c0_i32_3512 v3256
  v3257.toNat
def k0_dev168 (d0 : Dev nD) : Nat :=
  let c0_i32_3520 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3519 : BitVec 32 := 1#32
  let v3258 : BitVec 32 := Scalar.muli v4 c1_i32_3519
  let v3259 : BitVec 32 := Scalar.addi c0_i32_3520 v3258
  v3259.toNat
def k0_dev169 (d0 : Dev nD) : Nat :=
  let c0_i32_3560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3559 : BitVec 32 := 1#32
  let v3296 : BitVec 32 := Scalar.muli v4 c1_i32_3559
  let v3297 : BitVec 32 := Scalar.addi c0_i32_3560 v3296
  v3297.toNat
def k0_dev170 (d0 : Dev nD) : Nat :=
  let c0_i32_3568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3567 : BitVec 32 := 1#32
  let v3298 : BitVec 32 := Scalar.muli v7 c1_i32_3567
  let v3299 : BitVec 32 := Scalar.addi c0_i32_3568 v3298
  v3299.toNat
def k0_dev171 (d0 : Dev nD) : Nat :=
  let c0_i32_3608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3607 : BitVec 32 := 1#32
  let v3336 : BitVec 32 := Scalar.muli v7 c1_i32_3607
  let v3337 : BitVec 32 := Scalar.addi c0_i32_3608 v3336
  v3337.toNat
def k0_dev172 (d0 : Dev nD) : Nat :=
  let c0_i32_3616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3615 : BitVec 32 := 1#32
  let v3338 : BitVec 32 := Scalar.muli v4 c1_i32_3615
  let v3339 : BitVec 32 := Scalar.addi c0_i32_3616 v3338
  v3339.toNat
def k0_dev173 (d0 : Dev nD) : Nat :=
  let c0_i32_3656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3655 : BitVec 32 := 1#32
  let v3376 : BitVec 32 := Scalar.muli v4 c1_i32_3655
  let v3377 : BitVec 32 := Scalar.addi c0_i32_3656 v3376
  v3377.toNat
def k0_dev174 (d0 : Dev nD) : Nat :=
  let c0_i32_3664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3663 : BitVec 32 := 1#32
  let v3378 : BitVec 32 := Scalar.muli v7 c1_i32_3663
  let v3379 : BitVec 32 := Scalar.addi c0_i32_3664 v3378
  v3379.toNat
def k0_dev175 (d0 : Dev nD) : Nat :=
  let c0_i32_3704 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3703 : BitVec 32 := 1#32
  let v3416 : BitVec 32 := Scalar.muli v7 c1_i32_3703
  let v3417 : BitVec 32 := Scalar.addi c0_i32_3704 v3416
  v3417.toNat
def k0_dev176 (d0 : Dev nD) : Nat :=
  let c0_i32_3712 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3711 : BitVec 32 := 1#32
  let v3418 : BitVec 32 := Scalar.muli v4 c1_i32_3711
  let v3419 : BitVec 32 := Scalar.addi c0_i32_3712 v3418
  v3419.toNat
def k0_dev177 (d0 : Dev nD) : Nat :=
  let c0_i32_3752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3751 : BitVec 32 := 1#32
  let v3456 : BitVec 32 := Scalar.muli v4 c1_i32_3751
  let v3457 : BitVec 32 := Scalar.addi c0_i32_3752 v3456
  v3457.toNat
def k0_dev178 (d0 : Dev nD) : Nat :=
  let c0_i32_3760 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3759 : BitVec 32 := 1#32
  let v3458 : BitVec 32 := Scalar.muli v7 c1_i32_3759
  let v3459 : BitVec 32 := Scalar.addi c0_i32_3760 v3458
  v3459.toNat
def k0_dev179 (d0 : Dev nD) : Nat :=
  let c0_i32_3800 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3799 : BitVec 32 := 1#32
  let v3496 : BitVec 32 := Scalar.muli v7 c1_i32_3799
  let v3497 : BitVec 32 := Scalar.addi c0_i32_3800 v3496
  v3497.toNat
def k0_dev180 (d0 : Dev nD) : Nat :=
  let c0_i32_3808 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3807 : BitVec 32 := 1#32
  let v3498 : BitVec 32 := Scalar.muli v4 c1_i32_3807
  let v3499 : BitVec 32 := Scalar.addi c0_i32_3808 v3498
  v3499.toNat
def k0_dev181 (d0 : Dev nD) : Nat :=
  let c0_i32_3848 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3847 : BitVec 32 := 1#32
  let v3536 : BitVec 32 := Scalar.muli v4 c1_i32_3847
  let v3537 : BitVec 32 := Scalar.addi c0_i32_3848 v3536
  v3537.toNat
def k0_dev182 (d0 : Dev nD) : Nat :=
  let c0_i32_3856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3855 : BitVec 32 := 1#32
  let v3538 : BitVec 32 := Scalar.muli v7 c1_i32_3855
  let v3539 : BitVec 32 := Scalar.addi c0_i32_3856 v3538
  v3539.toNat
def k0_dev183 (d0 : Dev nD) : Nat :=
  let c0_i32_3896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3895 : BitVec 32 := 1#32
  let v3576 : BitVec 32 := Scalar.muli v7 c1_i32_3895
  let v3577 : BitVec 32 := Scalar.addi c0_i32_3896 v3576
  v3577.toNat
def k0_dev184 (d0 : Dev nD) : Nat :=
  let c0_i32_3904 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3903 : BitVec 32 := 1#32
  let v3578 : BitVec 32 := Scalar.muli v4 c1_i32_3903
  let v3579 : BitVec 32 := Scalar.addi c0_i32_3904 v3578
  v3579.toNat
def k0_dev185 (d0 : Dev nD) : Nat :=
  let c0_i32_3944 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3943 : BitVec 32 := 1#32
  let v3616 : BitVec 32 := Scalar.muli v4 c1_i32_3943
  let v3617 : BitVec 32 := Scalar.addi c0_i32_3944 v3616
  v3617.toNat
def k0_dev186 (d0 : Dev nD) : Nat :=
  let c0_i32_3952 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3951 : BitVec 32 := 1#32
  let v3618 : BitVec 32 := Scalar.muli v7 c1_i32_3951
  let v3619 : BitVec 32 := Scalar.addi c0_i32_3952 v3618
  v3619.toNat
def k0_dev187 (d0 : Dev nD) : Nat :=
  let c0_i32_3992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3991 : BitVec 32 := 1#32
  let v3656 : BitVec 32 := Scalar.muli v7 c1_i32_3991
  let v3657 : BitVec 32 := Scalar.addi c0_i32_3992 v3656
  v3657.toNat
def k0_dev188 (d0 : Dev nD) : Nat :=
  let c0_i32_4000 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3999 : BitVec 32 := 1#32
  let v3658 : BitVec 32 := Scalar.muli v4 c1_i32_3999
  let v3659 : BitVec 32 := Scalar.addi c0_i32_4000 v3658
  v3659.toNat
def k0_dev189 (d0 : Dev nD) : Nat :=
  let c0_i32_4040 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4039 : BitVec 32 := 1#32
  let v3696 : BitVec 32 := Scalar.muli v4 c1_i32_4039
  let v3697 : BitVec 32 := Scalar.addi c0_i32_4040 v3696
  v3697.toNat
def k0_dev190 (d0 : Dev nD) : Nat :=
  let c0_i32_4048 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4047 : BitVec 32 := 1#32
  let v3698 : BitVec 32 := Scalar.muli v7 c1_i32_4047
  let v3699 : BitVec 32 := Scalar.addi c0_i32_4048 v3698
  v3699.toNat
def k0_dev191 (d0 : Dev nD) : Nat :=
  let c0_i32_4088 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4087 : BitVec 32 := 1#32
  let v3736 : BitVec 32 := Scalar.muli v7 c1_i32_4087
  let v3737 : BitVec 32 := Scalar.addi c0_i32_4088 v3736
  v3737.toNat
def k0_dev192 (d0 : Dev nD) : Nat :=
  let c0_i32_4096 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4095 : BitVec 32 := 1#32
  let v3738 : BitVec 32 := Scalar.muli v4 c1_i32_4095
  let v3739 : BitVec 32 := Scalar.addi c0_i32_4096 v3738
  v3739.toNat
def k0_dev193 (d0 : Dev nD) : Nat :=
  let c0_i32_4136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4135 : BitVec 32 := 1#32
  let v3776 : BitVec 32 := Scalar.muli v4 c1_i32_4135
  let v3777 : BitVec 32 := Scalar.addi c0_i32_4136 v3776
  v3777.toNat
def k0_dev194 (d0 : Dev nD) : Nat :=
  let c0_i32_4144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4143 : BitVec 32 := 1#32
  let v3778 : BitVec 32 := Scalar.muli v7 c1_i32_4143
  let v3779 : BitVec 32 := Scalar.addi c0_i32_4144 v3778
  v3779.toNat
def k0_dev195 (d0 : Dev nD) : Nat :=
  let c0_i32_4184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4183 : BitVec 32 := 1#32
  let v3816 : BitVec 32 := Scalar.muli v7 c1_i32_4183
  let v3817 : BitVec 32 := Scalar.addi c0_i32_4184 v3816
  v3817.toNat
def k0_dev196 (d0 : Dev nD) : Nat :=
  let c0_i32_4192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4191 : BitVec 32 := 1#32
  let v3818 : BitVec 32 := Scalar.muli v4 c1_i32_4191
  let v3819 : BitVec 32 := Scalar.addi c0_i32_4192 v3818
  v3819.toNat
def k0_dev197 (d0 : Dev nD) : Nat :=
  let c0_i32_4232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4231 : BitVec 32 := 1#32
  let v3856 : BitVec 32 := Scalar.muli v4 c1_i32_4231
  let v3857 : BitVec 32 := Scalar.addi c0_i32_4232 v3856
  v3857.toNat
def k0_dev198 (d0 : Dev nD) : Nat :=
  let c0_i32_4240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4239 : BitVec 32 := 1#32
  let v3858 : BitVec 32 := Scalar.muli v7 c1_i32_4239
  let v3859 : BitVec 32 := Scalar.addi c0_i32_4240 v3858
  v3859.toNat
def k0_dev199 (d0 : Dev nD) : Nat :=
  let c0_i32_4280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4279 : BitVec 32 := 1#32
  let v3896 : BitVec 32 := Scalar.muli v7 c1_i32_4279
  let v3897 : BitVec 32 := Scalar.addi c0_i32_4280 v3896
  v3897.toNat
def k0_dev200 (d0 : Dev nD) : Nat :=
  let c0_i32_4288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4287 : BitVec 32 := 1#32
  let v3898 : BitVec 32 := Scalar.muli v4 c1_i32_4287
  let v3899 : BitVec 32 := Scalar.addi c0_i32_4288 v3898
  v3899.toNat
def k0_dev201 (d0 : Dev nD) : Nat :=
  let c0_i32_4328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4327 : BitVec 32 := 1#32
  let v3936 : BitVec 32 := Scalar.muli v4 c1_i32_4327
  let v3937 : BitVec 32 := Scalar.addi c0_i32_4328 v3936
  v3937.toNat
def k0_dev202 (d0 : Dev nD) : Nat :=
  let c0_i32_4336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4335 : BitVec 32 := 1#32
  let v3938 : BitVec 32 := Scalar.muli v7 c1_i32_4335
  let v3939 : BitVec 32 := Scalar.addi c0_i32_4336 v3938
  v3939.toNat
def k0_dev203 (d0 : Dev nD) : Nat :=
  let c0_i32_4376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4375 : BitVec 32 := 1#32
  let v3976 : BitVec 32 := Scalar.muli v7 c1_i32_4375
  let v3977 : BitVec 32 := Scalar.addi c0_i32_4376 v3976
  v3977.toNat
def k0_dev204 (d0 : Dev nD) : Nat :=
  let c0_i32_4384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4383 : BitVec 32 := 1#32
  let v3978 : BitVec 32 := Scalar.muli v4 c1_i32_4383
  let v3979 : BitVec 32 := Scalar.addi c0_i32_4384 v3978
  v3979.toNat
def k0_dev205 (d0 : Dev nD) : Nat :=
  let c0_i32_4424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4423 : BitVec 32 := 1#32
  let v4016 : BitVec 32 := Scalar.muli v4 c1_i32_4423
  let v4017 : BitVec 32 := Scalar.addi c0_i32_4424 v4016
  v4017.toNat
def k0_dev206 (d0 : Dev nD) : Nat :=
  let c0_i32_4432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4431 : BitVec 32 := 1#32
  let v4018 : BitVec 32 := Scalar.muli v7 c1_i32_4431
  let v4019 : BitVec 32 := Scalar.addi c0_i32_4432 v4018
  v4019.toNat
def k0_dev207 (d0 : Dev nD) : Nat :=
  let c0_i32_4472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4471 : BitVec 32 := 1#32
  let v4056 : BitVec 32 := Scalar.muli v7 c1_i32_4471
  let v4057 : BitVec 32 := Scalar.addi c0_i32_4472 v4056
  v4057.toNat
def k0_dev208 (d0 : Dev nD) : Nat :=
  let c0_i32_4480 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4479 : BitVec 32 := 1#32
  let v4058 : BitVec 32 := Scalar.muli v4 c1_i32_4479
  let v4059 : BitVec 32 := Scalar.addi c0_i32_4480 v4058
  v4059.toNat
def k0_dev209 (d0 : Dev nD) : Nat :=
  let c0_i32_4520 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4519 : BitVec 32 := 1#32
  let v4096 : BitVec 32 := Scalar.muli v4 c1_i32_4519
  let v4097 : BitVec 32 := Scalar.addi c0_i32_4520 v4096
  v4097.toNat
def k0_dev210 (d0 : Dev nD) : Nat :=
  let c0_i32_4528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4527 : BitVec 32 := 1#32
  let v4098 : BitVec 32 := Scalar.muli v7 c1_i32_4527
  let v4099 : BitVec 32 := Scalar.addi c0_i32_4528 v4098
  v4099.toNat
def k0_dev211 (d0 : Dev nD) : Nat :=
  let c0_i32_4568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4567 : BitVec 32 := 1#32
  let v4136 : BitVec 32 := Scalar.muli v7 c1_i32_4567
  let v4137 : BitVec 32 := Scalar.addi c0_i32_4568 v4136
  v4137.toNat
def k0_dev212 (d0 : Dev nD) : Nat :=
  let c0_i32_4576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4575 : BitVec 32 := 1#32
  let v4138 : BitVec 32 := Scalar.muli v4 c1_i32_4575
  let v4139 : BitVec 32 := Scalar.addi c0_i32_4576 v4138
  v4139.toNat
def k0_dev213 (d0 : Dev nD) : Nat :=
  let c0_i32_4616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4615 : BitVec 32 := 1#32
  let v4176 : BitVec 32 := Scalar.muli v4 c1_i32_4615
  let v4177 : BitVec 32 := Scalar.addi c0_i32_4616 v4176
  v4177.toNat
def k0_dev214 (d0 : Dev nD) : Nat :=
  let c0_i32_4624 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4623 : BitVec 32 := 1#32
  let v4178 : BitVec 32 := Scalar.muli v7 c1_i32_4623
  let v4179 : BitVec 32 := Scalar.addi c0_i32_4624 v4178
  v4179.toNat
def k0_dev215 (d0 : Dev nD) : Nat :=
  let c0_i32_4664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4663 : BitVec 32 := 1#32
  let v4216 : BitVec 32 := Scalar.muli v7 c1_i32_4663
  let v4217 : BitVec 32 := Scalar.addi c0_i32_4664 v4216
  v4217.toNat
def k0_dev216 (d0 : Dev nD) : Nat :=
  let c0_i32_4672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4671 : BitVec 32 := 1#32
  let v4218 : BitVec 32 := Scalar.muli v4 c1_i32_4671
  let v4219 : BitVec 32 := Scalar.addi c0_i32_4672 v4218
  v4219.toNat
def k0_dev217 (d0 : Dev nD) : Nat :=
  let c0_i32_4712 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4711 : BitVec 32 := 1#32
  let v4256 : BitVec 32 := Scalar.muli v4 c1_i32_4711
  let v4257 : BitVec 32 := Scalar.addi c0_i32_4712 v4256
  v4257.toNat
def k0_dev218 (d0 : Dev nD) : Nat :=
  let c0_i32_4720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4719 : BitVec 32 := 1#32
  let v4258 : BitVec 32 := Scalar.muli v7 c1_i32_4719
  let v4259 : BitVec 32 := Scalar.addi c0_i32_4720 v4258
  v4259.toNat
def k0_dev219 (d0 : Dev nD) : Nat :=
  let c0_i32_4760 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4759 : BitVec 32 := 1#32
  let v4296 : BitVec 32 := Scalar.muli v7 c1_i32_4759
  let v4297 : BitVec 32 := Scalar.addi c0_i32_4760 v4296
  v4297.toNat
def k0_dev220 (d0 : Dev nD) : Nat :=
  let c0_i32_4768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4767 : BitVec 32 := 1#32
  let v4298 : BitVec 32 := Scalar.muli v4 c1_i32_4767
  let v4299 : BitVec 32 := Scalar.addi c0_i32_4768 v4298
  v4299.toNat
def k0_dev221 (d0 : Dev nD) : Nat :=
  let c0_i32_4808 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4807 : BitVec 32 := 1#32
  let v4336 : BitVec 32 := Scalar.muli v4 c1_i32_4807
  let v4337 : BitVec 32 := Scalar.addi c0_i32_4808 v4336
  v4337.toNat
def k0_dev222 (d0 : Dev nD) : Nat :=
  let c0_i32_4816 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4815 : BitVec 32 := 1#32
  let v4338 : BitVec 32 := Scalar.muli v7 c1_i32_4815
  let v4339 : BitVec 32 := Scalar.addi c0_i32_4816 v4338
  v4339.toNat
def k0_dev223 (d0 : Dev nD) : Nat :=
  let c0_i32_4856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4855 : BitVec 32 := 1#32
  let v4376 : BitVec 32 := Scalar.muli v7 c1_i32_4855
  let v4377 : BitVec 32 := Scalar.addi c0_i32_4856 v4376
  v4377.toNat
def k0_dev224 (d0 : Dev nD) : Nat :=
  let c0_i32_4864 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4863 : BitVec 32 := 1#32
  let v4378 : BitVec 32 := Scalar.muli v4 c1_i32_4863
  let v4379 : BitVec 32 := Scalar.addi c0_i32_4864 v4378
  v4379.toNat
def k0_dev225 (d0 : Dev nD) : Nat :=
  let c0_i32_4904 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4903 : BitVec 32 := 1#32
  let v4416 : BitVec 32 := Scalar.muli v4 c1_i32_4903
  let v4417 : BitVec 32 := Scalar.addi c0_i32_4904 v4416
  v4417.toNat
def k0_dev226 (d0 : Dev nD) : Nat :=
  let c0_i32_4912 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4911 : BitVec 32 := 1#32
  let v4418 : BitVec 32 := Scalar.muli v7 c1_i32_4911
  let v4419 : BitVec 32 := Scalar.addi c0_i32_4912 v4418
  v4419.toNat
def k0_dev227 (d0 : Dev nD) : Nat :=
  let c0_i32_4952 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4951 : BitVec 32 := 1#32
  let v4456 : BitVec 32 := Scalar.muli v7 c1_i32_4951
  let v4457 : BitVec 32 := Scalar.addi c0_i32_4952 v4456
  v4457.toNat
def k0_dev228 (d0 : Dev nD) : Nat :=
  let c0_i32_4960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4959 : BitVec 32 := 1#32
  let v4458 : BitVec 32 := Scalar.muli v4 c1_i32_4959
  let v4459 : BitVec 32 := Scalar.addi c0_i32_4960 v4458
  v4459.toNat
def k0_dev229 (d0 : Dev nD) : Nat :=
  let c0_i32_5000 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4999 : BitVec 32 := 1#32
  let v4496 : BitVec 32 := Scalar.muli v4 c1_i32_4999
  let v4497 : BitVec 32 := Scalar.addi c0_i32_5000 v4496
  v4497.toNat
def k0_dev230 (d0 : Dev nD) : Nat :=
  let c0_i32_5008 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5007 : BitVec 32 := 1#32
  let v4498 : BitVec 32 := Scalar.muli v7 c1_i32_5007
  let v4499 : BitVec 32 := Scalar.addi c0_i32_5008 v4498
  v4499.toNat
def k0_dev231 (d0 : Dev nD) : Nat :=
  let c0_i32_5048 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5047 : BitVec 32 := 1#32
  let v4536 : BitVec 32 := Scalar.muli v7 c1_i32_5047
  let v4537 : BitVec 32 := Scalar.addi c0_i32_5048 v4536
  v4537.toNat
def k0_dev232 (d0 : Dev nD) : Nat :=
  let c0_i32_5056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5055 : BitVec 32 := 1#32
  let v4538 : BitVec 32 := Scalar.muli v4 c1_i32_5055
  let v4539 : BitVec 32 := Scalar.addi c0_i32_5056 v4538
  v4539.toNat
def k0_dev233 (d0 : Dev nD) : Nat :=
  let c0_i32_5096 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5095 : BitVec 32 := 1#32
  let v4576 : BitVec 32 := Scalar.muli v4 c1_i32_5095
  let v4577 : BitVec 32 := Scalar.addi c0_i32_5096 v4576
  v4577.toNat
def k0_dev234 (d0 : Dev nD) : Nat :=
  let c0_i32_5104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5103 : BitVec 32 := 1#32
  let v4578 : BitVec 32 := Scalar.muli v7 c1_i32_5103
  let v4579 : BitVec 32 := Scalar.addi c0_i32_5104 v4578
  v4579.toNat
abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S1, .f32⟩
  | .hbm, ⟨3, _⟩ => ⟨S1, .f32⟩
  | .hbm, ⟨4, _⟩ => ⟨S4096x4096, .f32⟩
  | .hbm, ⟨5, _⟩ => ⟨S4096x8192, .f32⟩
  | .hbm, ⟨6, _⟩ => ⟨S4096x8192, .f32⟩
  | .hbm, ⟨7, _⟩ => ⟨S1, .f32⟩
  | .hbm, ⟨8, _⟩ => ⟨S1x1, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Proof.RS.Steps.lean ====
/- The kernel's body as a sequence of steps, each step once at a symbolic stream and a symbolic round.

   The body drives four independent rings of sixteen devices. Ring ("stream") `k` moves the columns
   `2048 k … 2048 k + 2047`; streams 0 and 1 send to the right neighbour, streams 2 and 3 to the left.
   Send `t` of a stream goes to slot `t % 2` of the peer's communication buffer. -/
module

public import proofs.«01_k».proof.Proof.Gen.KernelIdeal.Skeleton
public import proofs.«01_k».proof.Proof.Gen.KernelIdeal.Points

@[expose] public section

set_option maxRecDepth 65536

noncomputable section

namespace Cert.KernelIdeal.RS

open Idealize.ShloMosaic Idealize.ShloMosaic.TcCoe
open Cert.KernelIdeal.Gen
open Idealize.SL Idealize.SL.Sem

variable {F : FTy → Type} [FloatOps F]

/-- A step of the body. -/
abbrev Stp (F : FTy → Type) [FloatOps F] := Prog (TpuEff nD τ sig (Elt F) Λ₀ .tc) PUnit

/-! ## The operands, by stream -/

/-- The staging buffer that stream `k`'s next addend is loaded into. -/
def stgM : Fin 4 → Memref sig .tc .vmem S256x2048 .f32
  | 0 => Memref.whole cc0_scratch0 | 1 => Memref.whole cc0_scratch3
  | 2 => Memref.whole cc0_scratch6 | 3 => Memref.whole cc0_scratch9
/-- Stream `k`'s accumulator. -/
def accM : Fin 4 → Memref sig .tc .vmem S256x2048 .f32
  | 0 => Memref.whole cc0_scratch1 | 1 => Memref.whole cc0_scratch4
  | 2 => Memref.whole cc0_scratch7 | 3 => Memref.whole cc0_scratch10
/-- Stream `k`'s communication buffer, of two slots. -/
def comM : Fin 4 → Memref sig .tc .vmem S2x256x2048 .f32
  | 0 => Memref.whole cc0_scratch2 | 1 => Memref.whole cc0_scratch5
  | 2 => Memref.whole cc0_scratch8 | 3 => Memref.whole cc0_scratch11
theorem stg_whole (k : Fin 4) : (stgM k).IsWhole := by fin_cases k <;> exact Memref.isWhole_whole _
theorem acc_whole (k : Fin 4) : (accM k).IsWhole := by fin_cases k <;> exact Memref.isWhole_whole _
theorem com_whole (k : Fin 4) : (comM k).IsWhole := by fin_cases k <;> exact Memref.isWhole_whole _

/-- The semaphores of stream `k`'s local copies: loads on 0, stores on 1. -/
def locS : Fin 4 → DmaSems sig S2
  | 0 => cc0_scratch12 | 1 => cc0_scratch13 | 2 => cc0_scratch14 | 3 => cc0_scratch15
/-- The semaphores a send of stream `k` completes on at the sender, by slot. -/
def sndS : Fin 4 → DmaSems sig S2
  | 0 => cc0_scratch16 | 1 => cc0_scratch17 | 2 => cc0_scratch18 | 3 => cc0_scratch19
/-- The semaphores a send of stream `k` completes on at the receiver, by slot. -/
def rcvS : Fin 4 → DmaSems sig S2
  | 0 => cc0_scratch20 | 1 => cc0_scratch21 | 2 => cc0_scratch22 | 3 => cc0_scratch23
/-- The semaphore stream `k`'s credits are counted on. -/
def crdS : Fin 4 → Sems sig S_
  | 0 => cc0_scratch24 | 1 => cc0_scratch25 | 2 => cc0_scratch26 | 3 => cc0_scratch27
/-- The barrier's semaphore. -/
abbrev barS : Sems sig S_ := SemArray.scalar (sig.barrier 0 rfl)

theorem semInb (q : ℕ) : ∀ a, (![q % 2] : Fin 1 → ℕ) a + S1.size a ≤ S2.size a := by
  have h : ∀ q : Fin 2, ∀ a, (![q.val] : Fin 1 → ℕ) a + S1.size a ≤ S2.size a := by decide
  exact h ⟨q % 2, Nat.mod_lt _ (by decide)⟩
/-- The semaphore of slot `q % 2` of a pair. -/
def dsem (a : DmaSems sig S2) (q : ℕ) : DmaSem sig :=
  ((a.slice (Rect.unit (s := S2) ![q % 2] S1.size (semInb q))).squeeze S_ squeezes_S1_S_).sem

theorem slotInb (q : ℕ) : ∀ a, (![q % 2, 0, 0] : Fin 3 → ℕ) a + S1x256x2048.size a ≤ S2x256x2048.size a := by
  have h : ∀ q : Fin 2, ∀ a, (![q.val, 0, 0] : Fin 3 → ℕ) a + S1x256x2048.size a ≤ S2x256x2048.size a := by decide
  exact h ⟨q % 2, Nat.mod_lt _ (by decide)⟩
/-- The rectangle of slot `q % 2` of a communication buffer. -/
abbrev slotR (q : ℕ) : Rect S2x256x2048 := Rect.unit (s := S2x256x2048) ![q % 2, 0, 0] S1x256x2048.size (slotInb q)
/-- Slot `q % 2` of stream `k`'s communication buffer. -/
def slotM (k : Fin 4) (q : ℕ) : Memref sig .tc .vmem S256x2048 .f32 :=
  ((comM k).slice (slotR q) (fun _ => rfl)).squeeze S256x2048 squeezes_S1x256x2048_S256x2048
theorem slot_wordExact (k : Fin 4) (q : ℕ) : (slotM k q).view.WordExact := by
  unfold slotM; exact (View.wordExact_bits rfl).reshape _ _

/-! ## Devices and offsets -/

/-- The right neighbour. -/
def rightOf (c : Dev nD) : Dev nD := ⟨k0_dev3 c, k0_dev3_lt c⟩
/-- The left neighbour. -/
def leftOf (c : Dev nD) : Dev nD := ⟨k0_dev4 c, k0_dev4_lt c⟩
/-- Where stream `k` sends. -/
def dn : Fin 4 → Dev nD → Dev nD
  | 0 => rightOf | 1 => rightOf | 2 => leftOf | 3 => leftOf
/-- Where stream `k` receives from. -/
def up : Fin 4 → Dev nD → Dev nD
  | 0 => leftOf | 1 => leftOf | 2 => rightOf | 3 => rightOf

/-- The number of the row block `r` places behind device `c`, against the direction of stream `k`. -/
def chunk (k : Fin 4) (c : Dev nD) (r : ℕ) : ℕ :=
  if k.val < 2 then (c.val + 16 - r % 16) % 16 else (c.val + r % 16) % 16
theorem chunk_lt (k : Fin 4) (c : Dev nD) (r : ℕ) : chunk k c r < 16 := by
  unfold chunk; split <;> exact Nat.mod_lt _ (by decide)
/-- The offsets of row block `n`, columns of stream `k`. -/
def blkOff (k : Fin 4) (n : ℕ) : Fin 2 → ℕ := ![256 * n, 2048 * k.val]
theorem blkOff_inb (k : Fin 4) (n : ℕ) (h : n < 16) : ∀ a, blkOff k n a + S256x2048.size a ≤ S4096x8192.size a := by
  have hk := k.isLt
  intro a; fin_cases a <;> simp [blkOff, Shape.size, S256x2048, S4096x8192] <;> omega

/-- The body's offsets of the block `r` places behind. -/
def behOff (k : Fin 4) (c : Dev nD) (r : ℕ) : Fin 2 → ℕ := match k with
  | 0 => k0_off5 c (BitVec.ofNat 32 (r % 16)) | 1 => k0_off7 c (BitVec.ofNat 32 (r % 16))
  | 2 => k0_off6 c (BitVec.ofNat 32 (4294967296 - r % 16)) | 3 => k0_off8 c (BitVec.ofNat 32 (4294967296 - r % 16))
/-- The body's offsets of the device's own block. -/
def myOff (k : Fin 4) (c : Dev nD) : Fin 2 → ℕ := match k with
  | 0 => k0_off1 c | 1 => k0_off2 c | 2 => k0_off3 c | 3 => k0_off4 c
/-- The body's offsets of the block one place ahead, which the device finishes. -/
def aheadOff (k : Fin 4) (c : Dev nD) : Fin 2 → ℕ := match k with
  | 0 => k0_off9 c | 1 => k0_off11 c | 2 => k0_off10 c | 3 => k0_off12 c

theorem behOff_fin : ∀ (k : Fin 4) (c : Dev nD) (r : Fin 16), behOff k c r.val = blkOff k (chunk k c r.val) := by decide +kernel
theorem behOff_eq (k : Fin 4) (c : Dev nD) (r : ℕ) : behOff k c r = blkOff k (chunk k c r) := by
  have h := behOff_fin k c ⟨r % 16, Nat.mod_lt _ (by decide)⟩
  have e : chunk k c (r % 16) = chunk k c r := by simp [chunk, Nat.mod_mod]
  have e' : behOff k c (r % 16) = behOff k c r := by fin_cases k <;> simp [behOff, Nat.mod_mod]
  rw [← e, ← e']; exact h
theorem myOff_eq : ∀ (k : Fin 4) (c : Dev nD), myOff k c = blkOff k (chunk k c 0) := by decide +kernel
theorem aheadOff_eq : ∀ (k : Fin 4) (c : Dev nD), aheadOff k c = blkOff k (chunk k c 15) := by decide +kernel
theorem behOff_inb (k : Fin 4) (c : Dev nD) (r : ℕ) : ∀ a, behOff k c r a + S256x2048.size a ≤ S4096x8192.size a := by
  rw [behOff_eq]; exact blkOff_inb k _ (chunk_lt k c r)
theorem myOff_inb (k : Fin 4) (c : Dev nD) : ∀ a, myOff k c a + S256x2048.size a ≤ S4096x8192.size a := by
  rw [myOff_eq]; exact blkOff_inb k _ (chunk_lt k c 0)
theorem aheadOff_inb (k : Fin 4) (c : Dev nD) : ∀ a, aheadOff k c a + S256x2048.size a ≤ S4096x8192.size a := by
  rw [aheadOff_eq]; exact blkOff_inb k _ (chunk_lt k c 15)

/-- A block of a whole array of 4096 × 8192. -/
def blkM (a : Memref sig .tc .hbm S4096x8192 .f32) (off : Fin 2 → ℕ) (h : ∀ a, off a + S256x2048.size a ≤ S4096x8192.size a) :
    Memref sig .tc .hbm S256x2048 .f32 := a.slice (Rect.unit (s := S4096x8192) off S256x2048.size h) (fun _ => rfl)
/-- The operand: the device's partial products. -/
abbrev parM : Memref sig .tc .hbm S4096x8192 .f32 := Memref.whole main_v1
/-- The result. -/
abbrev outM : Memref sig .tc .hbm S4096x8192 .f32 := Memref.whole main_v4
/-- The scale's staging buffer. -/
abbrev sclM : Memref sig .tc .smem S1x1 .f32 := Memref.whole cc0_stg0_0

/-! ## The steps' operations -/

/-- The start of a load of a block of the operand into `d`. -/
def ldStart (k : Fin 4) (off : Fin 2 → ℕ) (h : ∀ a, off a + S256x2048.size a ≤ S4096x8192.size a)
    (d : Memref sig .tc .vmem S256x2048 .f32) (hd : d.view.WordExact) : Stp F :=
  Prog.lift (.enqueueDma (blkM parM off h) (.here d) (.dma (dsem (locS k) 0)) (View.wordExact_bits rfl) hd ⟨Or.inl rfl, trivial⟩)
/-- The wait for a load. -/
def ldWait (k : Fin 4) (off : Fin 2 → ℕ) (h : ∀ a, off a + S256x2048.size a ≤ S4096x8192.size a)
    (d : Memref sig .tc .vmem S256x2048 .f32) (hd : d.view.WordExact) : Stp F :=
  Prog.lift (.waitDma2 (dsem (locS k) 0) (blkM parM off h) d (View.wordExact_bits rfl) hd)
/-- The start of a store of `s` to a block of the result. -/
def stStart (k : Fin 4) (s : Memref sig .tc .vmem S256x2048 .f32) (hs : s.view.WordExact)
    (off : Fin 2 → ℕ) (h : ∀ a, off a + S256x2048.size a ≤ S4096x8192.size a) : Stp F :=
  Prog.lift (.enqueueDma s (.here (blkM outM off h)) (.dma (dsem (locS k) 1)) hs (View.wordExact_bits rfl) ⟨Or.inl rfl, trivial⟩)
/-- The wait for a store. -/
def stWait (k : Fin 4) (s : Memref sig .tc .vmem S256x2048 .f32) (hs : s.view.WordExact)
    (off : Fin 2 → ℕ) (h : ∀ a, off a + S256x2048.size a ≤ S4096x8192.size a) : Stp F :=
  Prog.lift (.waitDma2 (dsem (locS k) 1) s (blkM outM off h) hs (View.wordExact_bits rfl))
/-- Send `t` of stream `k`, from `s`. -/
def snd (k : Fin 4) (c : Dev nD) (t : ℕ) (s : Memref sig .tc .vmem S256x2048 .f32) (hs : s.view.WordExact) : Stp F :=
  Prog.lift (.enqueueDma s (.remote (Dev.tc (dn k c)) (slotM k t) (.dma (dsem (sndS k) t))) (.dma (dsem (rcvS k) t)) hs
    (slot_wordExact k t) ⟨⟨rfl, Or.inl rfl⟩, trivial⟩)
/-- The wait for send `t` to have left `s`. -/
def sndWait (k : Fin 4) (t : ℕ) (s : Memref sig .tc .vmem S256x2048 .f32) (hs : s.view.WordExact) : Stp F :=
  Prog.lift (.waitDma2 (dsem (sndS k) t) (slotM k t) s (slot_wordExact k t) hs)
/-- The wait for the upstream neighbour's send `t` to have landed. -/
def rcvWait (k : Fin 4) (t : ℕ) (s : Memref sig .tc .vmem S256x2048 .f32) (hs : s.view.WordExact) : Stp F :=
  Prog.lift (.waitDma2 (dsem (rcvS k) t) s (slotM k t) hs (slot_wordExact k t))
/-- One credit to the upstream neighbour. -/
def crd (k : Fin 4) (c : Dev nD) : Stp F := semSignalWord (up k c) (crdS k).sem 1#32
/-- The wait for one credit. -/
def crdWait (k : Fin 4) : Stp F := semWaitWord (crdS k).sem 1#32

/-- The whole of a block-sized buffer, as a rectangle. -/
abbrev fullR : Rect S256x2048 := Rect.unit (s := S256x2048) ![0, 0] S256x2048.size inb_S256x2048_S256x2048_0_0

/-- `acc := comm[t] + stage`, as the body does it. -/
def addStp (k : Fin 4) (t : ℕ) : Stp F := do
  let v : Vec F S1x256x2048 .f32 ← Prog.lift (.load (comM k) (slotR t).toLoadRect (View.loadsAt_vmem h_S1x256x2048))
  let w : Vec F S256x2048 .f32 ← Prog.lift (.load (stgM k) fullR.toLoadRect (View.loadsAt_vmem h_S256x2048))
  let _ : Vec F S256x2048 .f32 ← Prog.lift (.load (accM k) fullR.toLoadRect (View.loadsAt_vmem h_S256x2048))
  Prog.lift (.store (accM k) fullR (k0_pay1 v w) Finset.univ (View.stores_vmem_bits_univ h_S256x2048 rfl) (.inl rfl))
/-- `stage := epilogue (acc, scale)`, as the body does it. -/
def epiStp (k : Fin 4) : Stp F := do
  let v : Vec F S256x2048 .f32 ← Prog.lift (.load (accM k) fullR.toLoadRect (View.loadsAt_vmem h_S256x2048))
  let w : Elt F .f32 ← smemLoad sclM (Rect.unit (s := S1x1) ![0, 0] S1x1.size inb_S1x1_S1x1_0_0) numel1_S1x1 rfl
  let _ : Vec F S256x2048 .f32 ← Prog.lift (.load (stgM k) fullR.toLoadRect (View.loadsAt_vmem h_S256x2048))
  Prog.lift (.store (stgM k) fullR (k0_pay67 v w) Finset.univ (View.stores_vmem_bits_univ h_S256x2048 rfl) (.inl rfl))

/-! ## The steps -/

/-- The source of send `t`: the accumulator, then the staging buffer once, then the slot just received. -/
def srcM (k : Fin 4) (t : ℕ) : Memref sig .tc .vmem S256x2048 .f32 :=
  if t < 15 then accM k else if t = 15 then stgM k else slotM k (t - 1)
theorem src_wordExact (k : Fin 4) (t : ℕ) : (srcM k t).view.WordExact := by
  unfold srcM; split
  · exact (acc_whole k).wordExact
  · split
    · exact (stg_whole k).wordExact
    · exact slot_wordExact k _

/-- The first send of stream `k` and its first load. -/
def firstStp (k : Fin 4) (c : Dev nD) : List (Stp F) :=
  [snd k c 0 (srcM k 0) (src_wordExact k 0), ldStart k (behOff k c 1) (behOff_inb k c 1) (stgM k) (stg_whole k).wordExact]
/-- What every later step begins with: send `t` has left and the neighbour's send `t` has landed. -/
def bothWait (k : Fin 4) (t : ℕ) : List (Stp F) :=
  [sndWait k t (srcM k t) (src_wordExact k t), rcvWait k t (srcM k t) (src_wordExact k t)]
/-- Reduce step `s`, `1 ≤ s ≤ 14`, of stream `k`. -/
def redStp (s : ℕ) (k : Fin 4) (c : Dev nD) : List (Stp F) :=
  bothWait k (s - 1) ++
  [ldWait k (behOff k c s) (behOff_inb k c s) (stgM k) (stg_whole k).wordExact, addStp k (s - 1), crd k c] ++
  (if 2 ≤ s then [crdWait k] else []) ++
  [snd k c s (srcM k s) (src_wordExact k s),
   ldStart k (behOff k c (s + 1)) (behOff_inb k c (s + 1)) (stgM k) (stg_whole k).wordExact]
/-- The step that finishes the block one place ahead. -/
def finStp (k : Fin 4) (c : Dev nD) : List (Stp F) :=
  bothWait k 14 ++
  [ldWait k (behOff k c 15) (behOff_inb k c 15) (stgM k) (stg_whole k).wordExact, addStp k 14, epiStp k,
   stStart k (srcM k 15) (src_wordExact k 15) (aheadOff k c) (aheadOff_inb k c),
   crdWait k, snd k c 15 (srcM k 15) (src_wordExact k 15)]
/-- The offsets of the block stored at gather step `s` (`s = 0`: the device's own finished block). -/
def outOff (k : Fin 4) (c : Dev nD) (s : ℕ) : Fin 2 → ℕ := if s = 0 then aheadOff k c else behOff k c (s - 1)
theorem outOff_inb (k : Fin 4) (c : Dev nD) (s : ℕ) : ∀ a, outOff k c s a + S256x2048.size a ≤ S4096x8192.size a := by
  unfold outOff; split
  · exact aheadOff_inb k c
  · exact behOff_inb k c _
/-- Gather step `s`, `1 ≤ s ≤ 15`, of stream `k`. -/
def gatStp (s : ℕ) (k : Fin 4) (c : Dev nD) : List (Stp F) :=
  bothWait k (14 + s) ++
  [stWait k (srcM k (14 + s)) (src_wordExact k (14 + s)) (outOff k c (s - 1)) (outOff_inb k c (s - 1))] ++
  (if s < 15 then [crd k c] else []) ++
  (if s < 15 then [crdWait k, snd k c (15 + s) (srcM k (15 + s)) (src_wordExact k (15 + s))] else []) ++
  [stStart k (srcM k (15 + s)) (src_wordExact k (15 + s)) (outOff k c s) (outOff_inb k c s)]

/-- The streams' order within a round. -/
def ord : List (Fin 4) := [0, 2, 1, 3]

/-- The loads of the device's own blocks. -/
def ownLoad (k : Fin 4) (c : Dev nD) : Stp F := ldStart k (myOff k c) (myOff_inb k c) (accM k) (acc_whole k).wordExact
def ownLoadWait (k : Fin 4) (c : Dev nD) : Stp F := ldWait k (myOff k c) (myOff_inb k c) (accM k) (acc_whole k).wordExact
/-- Everything before the rounds. -/
def prologue (c : Dev nD) : List (Stp F) :=
  [ownLoad 0 c, ownLoad 1 c, ownLoad 2 c, ownLoad 3 c, semSignalWord (leftOf c) barS.sem 1#32, semSignalWord (rightOf c) barS.sem 1#32,
   semWaitWord barS.sem 2#32, ownLoadWait 0 c, ownLoadWait 1 c, ownLoadWait 2 c, ownLoadWait 3 c]
/-- The last stores' waits. -/
def lastWait (k : Fin 4) (c : Dev nD) : Stp F := stWait k (srcM k 30) (src_wordExact k 30) (outOff k c 15) (outOff_inb k c 15)

/-- Stream `k`'s part of round `n`: the reduce steps, the finishing step, the gather steps. -/
def roundStp (n : ℕ) (c : Dev nD) (k : Fin 4) : List (Stp F) :=
  if n = 0 then firstStp k c else if n < 15 then redStp n k c else if n = 15 then finStp k c else gatStp (n - 15) k c

/-- The body. -/
def steps (c : Dev nD) : List (Stp F) :=
  prologue c ++ ((List.range 31).flatMap fun n => ord.flatMap (roundStp n c)) ++ [lastWait 0 c, lastWait 1 c, lastWait 2 c, lastWait 3 c]

end Cert.KernelIdeal.RS

end
-- ==== Proof.RS.Protocol.lean ====
/- The protocol of the four rings: what each semaphore counts, who pays it, and what every payment hands over.

   Stream `k` of device `c` sends to `dn k c` and receives from `up k c`. Write `t` (`t < 30`) into slot `t % 2` of a
   device's communication buffer is its upstream neighbour's send `t`. The reader of a slot releases it once before the
   barrier and once after it is done with each landing; a release is told to the writer by the barrier (the first) or by
   a credit (the later ones), and the writer's write `t` needs the release `t / 2 + 1` of its slot. -/
module

public import proofs.«01_k».proof.Proof.RS.Steps
public import proofs.«01_k».proof.Proof.Gen.KernelIdeal.Launch
public import Idealize.ShloMosaic.Lib.Rounds
public import Idealize.ShloMosaic.Lib.Release
public import Idealize.ShloMosaic.Lib.MemrefSat
public import Idealize.ShloMosaic.Lib.Tactic

@[expose] public section

set_option maxRecDepth 65536

noncomputable section

namespace Cert.KernelIdeal.RS

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok)

variable {F : FTy → Type} [FloatOps F]

/-! ## The resource algebra -/

/-- A slot of a communication buffer: device, stream, parity. -/
abbrev KK : Type := Dev nD × Fin 4 × ℕ
/-- The pipeline library's copy of the rounds algebra, this protocol's, and the slots'. -/
abbrev UU : Type := UR sig nD τ × (URounds (GSem nD τ sig) ℕ × USlots KK)

local notation "𝕄" => MT nD τ sig ℕ (Elt F) ℕ UU ℕ

abbrev EP : Emb (UR sig nD τ) (MT nD τ sig ℕ (Elt F) ℕ UU ℕ) := embL
def ER : Emb (URounds (GSem nD τ sig) ℕ) (MT nD τ sig ℕ (Elt F) ℕ UU ℕ) :=
  (Emb.inl : Emb (URounds (GSem nD τ sig) ℕ) (URounds (GSem nD τ sig) ℕ × USlots KK)).trans embR
def ES : Emb (USlots KK) (MT nD τ sig ℕ (Elt F) ℕ UU ℕ) :=
  (Emb.inr : Emb (USlots KK) (URounds (GSem nD τ sig) ℕ × USlots KK)).trans embR
instance ER_landsIn : (ER (F := F)).LandsIn (upEmb : UEmb _ 𝕄) := by unfold ER; infer_instance
instance ES_landsIn : (ES (F := F)).LandsIn (upEmb : UEmb _ 𝕄) := by unfold ES; infer_instance

/-! ## Roles of the semaphores -/

/-- What a semaphore is used for. -/
inductive Role | bar | crd (k : Fin 4) | ld (k : Fin 4) | st (k : Fin 4) | snd (k : Fin 4) (q : ℕ) | rcv (k : Fin 4) (q : ℕ) | oth
  deriving DecidableEq

/-- A semaphore's role, read off its number. -/
def role : SemLoc sig → Role
  | .reg s => if s.val < 4 then .crd (Fin.ofNat 4 s.val) else .bar
  | .dma s =>
    if s.val = 0 then .oth
    else if s.val < 9 then (if (s.val - 1) % 2 = 0 then .ld (Fin.ofNat 4 ((s.val - 1) / 2)) else .st (Fin.ofNat 4 ((s.val - 1) / 2)))
    else if s.val < 17 then .snd (Fin.ofNat 4 ((s.val - 9) / 2)) ((s.val - 9) % 2)
    else .rcv (Fin.ofNat 4 ((s.val - 17) / 2)) ((s.val - 17) % 2)

abbrev barL : SemLoc sig := .reg barS.sem
abbrev crdL (k : Fin 4) : SemLoc sig := .reg (crdS k).sem
abbrev ldL (k : Fin 4) : SemLoc sig := .dma (dsem (locS k) 0)
abbrev stL (k : Fin 4) : SemLoc sig := .dma (dsem (locS k) 1)
abbrev sndL (k : Fin 4) (t : ℕ) : SemLoc sig := .dma (dsem (sndS k) t)
abbrev rcvL (k : Fin 4) (t : ℕ) : SemLoc sig := .dma (dsem (rcvS k) t)

theorem dsem_congr (a : DmaSems sig S2) (x y : ℕ) (hx : ∀ i, (![x] : Fin 1 → ℕ) i + S1.size i ≤ S2.size i)
    (hy : ∀ i, (![y] : Fin 1 → ℕ) i + S1.size i ≤ S2.size i) (h : x = y) :
    ((a.slice (Rect.unit (s := S2) ![x] S1.size hx)).squeeze S_ squeezes_S1_S_).sem
      = ((a.slice (Rect.unit (s := S2) ![y] S1.size hy)).squeeze S_ squeezes_S1_S_).sem := by subst h; rfl
theorem dsem_mod (a : DmaSems sig S2) (q : ℕ) : dsem a (q % 2) = dsem a q :=
  dsem_congr a _ _ _ _ (Nat.mod_mod q 2)
theorem role_bar : role barL = .bar := by decide
theorem role_crd : ∀ k, role (crdL k) = .crd k := by decide
theorem role_ld : ∀ k, role (ldL k) = .ld k := by decide
theorem role_st : ∀ k, role (stL k) = .st k := by decide
theorem role_snd_fin : ∀ (k : Fin 4) (q : Fin 2), role (sndL k q.val) = .snd k q.val := by decide
theorem role_rcv_fin : ∀ (k : Fin 4) (q : Fin 2), role (rcvL k q.val) = .rcv k q.val := by decide
theorem role_snd (k : Fin 4) (t : ℕ) : role (sndL k t) = .snd k (t % 2) := by
  have h := role_snd_fin k ⟨t % 2, Nat.mod_lt _ (by decide)⟩
  simp only [sndL, dsem_mod] at h; exact h
theorem role_rcv (k : Fin 4) (t : ℕ) : role (rcvL k t) = .rcv k (t % 2) := by
  have h := role_rcv_fin k ⟨t % 2, Nat.mod_lt _ (by decide)⟩
  simp only [rcvL, dsem_mod] at h; exact h
theorem sndL_mod (k : Fin 4) (t : ℕ) : sndL k (t % 2) = sndL k t := by simp only [sndL, dsem_mod]
theorem rcvL_mod (k : Fin 4) (t : ℕ) : rcvL k (t % 2) = rcvL k t := by simp only [rcvL, dsem_mod]
theorem sndL_two (k : Fin 4) (t : ℕ) : sndL k (t + 2) = sndL k t := by rw [← sndL_mod, ← sndL_mod k t]; simp
theorem rcvL_two (k : Fin 4) (t : ℕ) : rcvL k (t + 2) = rcvL k t := by rw [← rcvL_mod, ← rcvL_mod k t]; simp
theorem slotM_congr (k : Fin 4) (x y : ℕ) (hx : ∀ a, (![x, 0, 0] : Fin 3 → ℕ) a + S1x256x2048.size a ≤ S2x256x2048.size a)
    (hy : ∀ a, (![y, 0, 0] : Fin 3 → ℕ) a + S1x256x2048.size a ≤ S2x256x2048.size a) (h : x = y) :
    (((comM k).slice (Rect.unit (s := S2x256x2048) ![x, 0, 0] S1x256x2048.size hx) (fun _ => rfl)).squeeze S256x2048 squeezes_S1x256x2048_S256x2048 : Memref sig .tc .vmem S256x2048 .f32)
      = ((comM k).slice (Rect.unit (s := S2x256x2048) ![y, 0, 0] S1x256x2048.size hy) (fun _ => rfl)).squeeze S256x2048 squeezes_S1x256x2048_S256x2048 := by
  subst h; rfl
theorem slotM_mod (k : Fin 4) (t : ℕ) : slotM k (t % 2) = slotM k t := slotM_congr k _ _ _ _ (Nat.mod_mod t 2)
theorem slotM_two (k : Fin 4) (t : ℕ) : slotM k (t + 2) = slotM k t := slotM_congr k _ _ _ _ (by omega)

/-- A cell of device `c`. -/
abbrev cel (c : Dev nD) (s : SemLoc sig) : GSem nD τ sig := (Dev.tc c, s)

/-! ## The neighbours -/

theorem dn_up : ∀ (k : Fin 4) (c : Dev nD), dn k (up k c) = c := by decide +kernel
theorem up_dn : ∀ (k : Fin 4) (c : Dev nD), up k (dn k c) = c := by decide +kernel
theorem left_right : ∀ c : Dev nD, leftOf (rightOf c) = c := by decide +kernel
theorem right_left : ∀ c : Dev nD, rightOf (leftOf c) = c := by decide +kernel
/-- The block `r + 1` places behind is the upstream neighbour's `r` places behind. -/
theorem chunk_up : ∀ (k : Fin 4) (c : Dev nD) (r : Fin 16), chunk k (up k c) r.val = chunk k c (r.val + 1) := by decide +kernel

/-! ## Contents -/

/-- A block's worth of values. -/
abbrev Blk (F : FTy → Type) [FloatOps F] := S256x2048.Idx → Elt F .f32

/-- The sum of two blocks. -/
def sumB (x y : Blk F) : Blk F := addf x y
/-- The epilogue of a block. -/
def epiB (x : Blk F) (s : Elt F .f32) : Blk F := k0_pay67 x s

/-- What the devices hold when the kernel starts: each device's operand and scale. -/
structure Ins (F : FTy → Type) [FloatOps F] where
  par : Dev nD → S4096x8192.Idx → Elt F .f32
  scl : Dev nD → Elt F .f32

variable (X : Ins F)

/-- The block `r` places behind of device `c`'s operand, stream `k`'s columns. -/
def parv (k : Fin 4) (c : Dev nD) (r : ℕ) : Blk F :=
  fun j => X.par c ((Rect.unit (s := S4096x8192) (blkOff k (chunk k c r)) S256x2048.size (blkOff_inb k _ (chunk_lt k c r))).emb j)

/-- What device `c`'s send `t` of stream `k` carries. -/
def sv (k : Fin 4) : ℕ → Dev nD → Blk F
  | 0, c => parv X k c 0
  | t + 1, c =>
    if t + 1 < 15 then sumB (sv k t (up k c)) (parv X k c (t + 1))
    else if t + 1 = 15 then epiB (sumB (sv k t (up k c)) (parv X k c 15)) (X.scl c)
    else sv k t (up k c)

theorem sv_red (k : Fin 4) (t : ℕ) (h1 : 1 ≤ t) (h : t < 15) (c : Dev nD) :
    sv X k t c = sumB (sv X k (t - 1) (up k c)) (parv X k c t) := by
  obtain ⟨t, rfl⟩ : ∃ u, t = u + 1 := ⟨t - 1, by omega⟩
  rw [sv, if_pos h]; rfl
theorem sv_fin (k : Fin 4) (c : Dev nD) :
    sv X k 15 c = epiB (sumB (sv X k 14 (up k c)) (parv X k c 15)) (X.scl c) := by
  rw [sv, if_neg (by decide), if_pos rfl]
theorem sv_gat (k : Fin 4) (t : ℕ) (h : 16 ≤ t) (c : Dev nD) : sv X k t c = sv X k (t - 1) (up k c) := by
  obtain ⟨t, rfl⟩ : ∃ u, t = u + 1 := ⟨t - 1, by omega⟩
  rw [sv, if_neg (by omega), if_neg (by omega)]; rfl

/-! ## Payloads -/

/-- Write `t` into the slot `t % 2` of stream `k` of device `c` may be made. -/
def Wp (c : Dev nD) (k : Fin 4) (t : ℕ) : sProp 𝕄 :=
  iprop(released ES (c, k, t % 2) (t / 2 + 1) ∗ reached ER (cel c (rcvL k t)) (t / 2))
instance Wp_persistent (c : Dev nD) (k : Fin 4) (t : ℕ) : BI.Persistent (Wp (F := F) c k t) := by unfold Wp; infer_instance
instance Wp_storable (c : Dev nD) (k : Fin 4) (t : ℕ) : BI.Storable (upEmb : UEmb _ 𝕄) (Wp (F := F) c k t) := by
  unfold Wp; infer_instance

/-- Where load `i` goes: the first into the accumulator. -/
def ldD (k : Fin 4) (i : ℕ) : Memref sig .tc .vmem S256x2048 .f32 := if i = 0 then accM k else stgM k
/-- The operand's block of load `i`. -/
def parB (k : Fin 4) (c : Dev nD) (i : ℕ) : Memref sig .tc .hbm S256x2048 .f32 :=
  blkM parM (blkOff k (chunk k c i)) (blkOff_inb k _ (chunk_lt k c i))
/-- The number of the block stored by store `i`, counted in places behind. -/
def outN (i : ℕ) : ℕ := if i = 0 then 15 else i - 1
/-- The result's block of store `i`. -/
def outB (k : Fin 4) (c : Dev nD) (i : ℕ) : Memref sig .tc .hbm S256x2048 .f32 :=
  blkM outM (blkOff k (chunk k c (outN i))) (blkOff_inb k _ (chunk_lt k c (outN i)))

abbrev hL : PosShare TreeShare := (fullShare : PosShare TreeShare).left
abbrev hR : PosShare TreeShare := (fullShare : PosShare TreeShare).right

/-- The barrier's unit from one neighbour: that neighbour's four slots of two streams may be written once, and its
    credits of the two other streams may be given. -/
def barPay (c : Dev nD) (k₁ k₂ k₃ k₄ : Fin 4) : sProp 𝕄 :=
  iprop((Wp c k₁ 0 ∗ Wp c k₁ 1) ∗ (Wp c k₂ 0 ∗ Wp c k₂ 1) ∗ reached ER (cel c (crdL k₃)) 0 ∗ reached ER (cel c (crdL k₄)) 0)
/-- Credit `j`: the landing `j` is consumed. -/
def crdPay (c : Dev nD) (k : Fin 4) (j : ℕ) : sProp 𝕄 := iprop(Wp (dn k c) k (j + 1) ∗ Wp (dn k c) k (j + 2))
/-- A load's landing, and the block it was loaded from. -/
def ldPay (c : Dev nD) (k : Fin 4) (i : ℕ) : sProp 𝕄 :=
  iprop(ownsTc c (ldD k i) fullShare (parv X k c i) ∗ ownsTc c (parB k c i) fullShare (parv X k c i))
/-- A store's landing, and half of its source. -/
def stPay (c : Dev nD) (k : Fin 4) (i : ℕ) : sProp 𝕄 :=
  iprop(ownsTc c (outB k c i) fullShare (sv X k (15 + i) c) ∗ ownsTc c (srcM k (15 + i)) hR (sv X k (15 + i) c))
/-- A send's source, back. -/
def sndPay (c : Dev nD) (k : Fin 4) (t : ℕ) : sProp 𝕄 := ownsTc c (srcM k t) hL (sv X k t c)
/-- A landing from upstream. -/
def rcvPay (c : Dev nD) (k : Fin 4) (t : ℕ) : sProp 𝕄 := ownsTc c (slotM k t) fullShare (sv X k t (up k c))

/-- What a transfer of one block adds to a semaphore. -/
def NN : ℕ := (accM 0).view.dmaCredit
theorem NN_pos : 0 < NN := View.dmaCredit_pos _ (by decide)
theorem credit_eq {sp : Space} (m : Memref sig .tc sp S256x2048 .f32) : m.view.dmaCredit = NN := rfl

/-- The duties of round `r` on a cell. -/
def dutiesR : Role → ℕ → Finset ℕ
  | .bar, r => if r = 0 then {0, 1} else ∅
  | .crd _, r => if r = 0 then Finset.range 28 else ∅
  | .ld _, r => if r < 16 then {0} else ∅
  | .st _, r => if r < 16 then {0} else ∅
  | .snd _ _, r => if r < 15 then {0} else ∅
  | .rcv _ _, r => if r < 15 then {0} else ∅
  | .oth, _ => ∅
/-- What one duty adds. -/
def amountR : Role → ℕ
  | .bar => 1
  | .crd _ => 1
  | _ => NN
/-- What one duty hands over, on device `c`. -/
def payR (c : Dev nD) : Role → ℕ → ℕ → sProp 𝕄
  | .bar, _, d => if d = 0 then barPay (rightOf c) 0 1 2 3 else barPay (leftOf c) 2 3 0 1
  | .crd k, _, d => crdPay c k d
  | .ld k, r, _ => ldPay X c k r
  | .st k, r, _ => stPay X c k r
  | .snd k q, r, _ => sndPay X c k (2 * r + q)
  | .rcv k q, r, _ => rcvPay X c k (2 * r + q)
  | .oth, _, _ => iprop(emp)

/-- The schedule. -/
def sch : Rounds.Schedule (GSem nD τ sig) ℕ 𝕄 where
  duties g r := if g.1.2 = .tc then dutiesR (role g.2) r else ∅
  unitless _ := False
  amount g _ _ := amountR (role g.2)
  payload g r d := payR X g.1.1 (role g.2) r d
  amount_pos g _ _ _ := by
    cases role g.2 <;> first | exact Nat.one_pos | exact NN_pos

instance payR_storable (c : Dev nD) (ρ : Role) (r d : ℕ) : BI.Storable (upEmb : UEmb _ 𝕄) (payR X c ρ r d) := by
  cases ρ <;> simp only [payR] <;> (try split) <;>
    first
    | (unfold barPay; infer_instance) | (unfold crdPay; infer_instance) | (unfold ldPay; infer_instance)
    | (unfold stPay; infer_instance) | (unfold sndPay; infer_instance) | (unfold rcvPay; infer_instance) | infer_instance
instance sch_storable (g : GSem nD τ sig) (r d : ℕ) : BI.Storable (upEmb : UEmb _ 𝕄) ((sch X).payload g r d) :=
  payR_storable X g.1.1 (role g.2) r d

section Sched

variable (c : Dev nD) (k : Fin 4) (t r i d : ℕ)

theorem duties_tc (s : SemLoc sig) : (sch X).duties (cel c s) r = dutiesR (role s) r := by
  show (if (cel c s).1.2 = .tc then dutiesR (role s) r else ∅) = _
  exact if_pos rfl
theorem amount_eq (s : SemLoc sig) : (sch X).amount (cel c s) r d = amountR (role s) := rfl
theorem payload_eq (s : SemLoc sig) : (sch X).payload (cel c s) r d = payR X c (role s) r d := rfl
theorem two_mul_div (t : ℕ) : 2 * (t / 2) + t % 2 = t := Nat.div_add_mod t 2

theorem duties_bar : (sch X).duties (cel c barL) 0 = {0, 1} := by rw [duties_tc, role_bar]; rfl
theorem duties_crd : (sch X).duties (cel c (crdL k)) 0 = Finset.range 28 := by rw [duties_tc, role_crd]; rfl
theorem duties_ld (h : i < 16) : (sch X).duties (cel c (ldL k)) i = {0} := by rw [duties_tc, role_ld]; exact if_pos h
theorem duties_st (h : i < 16) : (sch X).duties (cel c (stL k)) i = {0} := by rw [duties_tc, role_st]; exact if_pos h
theorem duties_snd (h : t < 30) : (sch X).duties (cel c (sndL k t)) (t / 2) = {0} := by
  rw [duties_tc, role_snd]; exact if_pos (by omega)
theorem duties_rcv (h : t < 30) : (sch X).duties (cel c (rcvL k t)) (t / 2) = {0} := by
  rw [duties_tc, role_rcv]; exact if_pos (by omega)

theorem amount_bar : (sch X).amount (cel c barL) r d = 1 := by rw [amount_eq, role_bar]; rfl
theorem amount_crd : (sch X).amount (cel c (crdL k)) r d = 1 := by rw [amount_eq, role_crd]; rfl
theorem amount_ld : (sch X).amount (cel c (ldL k)) r d = NN := by rw [amount_eq, role_ld]; rfl
theorem amount_st : (sch X).amount (cel c (stL k)) r d = NN := by rw [amount_eq, role_st]; rfl
theorem amount_snd : (sch X).amount (cel c (sndL k t)) r d = NN := by rw [amount_eq, role_snd]; rfl
theorem amount_rcv : (sch X).amount (cel c (rcvL k t)) r d = NN := by rw [amount_eq, role_rcv]; rfl

theorem payload_bar : (sch X).payload (cel c barL) r d = (if d = 0 then barPay (rightOf c) 0 1 2 3 else barPay (leftOf c) 2 3 0 1) := by
  rw [payload_eq, role_bar]; rfl
theorem payload_crd : (sch X).payload (cel c (crdL k)) r d = crdPay c k d := by rw [payload_eq, role_crd]; rfl
theorem payload_ld : (sch X).payload (cel c (ldL k)) i d = ldPay X c k i := by rw [payload_eq, role_ld]; rfl
theorem payload_st : (sch X).payload (cel c (stL k)) i d = stPay X c k i := by rw [payload_eq, role_st]; rfl
theorem payload_snd : (sch X).payload (cel c (sndL k t)) (t / 2) d = sndPay X c k t := by
  rw [payload_eq, role_snd]; show sndPay X c k _ = _; rw [two_mul_div]
theorem payload_rcv : (sch X).payload (cel c (rcvL k t)) (t / 2) d = rcvPay X c k t := by
  rw [payload_eq, role_rcv]; show rcvPay X c k _ = _; rw [two_mul_div]

/-- A round with the one duty 0 expects its amount, and its rest is its payload. -/
theorem expect_one (g : GSem nD τ sig) (h : (sch X).duties g r = {0}) : (sch X).expect g r = (sch X).amount g r 0 := by
  unfold Schedule.expect Schedule.amountOf; rw [h, Finset.sum_singleton]
theorem rest_one (g : GSem nD τ sig) (h : (sch X).duties g r = {0}) :
    bigSep ((sch X).duties g r \ ∅) (fun u => (sch X).payload g r u) = (sch X).payload g r 0 := by
  rw [Finset.sdiff_empty, h, bigSep_singleton]
theorem expect_bar : (sch X).expect (cel c barL) 0 = 2 := by
  unfold Schedule.expect Schedule.amountOf; rw [duties_bar, Finset.sum_pair (by decide), amount_bar, amount_bar]
theorem expect_crd : (sch X).expect (cel c (crdL k)) 0 = 28 := by
  unfold Schedule.expect Schedule.amountOf; rw [duties_crd]
  rw [Finset.sum_congr rfl fun d _ => amount_crd X c k 0 d]; simp
theorem rest_bar : bigSep ((sch X).duties (cel c barL) 0 \ ∅) (fun u => (sch X).payload (cel c barL) 0 u)
    = iprop(barPay (rightOf c) 0 1 2 3 ∗ barPay (leftOf c) 2 3 0 1) := by
  rw [Finset.sdiff_empty, duties_bar, bigSep_insert (by decide), bigSep_singleton, payload_bar, payload_bar]; rfl

end Sched

end Cert.KernelIdeal.RS

end
-- ==== Proof.RS.Levels.lean ====
/- What a device owes, and the order of the units it owes.

   A device owes its downstream neighbour the 30 writes of each stream and its upstream neighbour the 28 credits of each
   stream. Every such unit has a level that says where in the body it is paid; what is owed from level `l` on is `Ow c l`. A
   wait is permitted while everything still owed has a level above the one waited for. -/
module

public import proofs.«01_k».proof.Proof.RS.Protocol

@[expose] public section

set_option maxRecDepth 65536

noncomputable section

namespace Cert.KernelIdeal.RS

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- Stream `k`'s place in a round. -/
def opos : Fin 4 → ℕ
  | 0 => 0 | 1 => 2 | 2 => 1 | 3 => 3
theorem opos_lt (k : Fin 4) : opos k < 4 := by fin_cases k <;> decide
theorem opos_inj : ∀ k k' : Fin 4, opos k = opos k' → k = k' := by decide

/-- The level of write `t`. -/
def lvS (k : Fin 4) (t : ℕ) : ℕ := 16 * t + 4 * opos k + 3
/-- The round in which credit `j` is given. -/
def crdRound (j : ℕ) : ℕ := if j < 14 then j + 1 else j + 2
/-- The level of credit `j`. -/
def lvC (k : Fin 4) (j : ℕ) : ℕ := 16 * crdRound j + 4 * opos k + 1

theorem lvS_inj {k k' : Fin 4} {t t' : ℕ} (h : lvS k t = lvS k' t') : k = k' ∧ t = t' := by
  have h1 := opos_lt k; have h2 := opos_lt k'
  unfold lvS at h
  exact ⟨opos_inj _ _ (by omega), by omega⟩
theorem lvC_inj {k k' : Fin 4} {t t' : ℕ} (h : lvC k t = lvC k' t') : k = k' ∧ t = t' := by
  have h1 := opos_lt k; have h2 := opos_lt k'
  unfold lvC crdRound at h
  refine ⟨opos_inj _ _ ?_, ?_⟩ <;> split at h <;> split at h <;> omega

/-- Write `t` of stream `k`, towards the downstream neighbour. -/
def tS (c : Dev nD) (p : Fin 4 × ℕ) : CellTallies nD τ sig ℕ := tallyAt (cel (dn p.1 c) (rcvL p.1 p.2)) p.2 NN
/-- Credit `j` of stream `k`, towards the upstream neighbour. -/
def tC (c : Dev nD) (p : Fin 4 × ℕ) : CellTallies nD τ sig ℕ := tallyAt (cel (up p.1 c) (crdL p.1)) p.2 1

def itS : Finset (Fin 4 × ℕ) := Finset.univ ×ˢ Finset.range 30
def itC : Finset (Fin 4 × ℕ) := Finset.univ ×ˢ Finset.range 28
theorem mem_itS (p : Fin 4 × ℕ) : p ∈ itS ↔ p.2 < 30 := by simp [itS]
theorem mem_itC (p : Fin 4 × ℕ) : p ∈ itC ↔ p.2 < 28 := by simp [itC]

/-- What device `c` owes from level `l` on. -/
def Ow (c : Dev nD) (l : ℕ) : CellTallies nD τ sig ℕ :=
  (∑ p ∈ itS.filter (fun p => l ≤ lvS p.1 p.2), tS c p) + ∑ p ∈ itC.filter (fun p => l ≤ lvC p.1 p.2), tC c p
/-- What device `c` owes at the start: that and its neighbours' barrier units. -/
def O₀ (c : Dev nD) : CellTallies nD τ sig ℕ := (Ow c 2 + tallyAt (cel (rightOf c) barL) 0 1) + tallyAt (cel (leftOf c) barL) 0 1

/-- Paying write `t`. -/
theorem Ow_send (c : Dev nD) (k : Fin 4) (t : ℕ) (h : t < 30) :
    Ow c (16 * t + 4 * opos k + 2) = Ow c (16 * t + 4 * opos k + 4) + tallyAt (cel (dn k c) (rcvL k t)) t NN := by
  have hk := opos_lt k
  have h1 : itS.filter (fun p => 16 * t + 4 * opos k + 2 ≤ lvS p.1 p.2)
      = insert (k, t) (itS.filter fun p => 16 * t + 4 * opos k + 4 ≤ lvS p.1 p.2) := by
    ext ⟨k', t'⟩
    have hk' := opos_lt k'
    simp only [Finset.mem_filter, mem_itS, Finset.mem_insert, Prod.mk.injEq]
    by_cases he : lvS k' t' = lvS k t
    · obtain ⟨rfl, rfl⟩ := lvS_inj he
      simp [h, lvS]
    · have : ¬(k' = k ∧ t' = t) := fun ⟨a, b⟩ => he (by rw [a, b])
      simp only [this, false_or]
      unfold lvS at he ⊢; omega
  have h2 : itC.filter (fun p => 16 * t + 4 * opos k + 2 ≤ lvC p.1 p.2)
      = itC.filter fun p => 16 * t + 4 * opos k + 4 ≤ lvC p.1 p.2 := by
    refine Finset.filter_congr fun p _ => ?_
    have hk' := opos_lt p.1
    unfold lvC; omega
  have h3 : (k, t) ∉ itS.filter fun p => 16 * t + 4 * opos k + 4 ≤ lvS p.1 p.2 := by
    rw [Finset.mem_filter]; rintro ⟨-, h⟩; dsimp only [lvS] at h; omega
  unfold Ow
  rw [h1, h2, Finset.sum_insert h3]
  unfold tS; rw [add_assoc, add_comm]

/-- Paying credit `j`. -/
theorem Ow_crd (c : Dev nD) (k : Fin 4) (j : ℕ) (h : j < 28) :
    Ow c (16 * crdRound j + 4 * opos k) = Ow c (16 * crdRound j + 4 * opos k + 2) + tallyAt (cel (up k c) (crdL k)) j 1 := by
  have hk := opos_lt k
  have h1 : itC.filter (fun p => 16 * crdRound j + 4 * opos k ≤ lvC p.1 p.2)
      = insert (k, j) (itC.filter fun p => 16 * crdRound j + 4 * opos k + 2 ≤ lvC p.1 p.2) := by
    ext ⟨k', t'⟩
    have hk' := opos_lt k'
    simp only [Finset.mem_filter, mem_itC, Finset.mem_insert, Prod.mk.injEq]
    by_cases he : lvC k' t' = lvC k j
    · obtain ⟨rfl, rfl⟩ := lvC_inj he
      simp [h, lvC]
    · have : ¬(k' = k ∧ t' = j) := fun ⟨a, b⟩ => he (by rw [a, b])
      simp only [this, false_or]
      unfold lvC at he ⊢; omega
  have h2 : itS.filter (fun p => 16 * crdRound j + 4 * opos k ≤ lvS p.1 p.2)
      = itS.filter fun p => 16 * crdRound j + 4 * opos k + 2 ≤ lvS p.1 p.2 := by
    refine Finset.filter_congr fun p _ => ?_
    have hk' := opos_lt p.1
    unfold lvS; omega
  have h3 : (k, j) ∉ itC.filter fun p => 16 * crdRound j + 4 * opos k + 2 ≤ lvC p.1 p.2 := by
    rw [Finset.mem_filter]; rintro ⟨-, h⟩; dsimp only [lvC] at h; omega
  unfold Ow
  rw [h1, h2, Finset.sum_insert h3]
  unfold tC; rw [← add_assoc, add_right_comm]

/-- Nothing is owed at `l` and at `l'` between which no unit lies. -/
theorem Ow_congr (c : Dev nD) (l l' : ℕ) (hS : ∀ p ∈ itS, (l ≤ lvS p.1 p.2 ↔ l' ≤ lvS p.1 p.2))
    (hC : ∀ p ∈ itC, (l ≤ lvC p.1 p.2 ↔ l' ≤ lvC p.1 p.2)) : Ow c l = Ow c l' := by
  unfold Ow; rw [Finset.filter_congr hS, Finset.filter_congr hC]
/-- No credit is given in rounds 0 and 15. -/
theorem Ow_skip (c : Dev nD) (k : Fin 4) (n : ℕ) (h : n = 0 ∨ n = 15) :
    Ow c (16 * n + 4 * opos k) = Ow c (16 * n + 4 * opos k + 2) := by
  have hk := opos_lt k
  refine Ow_congr c _ _ (fun p _ => ?_) (fun p _ => ?_)
  · have := opos_lt p.1; unfold lvS; omega
  · have := opos_lt p.1; unfold lvC crdRound; split <;> omega
/-- Nothing is owed in round 30. -/
theorem Ow_last (c : Dev nD) (l l' : ℕ) (h : 480 ≤ l) (h' : 480 ≤ l') : Ow c l = Ow c l' := by
  refine Ow_congr c _ _ (fun p hp => ?_) (fun p hp => ?_)
  · have := opos_lt p.1; rw [mem_itS] at hp; unfold lvS; omega
  · have := opos_lt p.1; rw [mem_itC] at hp; unfold lvC crdRound; split <;> omega
theorem Ow_end (c : Dev nD) (l : ℕ) (h : 480 ≤ l) : Ow c l = 0 := by
  unfold Ow
  rw [Finset.filter_false_of_mem, Finset.filter_false_of_mem, Finset.sum_empty, Finset.sum_empty, add_zero]
  · intro p hp; have := opos_lt p.1; rw [mem_itC] at hp; unfold lvC crdRound; split <;> omega
  · intro p hp; have := opos_lt p.1; rw [mem_itS] at hp; unfold lvS; omega
/-- The first round's start. -/
theorem Ow_two (c : Dev nD) : Ow c 2 = Ow c 0 := by
  refine Ow_congr c _ _ (fun p _ => ?_) (fun p _ => ?_)
  · have := opos_lt p.1; unfold lvS; omega
  · have := opos_lt p.1; unfold lvC crdRound; split <;> omega

/-! ## Levels -/

/-- The indices that have levels. -/
def L (g : GSem nD τ sig) : Finset ℕ := if g.1.2 = .tc then Finset.range 64 else ∅
/-- A role's level at an index. -/
def lvR : Role → ℕ → ℕ
  | .bar, _ => 1
  | .crd k, j => lvC k j
  | .rcv k _, t => lvS k t
  | _, _ => 0
def lv (g : GSem nD τ sig) (i : ℕ) : ℕ := lvR (role g.2) i

theorem L_of_ne (g : GSem nD τ sig) (h : g.1.2 ≠ .tc) : L g = ∅ := if_neg h
theorem L_tc (c : Dev nD) (s : SemLoc sig) : L (cel c s) = Finset.range 64 := if_pos rfl

/-- What is owed from `l` on has a level of at least `l`. -/
theorem Ow_pos (c : Dev nD) (l : ℕ) (g : GSem nD τ sig) (i : ℕ) (h : 0 < Ow c l g i) : i ∈ L g ∧ l ≤ lv g i := by
  unfold Ow at h
  rw [Pi.add_apply, Finsupp.add_apply, Finset.sum_apply, Finset.sum_apply, Finsupp.finset_sum_apply, Finsupp.finset_sum_apply] at h
  by_cases h1 : (∑ p ∈ itS.filter (fun p => l ≤ lvS p.1 p.2), tS c p g i) = 0
  · rw [h1, zero_add] at h
    obtain ⟨p, hp, hne⟩ := Finset.exists_ne_zero_of_sum_ne_zero (Nat.ne_of_gt h)
    rw [Finset.mem_filter, mem_itC] at hp
    unfold tC at hne; rw [tallyAt_apply] at hne
    by_cases hh : g = cel (up p.1 c) (crdL p.1) ∧ i = p.2
    · obtain ⟨rfl, rfl⟩ := hh
      refine ⟨by rw [L_tc, Finset.mem_range]; omega, ?_⟩
      show l ≤ lvR (role (crdL p.1)) p.2
      rw [role_crd]; exact hp.2
    · exact absurd (if_neg hh) hne
  · obtain ⟨p, hp, hne⟩ := Finset.exists_ne_zero_of_sum_ne_zero h1
    rw [Finset.mem_filter, mem_itS] at hp
    unfold tS at hne; rw [tallyAt_apply] at hne
    by_cases hh : g = cel (dn p.1 c) (rcvL p.1 p.2) ∧ i = p.2
    · obtain ⟨rfl, rfl⟩ := hh
      refine ⟨by rw [L_tc, Finset.mem_range]; omega, ?_⟩
      show l ≤ lvR (role (rcvL p.1 p.2)) p.2
      rw [role_rcv]; exact hp.2
    · exact absurd (if_neg hh) hne

/-- A wait whose levels lie below everything owed is permitted. -/
theorem mayOwe (c : Dev nD) (l : ℕ) (W : Waits sig ℕ) (hW : ∀ p ∈ W, p.2 < 64 ∧ lv (cel c p.1) p.2 < l) (hl : 0 < l) :
    (levAts L lv : sProp 𝕄) ⊢ MayOwe (Dev.tc c) W (Ow c l) :=
  MayOwe.of_cut (L := L) (lev := lv) (l - 1)
    (fun p hp => by rw [L_tc, Finset.mem_range]; exact (hW p hp).1)
    (fun g i h => (Ow_pos c l g i h).1)
    (fun p hp => by show lv (cel c p.1) p.2 ≤ l - 1; have := (hW p hp).2; omega)
    (fun g i h => by have := (Ow_pos c l g i h).2; omega)

theorem mayWait (c : Dev nD) (l : ℕ) (s : SemLoc sig) (i : ℕ) (hi : i < 64) (h : lvR (role s) i < l) :
    (levAts L lv : sProp 𝕄) ⊢ MayWait (Dev.tc c) s i (Ow c l) :=
  mayOwe c l {(s, i)} (fun p hp => by rw [Finset.mem_singleton.mp hp]; exact ⟨hi, h⟩) (by omega)

end Cert.KernelIdeal.RS

end
-- ==== Proof.RS.Mem.lean ====
/- The body's loads, stores and arithmetic on block-sized buffers, as rules on what the buffers hold. -/
module

public import proofs.«01_k».proof.Proof.RS.Levels
public import Idealize.ShloMosaic.Lib.Pipeline.Value

@[expose] public section

set_option maxRecDepth 65536

noncomputable section

namespace Cert.KernelIdeal.RS

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none
/-- The weakest precondition of a piece of the body on device `c`. -/
abbrev Wc (c : Dev nD) (p : Stp F) (Q : PUnit → sProp 𝕄) : sProp 𝕄 :=
  wp frame (wpE (defs₀ (F := F)) 𝒱₀ (Dev.tc c : Thread nD τ) none) Set.univ p Q

/-- A block-sized buffer held whole, at contents not named. -/
def anyB (c : Dev nD) {sp : Space} (M : Memref sig .tc sp S256x2048 .f32) : sProp 𝕄 := iprop(∃ Y, ownsTc c M fullShare Y)

theorem fullR_emb (j : S256x2048.Idx) : fullR.emb j = j := by
  funext a; apply Fin.ext
  rw [Rect.emb_apply]
  fin_cases a <;> simp [Rect.unit]

theorem readFull {sp : Space} (M : Memref sig .tc sp S256x2048 .f32) (f : M.view.ty.Contents (Elt F)) :
    (M.access fullR).read (Elt F) f = M.view.read (Elt F) f := by
  funext j
  show M.view.read (Elt F) f (fullR.emb j) = _
  rw [fullR_emb]
theorem writeFull {sp : Space} (M : Memref sig .tc sp S256x2048 .f32) (f : M.view.ty.Contents (Elt F)) (w : Blk F) :
    M.view.read (Elt F) ((M.access fullR).write (Elt F) f w Finset.univ) = w := by
  funext j
  have h := View.read_slice_write_emb (v := M.view) (Val := Elt F) fullR f w (x := j) (Finset.mem_univ j)
  rw [fullR_emb] at h; exact h
theorem setFull {sp : Space} (M : Memref sig .tc sp S256x2048 .f32) : (M.access fullR).set ⊆ M.view.set :=
  View.set_slice_subset M.view fullR

/-- Loading a block-sized buffer. -/
theorem load_blk (c : Dev nD) {M : Memref sig .tc .vmem S256x2048 .f32} {hl : M.view.LoadsAt fullR.toLoadRect}
    {q : PosShare TreeShare} {Y : Blk F} {k : Blk F → Stp F} {Q : PUnit → sProp 𝕄} :
    ownsTc c M q Y ⊢ iprop((ownsTc c M q Y -∗ Wc c (k Y) Q) -∗ Wc c (.op (.load M fullR.toLoadRect hl) k) Q) := by
  unfold ownsTc owns
  iintro ⟨%f, %hf, H⟩ Hk
  iapply (wp_load_rect (defs := defs₀) 𝒱₀ (Dev.tc c : Thread nD τ) none Set.univ (m := M) (r := fullR) (hl := hl) (k := k) (q := q)
    (f := f) (S := M.view.set) (setFull M)) $$ [H]
  · iexact H
  iintro H
  rw [readFull, hf]
  iapply Hk
  iexists f
  isplitr; · ipureintro; exact hf
  iexact H

/-- Storing a block-sized buffer. -/
theorem store_blk (c : Dev nD) {M : Memref sig .tc .vmem S256x2048 .f32} {w : Blk F} {hx : (M.access fullR).Stores Finset.univ}
    {hm : (Finset.univ : Finset S256x2048.Idx) = Finset.univ ∨ ∀ a, fullR.stride a = 1}
    {k : PUnit → Stp F} {Q : PUnit → sProp 𝕄} :
    anyB c M ⊢ iprop((ownsTc c M fullShare w -∗ Wc c (k ⟨⟩) Q) -∗ Wc c (.op (.store M fullR w Finset.univ hx hm) k) Q) := by
  unfold anyB ownsTc owns
  iintro ⟨%Y, %f, %hf, H⟩ Hk
  iapply (wp_store (defs := defs₀) 𝒱₀ (Dev.tc c : Thread nD τ) none Set.univ (m := M) (r := fullR) (w := w) (Mk := Finset.univ) (hx := hx) (hm := hm)
    (k := k) (f := f) (S := M.view.set) (setFull M)) $$ [H]
  · iexact H
  iintro H
  iapply Hk
  iexists _
  isplitr
  rotate_left
  · iexact H
  · ipureintro; exact writeFull M f w

/-- Loading a slot through its communication buffer, as the body's payload reads it. -/
theorem load_slot (c : Dev nD) (ks : Fin 4) (t : ℕ) {hl : (comM ks).view.LoadsAt (slotR t).toLoadRect}
    {Y : Blk F} {k : Vec F S1x256x2048 .f32 → Stp F} {Q : PUnit → sProp 𝕄} :
    ownsTc c (slotM ks t) fullShare Y
      ⊢ iprop((∀ v : Vec F S1x256x2048 .f32, ⌜shapeCast S256x2048 v shapeCasts_S1x256x2048_S256x2048 = Y⌝ -∗ ownsTc c (slotM ks t) fullShare Y -∗ Wc c (k v) Q)
        -∗ Wc c (.op (.load (comM ks) (slotR t).toLoadRect hl) k) Q) := by
  unfold ownsTc owns
  iintro ⟨%f, %hf, H⟩ Hk
  iapply (wp_load_rect (defs := defs₀) 𝒱₀ (Dev.tc c : Thread nD τ) none Set.univ (m := comM ks) (r := slotR t) (hl := hl) (k := k) (q := fullShare)
    (f := f) (S := (slotM ks t).view.set) (by
      unfold slotM
      exact (View.set_reshape (v := (comM ks).view.slice (slotR t)) _).symm.subset)) $$ [H]
  · iexact H
  iintro H
  iapply Hk $$ %_ %_ [H]
  · exact hf
  · iexists f
    isplitr; · ipureintro; exact hf
    iexact H

theorem pay1_eq (v : Vec F S1x256x2048 .f32) (w : Blk F) (Y : Blk F)
    (h : shapeCast S256x2048 v shapeCasts_S1x256x2048_S256x2048 = Y) : k0_pay1 v w = sumB Y w := by
  subst h
  unfold k0_pay1 sumB
  exact shapeCast_self _ _

/-- `acc := slot + stage`. -/
theorem op_add (c : Dev nD) (k : Fin 4) (t : ℕ) (A B : Blk F) (p : Stp F) (Q : PUnit → sProp 𝕄) :
    iprop(ownsTc c (slotM k t) fullShare A ∗ ownsTc c (stgM k) fullShare B ∗ anyB c (accM k))
      ⊢ iprop(((ownsTc c (slotM k t) fullShare A ∗ ownsTc c (stgM k) fullShare B ∗ ownsTc c (accM k) fullShare (sumB A B)) -∗ Wc c p Q)
        -∗ Wc c (addStp k t >>= fun _ => p) Q) := by
  unfold addStp
  simp only [Prog.lift, Prog.bind_op, Prog.bind_ret, Prog.pure_eq_ret]
  iintro ⟨Hs, Hg, Ha⟩ Hk
  iapply (load_slot c k t) $$ [Hs]
  · iexact Hs
  iintro %v %hv Hs
  iapply (load_blk c) $$ [Hg]
  · iexact Hg
  iintro Hg
  unfold anyB
  icases Ha with ⟨%Y, Ha⟩
  iapply (load_blk c) $$ [Ha]
  · iexact Ha
  iintro Ha
  iapply (store_blk c) $$ [Ha]
  · unfold anyB; iexists Y; iexact Ha
  iintro Ha
  rw [pay1_eq v B A hv]
  iapply Hk
  isplitl [Hs]; · iexact Hs
  isplitl [Hg] <;> iassumption

/-- The scale in its staging buffer. -/
def sclOwn (c : Dev nD) (s : Elt F .f32) : sProp 𝕄 := ownsTc c sclM fullShare (fun _ => s)

/-- Reading the scale. -/
theorem load_scl (c : Dev nD) (s : Elt F .f32)
    {hl : sclM.view.LoadsAt (Rect.unit (s := S1x1) ![0, 0] S1x1.size inb_S1x1_S1x1_0_0).toLoadRect}
    {k : (S1x1.Idx → Elt F .f32) → Stp F} {Q : PUnit → sProp 𝕄} :
    sclOwn c s ⊢ iprop((sclOwn c s -∗ Wc c (k fun _ => s) Q)
      -∗ Wc c (.op (.load sclM (Rect.unit (s := S1x1) ![0, 0] S1x1.size inb_S1x1_S1x1_0_0).toLoadRect hl) k) Q) := by
  unfold sclOwn ownsTc owns
  iintro ⟨%f, %hf, Hc⟩ Hk
  iapply (wp_load_rect (defs := defs₀) 𝒱₀ (Dev.tc c : Thread nD τ) none Set.univ (m := sclM) (r := Rect.unit (s := S1x1) ![0, 0] S1x1.size inb_S1x1_S1x1_0_0)
    (hl := hl) (k := k) (q := fullShare) (f := f) (S := sclM.view.set) (View.set_slice_subset sclM.view _)) $$ [Hc]
  · iexact Hc
  iintro Hc
  have hv : (sclM.access (Rect.unit (s := S1x1) ![0, 0] S1x1.size inb_S1x1_S1x1_0_0)).read (Elt F) f = fun _ => s := by
    funext j
    show sclM.view.read (Elt F) f _ = s
    rw [hf]
  rw [hv]
  iapply Hk
  iexists f
  isplitr; · ipureintro; exact hf
  iexact Hc

/-- `stage := epilogue (acc, scale)`. -/
theorem op_epi (c : Dev nD) (k : Fin 4) (A : Blk F) (s : Elt F .f32) (p : Stp F) (Q : PUnit → sProp 𝕄) :
    iprop(ownsTc c (accM k) fullShare A ∗ anyB c (stgM k) ∗ sclOwn c s)
      ⊢ iprop(((ownsTc c (accM k) fullShare A ∗ ownsTc c (stgM k) fullShare (epiB A s) ∗ sclOwn c s) -∗ Wc c p Q)
        -∗ Wc c (epiStp k >>= fun _ => p) Q) := by
  unfold epiStp epiB anyB
  simp only [smemLoad, smemLoadElt, Prog.lift, Prog.bind_op, Prog.bind_ret, Prog.pure_eq_ret]
  iintro ⟨Ha, ⟨%Y, Hg⟩, Hc⟩ Hk
  iapply (load_blk c) $$ [Ha]
  · iexact Ha
  iintro Ha
  iapply (load_scl c s) $$ [Hc]
  · iexact Hc
  iintro Hc
  iapply (load_blk c) $$ [Hg]
  · iexact Hg
  iintro Hg
  iapply (store_blk c) $$ [Hg]
  · unfold anyB; iexists Y; iexact Hg
  iintro Hg
  iapply Hk
  isplitl [Ha]; · iexact Ha
  isplitl [Hg]; · iexact Hg
  iexact Hc

end Cert.KernelIdeal.RS

end
-- ==== Proof.RS.Ops.lean ====
/- The body's transfers, signals and waits, as rules on the protocol's state. -/
module

public import proofs.«01_k».proof.Proof.RS.Mem

@[expose] public section

set_option maxRecDepth 65536

noncomputable section

namespace Cert.KernelIdeal.RS

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok)

variable {F : FTy → Type} [FloatOps F]

local notation "𝕄" => MT nD τ sig ℕ (Elt F) ℕ UU ℕ

/-! ## The context -/

theorem bigSep_get {I : Type} [DecidableEq I] {s : Finset I} {Φ : I → sProp 𝕄} {i : I} (h : i ∈ s) : (bigSep s Φ : sProp 𝕄) ⊢ Φ i :=
  bigSep_elim h

def barEmb : Dev nD ↪ GSem nD τ sig := ⟨fun c => cel c barL, fun a b h => by
  have := congrArg (fun g : GSem nD τ sig => g.1.1) h; exact this⟩
def celEmb : Dev nD × SemLoc sig ↪ GSem nD τ sig := ⟨fun x => cel x.1 x.2, fun a b h => by
  have h1 := congrArg (fun g : GSem nD τ sig => g.1.1) h
  have h2 := congrArg (fun g : GSem nD τ sig => g.2) h
  exact Prod.ext h1 h2⟩
/-- The barrier's cells, open from the launch on. -/
def barCells : Finset (GSem nD τ sig) := Finset.univ.map barEmb
/-- The semaphores that live as long as the kernel. -/
def ownSems : Finset (SemLoc sig) := Finset.univ.filter fun s => role s ≠ .oth ∧ role s ≠ .bar
/-- Their cells, which every device opens when the kernel starts. -/
def scCells : Finset (GSem nD τ sig) := (Finset.univ ×ˢ ownSems).map celEmb

theorem cel_mem (c : Dev nD) (s : SemLoc sig) (h : role s ≠ .oth) : cel c s ∈ barCells ∪ scCells := by
  by_cases hb : role s = .bar
  · have hs : ∀ s : SemLoc sig, role s = .bar → s = barL := by decide
    rw [hs s hb]
    exact Finset.mem_union_left _ (Finset.mem_map_of_mem barEmb (Finset.mem_univ c))
  · refine Finset.mem_union_right _ (Finset.mem_map_of_mem celEmb (a := (c, s)) ?_)
    rw [Finset.mem_product]
    exact ⟨Finset.mem_univ _, Finset.mem_filter.mpr ⟨Finset.mem_univ _, h, hb⟩⟩

/-- The slots. -/
def keys : Finset KK := Finset.univ ×ˢ (Finset.univ ×ˢ Finset.range 2)
theorem mem_keys (c : Dev nD) (k : Fin 4) (t : ℕ) : (c, k, t % 2) ∈ keys := by
  simp only [keys, Finset.mem_product, Finset.mem_univ, Finset.mem_range, true_and]; exact Nat.mod_lt _ (by decide)
/-- A slot, held whole. -/
def slotAt (x : KK) : sProp 𝕄 := Release.slot ((slotM x.2.1 x.2.2).view.loc (Dev.tc x.1 : Thread nD τ)) (slotM x.2.1 x.2.2).view.set
instance slotAt_storable (x : KK) : BI.Storable (upEmb : UEmb _ 𝕄) (slotAt (F := F) x) := by unfold slotAt; infer_instance

variable (X : Ins F) (K : GSem nD τ sig → ℕ) (J : KK → ℕ)

/-- What every device knows throughout. -/
def ctx : sProp 𝕄 :=
  iprop(levAts L lv ∗ (bigSep (barCells ∪ scCells) fun g => cellInv ER (sch X) (K g) g)
    ∗ (bigSep keys fun x => slotInv ES (J x) x (slotAt x)) ∗ (bigSep barCells fun g => reached ER g 0))
instance ctx_persistent : BI.Persistent (ctx X K J) := by unfold ctx; infer_instance

theorem ctx_lev : ctx X K J ⊢ (levAts L lv : sProp 𝕄) := by unfold ctx; iintro ⟨H, -, -, -⟩; iexact H
theorem ctx_cell (c : Dev nD) (s : SemLoc sig) (h : role s ≠ .oth) : ctx X K J ⊢ cellInv ER (sch X) (K (cel c s)) (cel c s) := by
  unfold ctx; iintro ⟨-, H, -, -⟩; iapply (bigSep_get (Φ := fun g => cellInv ER (sch X) (K g) g) (cel_mem c s h)); iexact H
theorem ctx_slot (c : Dev nD) (k : Fin 4) (t : ℕ) :
    ctx X K J ⊢ (slotInv ES (J (c, k, t % 2)) (c, k, t % 2) (slotAt (c, k, t % 2)) : sProp 𝕄) := by
  unfold ctx; iintro ⟨-, -, H, -⟩; iapply (bigSep_get (Φ := fun x => (slotInv ES (J x) x (slotAt x) : sProp 𝕄)) (mem_keys c k t)); iexact H
theorem ctx_bar (c : Dev nD) : ctx X K J ⊢ (reached ER (cel c barL) 0 : sProp 𝕄) := by
  unfold ctx; iintro ⟨-, -, -, H⟩
  iapply (bigSep_get (Φ := fun g => (reached ER g 0 : sProp 𝕄)) (Finset.mem_map_of_mem barEmb (Finset.mem_univ c))); iexact H

/-- What device `c` owes from level `l` on, whatever it has waited for. -/
def ows (c : Dev nD) (l : ℕ) : sProp 𝕄 := iprop(∃ W : Waits sig ℕ, owes (Dev.tc c : Thread nD τ) (Ow c l) W)

theorem ows_congr (c : Dev nD) (l l' : ℕ) (h : Ow c l = Ow c l') : (ows c l : sProp 𝕄) = ows c l' := by unfold ows; rw [h]

variable (c : Dev nD) (p : Stp F) (Q : PUnit.{1} → sProp (MT nD τ sig ℕ (Elt F) ℕ UU ℕ))

/-! ## Transfers -/

/-- A wait for a transfer of one block: its round's one payment comes out. -/
theorem wait_blk {s : DmaSem sig} {r i l : ℕ} {P : sProp 𝕄} {sp sp' : Space} {src : Memref sig .tc sp S256x2048 .f32}
    {dst : Memref sig .tc sp' S256x2048 .f32} {h1 : src.view.WordExact} {h2 : dst.view.WordExact} {k : PUnit → Stp F}
    (hr : role (.dma s) ≠ .oth) (hd : (sch X).duties (cel c (.dma s)) r = {0}) (ha : (sch X).amount (cel c (.dma s)) r 0 = NN)
    (hp : (sch X).payload (cel c (.dma s)) r 0 = P) (hi : i < 64) (hl : lvR (role (.dma s)) i < l) :
    iprop(ctx X K J ∗ cred (tallyAt (cel c (.dma s)) i NN) ∗ ows c l ∗ atPos ER (cel c (.dma s)) r ∅ 0)
      ⊢ iprop(((ows c l ∗ atPos ER (cel c (.dma s)) (r + 1) ∅ 0 ∗ reached ER (cel c (.dma s)) (r + 1) ∗ P) -∗ Wc c (k ⟨⟩) Q)
        -∗ Wc c (.op (.waitDma2 s src dst h1 h2) k) Q) := by
  unfold ows
  iintro ⟨#Hx, Hc, ⟨%W, HO⟩, Ha⟩ Hk
  iapply (Rounds.wp_wait_rest_token 𝒱₀ ER (sch X) (Dev.tc c : Thread nD τ) none (κ := K (cel c (.dma s)))
      (wpE_waitDma2_eq (src := src) (dst := dst) 𝒱₀ (Dev.tc c : Thread nD τ) none Set.univ) (Set.mem_univ _) i (O := Ow c l) (W := W) (R := r) (m := 0) (T := ∅)
      ((Nat.zero_add _).trans ((expect_one X r _ hd).trans ha).symm)) $$ [Hc HO Ha]
  · isplitr; · iapply (ctx_cell X K J c (.dma s) hr); iexact Hx
    isplitl [Hc]; · iexact Hc
    isplitl [HO]; · iexact HO
    isplitr
    · iapply (mayWait c l (.dma s) i hi hl); iapply (ctx_lev X K J); iexact Hx
    · iexact Ha
  iintro ⟨HO, Ha, Hr, Hp⟩
  iapply Hk
  isplitl [HO]; · iexists _; iexact HO
  isplitl [Ha]; · iexact Ha
  isplitl [Hr]; · iexact Hr
  rw [← hp]
  iapply (Entails.of_eq (rest_one X r (cel c (.dma s)) hd)) $$ Hp

/-- The start of load `i`. -/
theorem op_ldStart (k : Fin 4) (i : ℕ) (hi : i < 16) (off : Fin 2 → ℕ) (h : ∀ a, off a + S256x2048.size a ≤ S4096x8192.size a)
    (hoff : off = blkOff k (chunk k c i)) (d : Memref sig .tc .vmem S256x2048 .f32) (hd : d.view.WordExact) (hdd : d = ldD k i) :
    iprop(ctx X K J ∗ ownsTc c (parB k c i) fullShare (parv X k c i) ∗ anyB c d ∗ dutyTok ER (cel c (ldL k)) i 0 ∗ reached ER (cel c (ldL k)) i)
      ⊢ iprop((cred (tallyAt (cel c (ldL k)) 0 NN) -∗ Wc c p Q) -∗ Wc c (ldStart k off h d hd >>= fun _ => p) Q) := by
  subst hoff
  unfold ldStart anyB ownsTc owns
  simp only [Prog.lift, Prog.bind_op, Prog.bind_ret, Prog.pure_eq_ret]
  iintro ⟨#Hx, ⟨%f, %hf, Hs⟩, ⟨%Y, %g, -, Hd⟩, Ht, Hr⟩ Hk
  iapply (Rounds.wp_copy_pointsTo 𝒱₀ ER (sch X) (Dev.tc c : Thread nD τ) none (src := parB k c i) (dst := d) (sem := ldL k) (q := fullShare)
      (fs := f) (fd := g) (r := i) (d := 0) (κ := K (cel c (ldL k)))
      (by rw [duties_ld X c k i hi]; exact Finset.mem_singleton_self _) 0 NN rfl (amount_ld X c k i 0)
      (by
        rw [payload_ld X c k i 0]; unfold ldPay ownsTc owns; rw [← hdd]
        iintro ⟨H1, H2⟩
        isplitl [H1]
        · iexists _; isplitr
          rotate_left
          · iexact H1
          · ipureintro; rw [View.read_write_univ, hf]
        · iexists f; isplitr
          · ipureintro; exact hf
          · iexact H2)) $$ [Hs Hd Ht Hr]
  · isplitr; · iapply (ctx_cell X K J c (ldL k) (by rw [role_ld]; exact fun e => by cases e)); iexact Hx
    isplitl [Hs]; · iexact Hs
    isplitl [Hd]; · iexact Hd
    isplitl [Ht] <;> iassumption
  iexact Hk

/-- The wait for load `i`. -/
theorem op_ldWait (k : Fin 4) (i l : ℕ) (hi : i < 16) (hl : 0 < l) (off : Fin 2 → ℕ) (h : ∀ a, off a + S256x2048.size a ≤ S4096x8192.size a)
    (d : Memref sig .tc .vmem S256x2048 .f32) (hd : d.view.WordExact) :
    iprop(ctx X K J ∗ cred (tallyAt (cel c (ldL k)) 0 NN) ∗ ows c l ∗ atPos ER (cel c (ldL k)) i ∅ 0)
      ⊢ iprop(((ows c l ∗ atPos ER (cel c (ldL k)) (i + 1) ∅ 0 ∗ reached ER (cel c (ldL k)) (i + 1) ∗ ldPay X c k i) -∗ Wc c p Q)
        -∗ Wc c (ldWait k off h d hd >>= fun _ => p) Q) := by
  unfold ldWait
  simp only [Prog.lift, Prog.bind_op, Prog.bind_ret, Prog.pure_eq_ret]
  refine wait_blk X K J c Q (k := fun _ => p) (by rw [role_ld]; exact fun e => by cases e) (duties_ld X c k i hi) (amount_ld X c k i 0) (payload_ld X c k i 0) (i := 0) (by decide)
    (by rw [role_ld]; exact hl)

/-- The start of store `i`. -/
theorem op_stStart (k : Fin 4) (i : ℕ) (hi : i < 16) (off : Fin 2 → ℕ) (h : ∀ a, off a + S256x2048.size a ≤ S4096x8192.size a)
    (hoff : off = blkOff k (chunk k c (outN i))) (t : ℕ) (ht : t = 15 + i) :
    iprop(ctx X K J ∗ ownsTc c (srcM k t) hR (sv X k t c) ∗ (∃ Y, ownsTc c (outB k c i) fullShare Y) ∗ dutyTok ER (cel c (stL k)) i 0 ∗ reached ER (cel c (stL k)) i)
      ⊢ iprop((cred (tallyAt (cel c (stL k)) 0 NN) -∗ Wc c p Q) -∗ Wc c (stStart k (srcM k t) (src_wordExact k t) off h >>= fun _ => p) Q) := by
  subst hoff ht
  unfold stStart ownsTc owns
  simp only [Prog.lift, Prog.bind_op, Prog.bind_ret, Prog.pure_eq_ret]
  iintro ⟨#Hx, ⟨%f, %hf, Hs⟩, ⟨%Y, %g, -, Hd⟩, Ht, Hr⟩ Hk
  iapply (Rounds.wp_copy_pointsTo 𝒱₀ ER (sch X) (Dev.tc c : Thread nD τ) none (src := srcM k (15 + i)) (dst := outB k c i) (sem := stL k) (q := hR)
      (fs := f) (fd := g) (r := i) (d := 0) (κ := K (cel c (stL k)))
      (by rw [duties_st X c k i hi]; exact Finset.mem_singleton_self _) 0 NN rfl (amount_st X c k i 0)
      (by
        rw [payload_st X c k i 0]; unfold stPay ownsTc owns
        iintro ⟨H1, H2⟩
        isplitl [H1]
        · iexists _; isplitr
          rotate_left
          · iexact H1
          · ipureintro; rw [View.read_write_univ, hf]
        · iexists f; isplitr
          · ipureintro; exact hf
          · iexact H2)) $$ [Hs Hd Ht Hr]
  · isplitr; · iapply (ctx_cell X K J c (stL k) (by rw [role_st]; exact fun e => by cases e)); iexact Hx
    isplitl [Hs]; · iexact Hs
    isplitl [Hd]; · iexact Hd
    isplitl [Ht] <;> iassumption
  iexact Hk

/-- The wait for store `i`. -/
theorem op_stWait (k : Fin 4) (i l : ℕ) (hi : i < 16) (hl : 0 < l) (s : Memref sig .tc .vmem S256x2048 .f32) (hs : s.view.WordExact)
    (off : Fin 2 → ℕ) (h : ∀ a, off a + S256x2048.size a ≤ S4096x8192.size a) :
    iprop(ctx X K J ∗ cred (tallyAt (cel c (stL k)) 0 NN) ∗ ows c l ∗ atPos ER (cel c (stL k)) i ∅ 0)
      ⊢ iprop(((ows c l ∗ atPos ER (cel c (stL k)) (i + 1) ∅ 0 ∗ reached ER (cel c (stL k)) (i + 1) ∗ stPay X c k i) -∗ Wc c p Q)
        -∗ Wc c (stWait k s hs off h >>= fun _ => p) Q) := by
  unfold stWait
  simp only [Prog.lift, Prog.bind_op, Prog.bind_ret, Prog.pure_eq_ret]
  refine wait_blk X K J c Q (k := fun _ => p) (by rw [role_st]; exact fun e => by cases e) (duties_st X c k i hi) (amount_st X c k i 0) (payload_st X c k i 0) (i := 0) (by decide)
    (by rw [role_st]; exact hl)

/-- What send `t` is paid with: its two duties and the right to take the slot. -/
def sendTok (k : Fin 4) (t : ℕ) : sProp 𝕄 :=
  iprop(dutyTok ER (cel c (sndL k t)) (t / 2) 0 ∗ dutyTok ER (cel (dn k c) (rcvL k t)) (t / 2) 0 ∗ writeTok ES (dn k c, k, t % 2) (t / 2 + 1))

/-- Send `t`. -/
theorem op_snd (k : Fin 4) (t : ℕ) (h : t < 30) :
    iprop(ctx X K J ∗ ows c (16 * t + 4 * opos k + 2) ∗ ownsTc c (srcM k t) hL (sv X k t c) ∗ sendTok c k t
        ∗ reached ER (cel c (sndL k t)) (t / 2) ∗ Wp (dn k c) k t)
      ⊢ iprop(((cred (tallyAt (cel c (sndL k t)) 0 NN) ∗ ows c (16 * t + 4 * opos k + 4)) -∗ Wc c p Q)
        -∗ Wc c (snd k c t (srcM k t) (src_wordExact k t) >>= fun _ => p) Q) := by
  unfold snd ows sendTok Wp ownsTc owns
  simp only [Prog.lift, Prog.bind_op, Prog.bind_ret, Prog.pure_eq_ret]
  iintro ⟨#Hx, ⟨%W, HO⟩, ⟨%f, %hf, Hs⟩, ⟨Ht1, Ht2, Hw⟩, Hr1, ⟨Hrel, Hr2⟩⟩ Hk
  imod (Release.slot_take ES (ι := J (dn k c, k, t % 2)) (k := (dn k c, k, t % 2)) (S := slotAt (dn k c, k, t % 2)) (Set.mem_univ _) (t / 2 + 1)) $$ [Hrel Hw] with Hslot
  · isplitr; · iapply (ctx_slot X K J (dn k c) k t); iexact Hx
    isplitl [Hrel] <;> iassumption
  unfold slotAt Release.slot
  dsimp only
  rw [slotM_mod]
  icases Hslot with ⟨%g, Hd⟩
  iapply (Rounds.wp_send_pointsTo 𝒱₀ ER (sch X) (Dev.tc c : Thread nD τ) none (c' := (Dev.tc (dn k c) : Thread nD τ)) (src := srcM k t) (dst := slotM k t)
      (sS := sndL k t) (sem := rcvL k t) (q := hL) (fs := f) (κ₁ := K (cel c (sndL k t))) (κ₂ := K (cel (dn k c) (rcvL k t)))
      (r₁ := t / 2) (r₂ := t / 2) (d₁ := 0) (d₂ := 0) (fd := g)
      (by rw [duties_snd X c k t h]; exact Finset.mem_singleton_self _) (by rw [duties_rcv X (dn k c) k t h]; exact Finset.mem_singleton_self _)
      t 0 NN rfl (amount_snd X c k t (t / 2) 0) (amount_rcv X (dn k c) k t (t / 2) 0) (Ow c (16 * t + 4 * opos k + 4)) (Ow_send c k t h) (W := W)
      (by
        rw [payload_snd X c k t 0]; unfold sndPay ownsTc owns
        iintro H; iexists f; isplitr
        · ipureintro; exact hf
        · iexact H)
      (by
        rw [payload_rcv X (dn k c) k t 0]; unfold rcvPay ownsTc owns; rw [up_dn]
        iintro H; iexists _; isplitr
        rotate_left
        · iexact H
        · ipureintro; rw [View.read_write_univ, hf])) $$ [Hs Hd HO Ht1 Ht2 Hr1 Hr2]
  · isplitr; · iapply (ctx_cell X K J c (sndL k t) (by rw [role_snd]; exact fun e => by cases e)); iexact Hx
    isplitr; · iapply (ctx_cell X K J (dn k c) (rcvL k t) (by rw [role_rcv]; exact fun e => by cases e)); iexact Hx
    isplitl [Hs]; · iexact Hs
    isplitl [Hd]; · iexact Hd
    isplitl [HO]; · iexact HO
    isplitl [Ht1]; · iexact Ht1
    isplitl [Hr1]; · iexact Hr1
    isplitl [Ht2] <;> iassumption
  iintro ⟨Hc, HO⟩
  iapply Hk
  isplitl [Hc]; · iexact Hc
  iexists W; iexact HO

/-- The wait for send `t` to leave. -/
theorem op_sndWait (k : Fin 4) (t l : ℕ) (h : t < 30) (hl : 0 < l) (s : Memref sig .tc .vmem S256x2048 .f32) (hs : s.view.WordExact) :
    iprop(ctx X K J ∗ cred (tallyAt (cel c (sndL k t)) 0 NN) ∗ ows c l ∗ atPos ER (cel c (sndL k t)) (t / 2) ∅ 0)
      ⊢ iprop(((ows c l ∗ atPos ER (cel c (sndL k t)) (t / 2 + 1) ∅ 0 ∗ reached ER (cel c (sndL k t)) (t / 2 + 1) ∗ sndPay X c k t) -∗ Wc c p Q)
        -∗ Wc c (sndWait k t s hs >>= fun _ => p) Q) := by
  unfold sndWait
  simp only [Prog.lift, Prog.bind_op, Prog.bind_ret, Prog.pure_eq_ret]
  refine wait_blk X K J c Q (k := fun _ => p) (by rw [role_snd]; exact fun e => by cases e) (duties_snd X c k t h) (amount_snd X c k t _ 0) (payload_snd X c k t 0) (i := 0) (by decide)
    (by rw [role_snd]; exact hl)

/-- The wait for the neighbour's send `t`. -/
theorem op_rcvWait (k : Fin 4) (t l : ℕ) (h : t < 30) (hl : lvS k t < l) (s : Memref sig .tc .vmem S256x2048 .f32) (hs : s.view.WordExact) :
    iprop(ctx X K J ∗ cred (tallyAt (cel c (rcvL k t)) t NN) ∗ ows c l ∗ atPos ER (cel c (rcvL k t)) (t / 2) ∅ 0)
      ⊢ iprop(((ows c l ∗ atPos ER (cel c (rcvL k t)) (t / 2 + 1) ∅ 0 ∗ reached ER (cel c (rcvL k t)) (t / 2 + 1) ∗ rcvPay X c k t) -∗ Wc c p Q)
        -∗ Wc c (rcvWait k t s hs >>= fun _ => p) Q) := by
  unfold rcvWait
  simp only [Prog.lift, Prog.bind_op, Prog.bind_ret, Prog.pure_eq_ret]
  refine wait_blk X K J c Q (k := fun _ => p) (by rw [role_rcv]; exact fun e => by cases e) (duties_rcv X c k t h) (amount_rcv X c k t _ 0) (payload_rcv X c k t 0) (i := t) (by omega)
    (by rw [role_rcv]; exact hl)

/-! ## Credits -/

/-- Credit `j` to the upstream neighbour. -/
theorem op_crd (k : Fin 4) (j : ℕ) (h : j < 28) :
    iprop(ctx X K J ∗ ows c (16 * crdRound j + 4 * opos k) ∗ dutyTok ER (cel (up k c) (crdL k)) 0 j ∗ reached ER (cel (up k c) (crdL k)) 0
        ∗ Wp c k (j + 1) ∗ Wp c k (j + 2))
      ⊢ iprop((ows c (16 * crdRound j + 4 * opos k + 2) -∗ Wc c p Q) -∗ Wc c (crd k c >>= fun _ => p) Q) := by
  unfold crd ows
  simp only [semSignalWord, Prog.lift, Prog.bind_op, Prog.bind_ret, Prog.pure_eq_ret]
  iintro ⟨#Hx, ⟨%W, HO⟩, Ht, Hr, H1, H2⟩ Hk
  iapply (Rounds.wp_signal 𝒱₀ ER (sch X) (Dev.tc c : Thread nD τ) none (dst := (Dev.tc (up k c) : Thread nD τ)) (sem := (crdS k).sem) (r := 0) (d := j)
      (κ := K (cel (up k c) (crdL k))) (k' := 1)
      (by
        have := duties_crd X (up k c) k
        rw [this]; exact Finset.mem_range.mpr h) (amount_crd X (up k c) k 0 j) j (Ow c (16 * crdRound j + 4 * opos k + 2)) (Ow_crd c k j h) (W := W))
    $$ [HO Ht Hr H1 H2]
  · isplitr; · iapply (ctx_cell X K J (up k c) (crdL k) (by rw [role_crd]; exact fun e => by cases e)); iexact Hx
    isplitl [HO]; · iexact HO
    isplitl [Ht]; · iexact Ht
    isplitl [H1 H2]
    · rw [payload_crd X (up k c) k 0 j]; unfold crdPay; rw [dn_up]
      isplitl [H1] <;> iassumption
    · iexact Hr
  iintro HO
  iapply Hk
  iexists W; iexact HO

theorem Wp_mono (k : Fin 4) (t t' : ℕ) (h : t' ≤ t) (hp : t' % 2 = t % 2) : (Wp c k t : sProp 𝕄) ⊢ Wp c k t' := by
  unfold Wp
  rw [← rcvL_mod k t, ← rcvL_mod k t', hp]
  iintro ⟨H1, H2⟩
  isplitl [H1]
  · iapply (Release.released_mono ES (show t' / 2 + 1 ≤ t / 2 + 1 by omega)); iexact H1
  · iapply (Rounds.reached_mono ER (show t' / 2 ≤ t / 2 by omega)); iexact H2
/-- A credit no earlier than `m` lets write `m + 2` be made. -/
theorem crdPay_le (k : Fin 4) (m d : ℕ) (h : m ≤ d) : (crdPay c k d : sProp 𝕄) ⊢ Wp (dn k c) k (m + 2) := by
  unfold crdPay
  iintro ⟨H1, H2⟩
  by_cases hp : m % 2 = d % 2
  · iapply (Wp_mono (dn k c) k (d + 2) (m + 2) (by omega) (by omega)); iexact H2
  · iapply (Wp_mono (dn k c) k (d + 1) (m + 2) (by omega) (by omega)); iexact H1
instance crdPay_persistent (k : Fin 4) (j : ℕ) : BI.Persistent (crdPay (F := F) c k j) := by unfold crdPay; infer_instance

/-- The device's own credit cell after `m` credits were taken. -/
def crdSt (k : Fin 4) (m : ℕ) : sProp 𝕄 :=
  if m < 28 then iprop(∃ T : Finset ℕ, ⌜T ⊆ Finset.range 28 ∧ m ≤ T.card⌝ ∗ atPos ER (cel c (crdL k)) 0 T m ∗ bigSep T (fun d => crdPay c k d))
  else atPos ER (cel c (crdL k)) 1 ∅ 0

/-- Of more than `m` credits one is not before the `m`th. -/
theorem exists_late (S : Finset ℕ) (m : ℕ) (h : m < S.card) : ∃ d ∈ S, m ≤ d := by
  by_contra hc
  push Not at hc
  have : S ⊆ Finset.range m := fun d hd => Finset.mem_range.mpr (hc d hd)
  have := Finset.card_le_card this
  rw [Finset.card_range] at this; omega

/-- Taking credit `m`. -/
theorem op_crdWait (k : Fin 4) (m l : ℕ) (h : m < 28) (hl : lvC k m < l) :
    iprop(ctx X K J ∗ ows c l ∗ crdSt c k m ∗ cred (tallyAt (cel c (crdL k)) m 1))
      ⊢ iprop(((ows c l ∗ crdSt c k (m + 1) ∗ Wp (dn k c) k (m + 2)) -∗ Wc c p Q) -∗ Wc c (crdWait k >>= fun _ => p) Q) := by
  have hlev : lvR (role (crdL k)) m < l := by rw [role_crd]; exact hl
  have hrole : role (crdL k) ≠ .oth := by rw [role_crd]; exact fun e => by cases e
  have hcast (T : Finset ℕ) : bigSep T (fun d => (sch X).payload (cel c (crdL k)) 0 d) = bigSep T (fun d => (crdPay c k d : sProp 𝕄)) :=
    bigSep_congr fun d _ => payload_crd X c k 0 d
  unfold crdWait ows
  simp only [semWaitWord, Prog.lift, Prog.bind_op, Prog.bind_ret, Prog.pure_eq_ret]
  rw [crdSt, if_pos h]
  iintro ⟨#Hx, ⟨%W, HO⟩, ⟨%T, %hT, Ha, Hp⟩, Hc⟩ Hk
  by_cases hm : m + 1 < 28
  · iapply (Rounds.wp_wait 𝒱₀ ER (sch X) (Dev.tc c : Thread nD τ) none (κ := K (cel c (crdL k)))
        (wpE_semWait_eq 𝒱₀ (Dev.tc c : Thread nD τ) none Set.univ) (Set.mem_univ _) (cr := Finsupp.single m 1) (O := Ow c l) (W := W) {(crdL k, m)}
        (R := 0) (m := m) (T := T) (Idealize.SL.Util.total_single m 1) (by
          intro x hx
          obtain ⟨i, hi, rfl⟩ := Finset.mem_image.mp hx
          rw [Finset.mem_singleton.mp (Finsupp.support_single_subset hi)]; exact Finset.mem_singleton_self _)) $$ [HO Ha Hc]
    · isplitr; · iapply (ctx_cell X K J c (crdL k) hrole); iexact Hx
      isplitl [Hc]; · iexact Hc
      isplitl [HO]; · iexact HO
      isplitr
      · iapply (mayWait c l (crdL k) m (by omega) hlev); iapply (ctx_lev X K J); iexact Hx
      · iexact Ha
    iintro %S ⟨%hS, HO, Ha, Hn⟩
    obtain ⟨hTS, hSd, hcard⟩ := hS
    rw [duties_crd X c k] at hSd hcard
    rw [expect_crd X c k, Finset.card_sdiff_of_subset hSd, Finset.card_range] at hcard
    have hle := Finset.card_le_card hSd
    rw [Finset.card_range] at hle
    have hcard' : m + 1 ≤ S.card := by
      have : (1#32 : BitVec 32).toNat = 1 := rfl
      omega
    obtain ⟨d, hd, hmd⟩ := exists_late S m (by omega)
    ihave Hn := (Entails.of_eq (hcast (S \ T))) $$ Hn
    ihave Hall := (show iprop(bigSep T (fun d => crdPay c k d) ∗ bigSep (S \ T) (fun d => crdPay c k d)) ⊢ (bigSep S (fun d => (crdPay c k d : sProp 𝕄))) from by
      conv_rhs => rw [← Finset.union_sdiff_of_subset hTS]
      exact Entails.of_eq (bigSep_union Finset.disjoint_sdiff).symm) $$ [Hp Hn]
    · isplitl [Hp] <;> iassumption
    icases Hall with #Hall
    iapply Hk
    isplitl [HO]; · iexists _; iexact HO
    isplitl [Ha]
    · rw [crdSt, if_pos hm]
      iexists S
      isplitr; · ipureintro; exact ⟨hSd, hcard'⟩
      isplitl [Ha]; · iexact Ha
      iexact Hall
    · iapply (crdPay_le c k m d hmd)
      iapply (bigSep_get (Φ := fun d => (crdPay c k d : sProp 𝕄)) hd); iexact Hall
  · obtain rfl : m = 27 := by omega
    iapply (Rounds.wp_wait_rest_token 𝒱₀ ER (sch X) (Dev.tc c : Thread nD τ) none (κ := K (cel c (crdL k)))
        (wpE_semWait_eq 𝒱₀ (Dev.tc c : Thread nD τ) none Set.univ) (Set.mem_univ _) 27 (O := Ow c l) (W := W)
        (R := 0) (m := 27) (T := T) (expect_crd X c k).symm) $$ [HO Ha Hc]
    · isplitr; · iapply (ctx_cell X K J c (crdL k) hrole); iexact Hx
      isplitl [Hc]; · iexact Hc
      isplitl [HO]; · iexact HO
      isplitr
      · iapply (mayWait c l (crdL k) 27 (by omega) hlev); iapply (ctx_lev X K J); iexact Hx
      · iexact Ha
    iintro ⟨HO, Ha, -, Hn⟩
    rw [duties_crd X c k]
    ihave Hn := (Entails.of_eq (hcast (Finset.range 28 \ T))) $$ Hn
    ihave Hall := (show iprop(bigSep T (fun d => crdPay c k d) ∗ bigSep (Finset.range 28 \ T) (fun d => crdPay c k d)) ⊢ (bigSep (Finset.range 28) (fun d => (crdPay c k d : sProp 𝕄))) from by
      conv_rhs => rw [← Finset.union_sdiff_of_subset hT.1]
      exact Entails.of_eq (bigSep_union Finset.disjoint_sdiff).symm) $$ [Hp Hn]
    · isplitl [Hp] <;> iassumption
    iapply Hk
    isplitl [HO]; · iexists _; iexact HO
    isplitl [Ha]
    · rw [crdSt, if_neg (by decide)]; iexact Ha
    · iapply (crdPay_le c k 27 27 le_rfl)
      iapply (bigSep_get (Φ := fun d => (crdPay c k d : sProp 𝕄)) (Finset.mem_range.mpr (show 27 < 28 by decide))); iexact Hall

end Cert.KernelIdeal.RS

end
-- ==== Proof.RS.Comp.lean ====
/- One stream's state on one device, in parts, and the body's operations as rules on these parts. -/
module

public import proofs.«01_k».proof.Proof.RS.Ops

@[expose] public section

set_option maxRecDepth 65536

noncomputable section

namespace Cert.KernelIdeal.RS

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok)

variable {F : FTy → Type} [FloatOps F]

local notation "𝕄" => MT nD τ sig ℕ (Elt F) ℕ UU ℕ

theorem bigSep_head {Φ : ℕ → sProp 𝕄} {a b : ℕ} (h : a < b) :
    (bigSep (Finset.Ico a b) Φ : sProp 𝕄) = iprop(Φ a ∗ bigSep (Finset.Ico (a + 1) b) Φ) := by
  have e : Finset.Ico a b = insert a (Finset.Ico (a + 1) b) := by ext x; simp only [Finset.mem_Ico, Finset.mem_insert]; omega
  rw [e, bigSep_insert (by simp)]; rfl
theorem bigSep_last {Φ : ℕ → sProp 𝕄} (a : ℕ) :
    (bigSep (Finset.range (a + 1)) Φ : sProp 𝕄) = iprop(Φ a ∗ bigSep (Finset.range a) Φ) := by
  rw [Finset.range_add_one, bigSep_insert Finset.notMem_range_self]; rfl
theorem bigSep_out {Φ : ℕ → sProp 𝕄} {a : ℕ} {s : Finset ℕ} (h : a ∈ s) :
    (bigSep s Φ : sProp 𝕄) = iprop(Φ a ∗ bigSep (s.erase a) Φ) := bigSep_erase h

variable (X : Ins F) (K : GSem nD τ sig → ℕ) (J : KK → ℕ) (c : Dev nD) (k : Fin 4) (p : Stp F)
  (Q : PUnit.{1} → sProp (MT nD τ sig ℕ (Elt F) ℕ UU ℕ))

/-! ## Halves -/

theorem split_blk {sp : Space} (M : Memref sig .tc sp S256x2048 .f32) (Y : Blk F) :
    (ownsTc c M fullShare Y : sProp 𝕄) ⊢ iprop(ownsTc c M hL Y ∗ ownsTc c M hR Y) := (owns_halves (Dev.tc c) M fullShare Y).1
theorem join_blk {sp : Space} (M : Memref sig .tc sp S256x2048 .f32) (Y : Blk F) :
    iprop(ownsTc c M hL Y ∗ ownsTc c M hR Y) ⊢ (ownsTc c M fullShare Y : sProp 𝕄) := (owns_halves (Dev.tc c) M fullShare Y).2

/-! ## Loads -/

/-- No load in flight, `i` done. -/
def ldSt (i : ℕ) : sProp 𝕄 :=
  iprop(atPos ER (cel c (ldL k)) i ∅ 0 ∗ reached ER (cel c (ldL k)) i ∗ (bigSep (Finset.Ico i 16) fun j => dutyTok ER (cel c (ldL k)) j 0)
    ∗ bigSep (Finset.range 16) fun j => ownsTc c (parB k c j) fullShare (parv X k c j))
/-- Load `i` in flight. -/
def ldFly (i : ℕ) : sProp 𝕄 :=
  iprop(cred (tallyAt (cel c (ldL k)) 0 NN) ∗ atPos ER (cel c (ldL k)) i ∅ 0 ∗ (bigSep (Finset.Ico (i + 1) 16) fun j => dutyTok ER (cel c (ldL k)) j 0)
    ∗ bigSep ((Finset.range 16).erase i) fun j => ownsTc c (parB k c j) fullShare (parv X k c j))

theorem c_ldStart (i : ℕ) (hi : i < 16) (off : Fin 2 → ℕ) (h : ∀ a, off a + S256x2048.size a ≤ S4096x8192.size a)
    (hoff : off = blkOff k (chunk k c i)) (d : Memref sig .tc .vmem S256x2048 .f32) (hd : d.view.WordExact) (hdd : d = ldD k i) :
    iprop(ctx X K J ∗ ldSt X c k i ∗ anyB c d)
      ⊢ iprop((ldFly X c k i -∗ Wc c p Q) -∗ Wc c (ldStart k off h d hd >>= fun _ => p) Q) := by
  unfold ldSt ldFly
  rw [bigSep_head hi, bigSep_out (Finset.mem_range.mpr hi)]
  iintro ⟨#Hx, ⟨Ha, Hr, ⟨Ht, Hts⟩, ⟨Hp, Hps⟩⟩, Hd⟩ Hk
  iapply (op_ldStart X K J c p Q k i hi off h hoff d hd hdd) $$ [Hr Ht Hp Hd]
  · isplitr; · iexact Hx
    isplitl [Hp]; · iexact Hp
    isplitl [Hd]; · iexact Hd
    isplitl [Ht] <;> iassumption
  iintro Hc
  iapply Hk
  isplitl [Hc]; · iexact Hc
  isplitl [Ha]; · iexact Ha
  isplitl [Hts] <;> iassumption

theorem c_ldWait (i l : ℕ) (hi : i < 16) (hl : 0 < l) (off : Fin 2 → ℕ) (h : ∀ a, off a + S256x2048.size a ≤ S4096x8192.size a)
    (d : Memref sig .tc .vmem S256x2048 .f32) (hd : d.view.WordExact) :
    iprop(ctx X K J ∗ ows c l ∗ ldFly X c k i)
      ⊢ iprop(((ows c l ∗ ldSt X c k (i + 1) ∗ ownsTc c (ldD k i) fullShare (parv X k c i)) -∗ Wc c p Q)
        -∗ Wc c (ldWait k off h d hd >>= fun _ => p) Q) := by
  unfold ldSt ldFly
  rw [bigSep_out (Finset.mem_range.mpr hi)]
  iintro ⟨#Hx, HO, ⟨Hc, Ha, Hts, Hps⟩⟩ Hk
  iapply (op_ldWait X K J c p Q k i l hi hl off h d hd) $$ [HO Hc Ha]
  · isplitr; · iexact Hx
    isplitl [Hc]; · iexact Hc
    isplitl [HO] <;> iassumption
  unfold ldPay
  iintro ⟨HO, Ha, Hr, Hd, Hp⟩
  iapply Hk
  isplitl [HO]; · iexact HO
  isplitr [Hd]
  · isplitl [Ha]; · iexact Ha
    isplitl [Hr]; · iexact Hr
    isplitl [Hts]; · iexact Hts
    isplitl [Hp] <;> iassumption
  · iexact Hd

/-! ## Stores -/

/-- Blocks of the result already stored, and those still to be. -/
def outs (i j : ℕ) : sProp 𝕄 :=
  iprop((bigSep (Finset.range i) fun n => ownsTc c (outB k c n) fullShare (sv X k (15 + n) c))
    ∗ bigSep (Finset.Ico j 16) fun n => iprop(∃ Y, ownsTc c (outB k c n) fullShare Y))
/-- No store in flight, `i` done. -/
def stSt (i : ℕ) : sProp 𝕄 :=
  iprop(atPos ER (cel c (stL k)) i ∅ 0 ∗ reached ER (cel c (stL k)) i ∗ (bigSep (Finset.Ico i 16) fun j => dutyTok ER (cel c (stL k)) j 0)
    ∗ outs X c k i i)
/-- Store `i` in flight. -/
def stFly (i : ℕ) : sProp 𝕄 :=
  iprop(cred (tallyAt (cel c (stL k)) 0 NN) ∗ atPos ER (cel c (stL k)) i ∅ 0 ∗ (bigSep (Finset.Ico (i + 1) 16) fun j => dutyTok ER (cel c (stL k)) j 0)
    ∗ outs X c k i (i + 1))

theorem c_stStart (i : ℕ) (hi : i < 16) (off : Fin 2 → ℕ) (h : ∀ a, off a + S256x2048.size a ≤ S4096x8192.size a)
    (hoff : off = blkOff k (chunk k c (outN i))) (t : ℕ) (ht : t = 15 + i) :
    iprop(ctx X K J ∗ stSt X c k i ∗ ownsTc c (srcM k t) hR (sv X k t c))
      ⊢ iprop((stFly X c k i -∗ Wc c p Q) -∗ Wc c (stStart k (srcM k t) (src_wordExact k t) off h >>= fun _ => p) Q) := by
  unfold stSt stFly outs
  rw [bigSep_head hi, bigSep_head (Φ := fun n => iprop(∃ Y, ownsTc c (outB k c n) fullShare Y)) hi]
  iintro ⟨#Hx, ⟨Ha, Hr, ⟨Ht, Hts⟩, ⟨Hdn, Hd, Hds⟩⟩, Hs⟩ Hk
  iapply (op_stStart X K J c p Q k i hi off h hoff t ht) $$ [Hr Ht Hs Hd]
  · isplitr; · iexact Hx
    isplitl [Hs]; · iexact Hs
    isplitl [Hd]; · iexact Hd
    isplitl [Ht] <;> iassumption
  iintro Hc
  iapply Hk
  isplitl [Hc]; · iexact Hc
  isplitl [Ha]; · iexact Ha
  isplitl [Hts]; · iexact Hts
  isplitl [Hdn] <;> iassumption

theorem c_stWait (i l : ℕ) (hi : i < 16) (hl : 0 < l) (s : Memref sig .tc .vmem S256x2048 .f32) (hs : s.view.WordExact)
    (off : Fin 2 → ℕ) (h : ∀ a, off a + S256x2048.size a ≤ S4096x8192.size a) :
    iprop(ctx X K J ∗ ows c l ∗ stFly X c k i)
      ⊢ iprop(((ows c l ∗ stSt X c k (i + 1) ∗ ownsTc c (srcM k (15 + i)) hR (sv X k (15 + i) c)) -∗ Wc c p Q)
        -∗ Wc c (stWait k s hs off h >>= fun _ => p) Q) := by
  unfold stSt stFly outs
  rw [bigSep_last]
  iintro ⟨#Hx, HO, ⟨Hc, Ha, Hts, Hdn, Hds⟩⟩ Hk
  iapply (op_stWait X K J c p Q k i l hi hl s hs off h) $$ [HO Hc Ha]
  · isplitr; · iexact Hx
    isplitl [Hc]; · iexact Hc
    isplitl [HO] <;> iassumption
  unfold stPay
  iintro ⟨HO, Ha, Hr, Hd, Hp⟩
  iapply Hk
  isplitl [HO]; · iexact HO
  isplitr [Hp]
  · isplitl [Ha]; · iexact Ha
    isplitl [Hr]; · iexact Hr
    isplitl [Hts]; · iexact Hts
    isplitr [Hds]
    · isplitl [Hd] <;> iassumption
    · iexact Hds
  · iexact Hp

/-! ## Sends -/

/-- The send semaphores when `t` sends have left. -/
def sndPos (t : ℕ) : sProp 𝕄 :=
  iprop((atPos ER (cel c (sndL k t)) (t / 2) ∅ 0 ∗ reached ER (cel c (sndL k t)) (t / 2))
    ∗ (atPos ER (cel c (sndL k (t + 1))) ((t + 1) / 2) ∅ 0 ∗ reached ER (cel c (sndL k (t + 1))) ((t + 1) / 2)))
/-- No send in flight, `t` done. -/
def sndSt (t : ℕ) : sProp 𝕄 := iprop(sndPos c k t ∗ bigSep (Finset.Ico t 30) fun j => sendTok c k j)
/-- Send `t` in flight. -/
def sndFly (t : ℕ) : sProp 𝕄 :=
  iprop(cred (tallyAt (cel c (sndL k t)) 0 NN) ∗ sndPos c k t ∗ bigSep (Finset.Ico (t + 1) 30) fun j => sendTok c k j)

theorem div_two (t : ℕ) : t / 2 + 1 = (t + 2) / 2 := by omega

theorem c_snd (t : ℕ) (h : t < 30) :
    iprop(ctx X K J ∗ ows c (16 * t + 4 * opos k + 2) ∗ ownsTc c (srcM k t) hL (sv X k t c) ∗ sndSt c k t ∗ Wp (dn k c) k t)
      ⊢ iprop(((sndFly c k t ∗ ows c (16 * t + 4 * opos k + 4)) -∗ Wc c p Q)
        -∗ Wc c (snd k c t (srcM k t) (src_wordExact k t) >>= fun _ => p) Q) := by
  unfold sndSt sndFly sndPos
  rw [bigSep_head h]
  iintro ⟨#Hx, HO, Hs, ⟨⟨⟨Ha, #Hr⟩, H2⟩, Ht, Hts⟩, Hw⟩ Hk
  iapply (op_snd X K J c p Q k t h) $$ [HO Hs Ht Hw]
  · isplitr; · iexact Hx
    isplitl [HO]; · iexact HO
    isplitl [Hs]; · iexact Hs
    isplitl [Ht]; · iexact Ht
    isplitr; · iexact Hr
    iexact Hw
  iintro ⟨Hc, HO⟩
  iapply Hk
  isplitr [HO]
  · isplitl [Hc]; · iexact Hc
    isplitr [Hts]
    · isplitl [Ha]
      · isplitl [Ha]; · iexact Ha
        iexact Hr
      · iexact H2
    · iexact Hts
  · iexact HO

theorem c_sndWait (t l : ℕ) (h : t < 30) (hl : 0 < l) (s : Memref sig .tc .vmem S256x2048 .f32) (hs : s.view.WordExact) :
    iprop(ctx X K J ∗ ows c l ∗ sndFly c k t)
      ⊢ iprop(((ows c l ∗ sndSt c k (t + 1) ∗ ownsTc c (srcM k t) hL (sv X k t c)) -∗ Wc c p Q)
        -∗ Wc c (sndWait k t s hs >>= fun _ => p) Q) := by
  unfold sndSt sndFly sndPos
  rw [show t + 1 + 1 = t + 2 from rfl, sndL_two, ← div_two t]
  iintro ⟨#Hx, HO, ⟨Hc, ⟨⟨Ha, -⟩, H2⟩, Hts⟩⟩ Hk
  iapply (op_sndWait X K J c p Q k t l h hl s hs) $$ [HO Hc Ha]
  · isplitr; · iexact Hx
    isplitl [Hc]; · iexact Hc
    isplitl [HO] <;> iassumption
  unfold sndPay
  iintro ⟨HO, Ha, Hr, Hp⟩
  iapply Hk
  isplitl [HO]; · iexact HO
  isplitr [Hp]
  · isplitr [Hts]
    · isplitl [H2]; · iexact H2
      isplitl [Ha] <;> iassumption
    · iexact Hts
  · iexact Hp

/-! ## Landings -/

/-- `t` landings taken. -/
def rcvSt (t : ℕ) : sProp 𝕄 :=
  iprop(((atPos ER (cel c (rcvL k t)) (t / 2) ∅ 0) ∗ (atPos ER (cel c (rcvL k (t + 1))) ((t + 1) / 2) ∅ 0))
    ∗ bigSep (Finset.Ico t 30) fun j => cred (tallyAt (cel c (rcvL k j)) j NN))

theorem c_rcvWait (t l : ℕ) (h : t < 30) (hl : lvS k t < l) (s : Memref sig .tc .vmem S256x2048 .f32) (hs : s.view.WordExact) :
    iprop(ctx X K J ∗ ows c l ∗ rcvSt c k t)
      ⊢ iprop(((ows c l ∗ rcvSt c k (t + 1) ∗ reached ER (cel c (rcvL k t)) (t / 2 + 1) ∗ ownsTc c (slotM k t) fullShare (sv X k t (up k c))) -∗ Wc c p Q)
        -∗ Wc c (rcvWait k t s hs >>= fun _ => p) Q) := by
  unfold rcvSt
  rw [bigSep_head h, show t + 1 + 1 = t + 2 from rfl, rcvL_two, ← div_two t]
  iintro ⟨#Hx, HO, ⟨⟨Ha, H2⟩, Hc, Hcs⟩⟩ Hk
  iapply (op_rcvWait X K J c p Q k t l h hl s hs) $$ [HO Hc Ha]
  · isplitr; · iexact Hx
    isplitl [Hc]; · iexact Hc
    isplitl [HO] <;> iassumption
  unfold rcvPay
  iintro ⟨HO, Ha, Hr, Hp⟩
  iapply Hk
  isplitl [HO]; · iexact HO
  isplitl [H2 Ha Hcs]
  · isplitl [H2 Ha]
    · isplitl [H2] <;> iassumption
    · iexact Hcs
  isplitl [Hr] <;> iassumption

/-! ## Releases and credits -/

/-- The reader has released `r` landings. -/
def rdr (r : ℕ) : sProp 𝕄 :=
  iprop((readerAt ES (c, k, r % 2) (r / 2 + 1) ∗ readerAt ES (c, k, (r + 1) % 2) ((r + 1) / 2 + 1)) ∗ Wp c k r ∗ Wp c k (r + 1))

theorem slot_nonempty (t : ℕ) : (slotM k t).view.set.Nonempty :=
  View.set_nonempty (by decide)

/-- A slot goes back to its writer. -/
theorem give_slot (t n : ℕ) :
    iprop(ctx X K J ∗ readerAt ES (c, k, t % 2) n ∗ anyB c (slotM k t))
      ⊢ (|={Set.univ}=> (readerAt ES (c, k, t % 2) (n + 1) ∗ released ES (c, k, t % 2) (n + 1)) : sProp 𝕄) := by
  unfold anyB ownsTc owns
  iintro ⟨#Hx, Hr, ⟨%Y, %f, -, H⟩⟩
  iapply (Release.slot_release ES (ι := J (c, k, t % 2)) (k := (c, k, t % 2)) (S := slotAt (c, k, t % 2)) (Set.mem_univ _)
    (Release.slot_slot_false (slot_nonempty k (t % 2))) n)
  isplitr; · iapply (ctx_slot X K J c k t); iexact Hx
  isplitl [Hr]; · iexact Hr
  unfold slotAt Release.slot
  dsimp only
  rw [slotM_mod]
  iexists f; iexact H

theorem c_release (r : ℕ) :
    iprop(ctx X K J ∗ rdr c k r ∗ anyB c (slotM k r) ∗ reached ER (cel c (rcvL k r)) (r / 2 + 1))
      ⊢ (|={Set.univ}=> rdr c k (r + 1) : sProp 𝕄) := by
  unfold rdr
  rw [show r + 1 + 1 = r + 2 from rfl]
  iintro ⟨#Hx, ⟨⟨Ha, Hb⟩, -, Hw⟩, Hs, Hr⟩
  imod (give_slot X K J c k r (r / 2 + 1)) $$ [Ha Hs] with ⟨Ha, Hrel⟩
  · isplitr; · iexact Hx
    isplitl [Ha] <;> iassumption
  imodintro
  isplitl [Ha Hb]
  · isplitl [Hb]; · iexact Hb
    rw [Nat.add_mod_right, ← div_two r]; iexact Ha
  isplitl [Hw]; · iexact Hw
  unfold Wp
  rw [Nat.add_mod_right, ← div_two r, rcvL_two]
  isplitl [Hrel] <;> iassumption

/-- The credits not yet given. -/
def crdOut (j : ℕ) : sProp 𝕄 := bigSep (Finset.Ico j 28) fun d => dutyTok ER (cel (up k c) (crdL k)) 0 d

theorem c_crd (j : ℕ) (h : j < 28) :
    iprop(ctx X K J ∗ ows c (16 * crdRound j + 4 * opos k) ∗ crdOut c k j ∗ reached ER (cel (up k c) (crdL k)) 0 ∗ rdr c k (j + 1))
      ⊢ iprop(((ows c (16 * crdRound j + 4 * opos k + 2) ∗ crdOut c k (j + 1) ∗ rdr c k (j + 1)) -∗ Wc c p Q) -∗ Wc c (crd k c >>= fun _ => p) Q) := by
  unfold crdOut rdr
  rw [bigSep_head h]
  iintro ⟨#Hx, HO, ⟨Ht, Hts⟩, Hr, Ha, #H1, #H2⟩ Hk
  iapply (op_crd X K J c p Q k j h) $$ [HO Ht Hr]
  · isplitr; · iexact Hx
    isplitl [HO]; · iexact HO
    isplitl [Ht]; · iexact Ht
    isplitl [Hr]; · iexact Hr
    isplitr
    · iexact H1
    · iexact H2
  iintro HO
  iapply Hk
  isplitl [HO]; · iexact HO
  isplitl [Hts]; · iexact Hts
  isplitl [Ha]; · iexact Ha
  isplitr
  · iexact H1
  · iexact H2

/-- `m` credits taken. -/
def crdIn (m : ℕ) : sProp 𝕄 := iprop(crdSt c k m ∗ bigSep (Finset.Ico m 28) fun j => cred (tallyAt (cel c (crdL k)) j 1))

theorem c_crdWait (m l : ℕ) (h : m < 28) (hl : lvC k m < l) :
    iprop(ctx X K J ∗ ows c l ∗ crdIn c k m)
      ⊢ iprop(((ows c l ∗ crdIn c k (m + 1) ∗ Wp (dn k c) k (m + 2)) -∗ Wc c p Q) -∗ Wc c (crdWait k >>= fun _ => p) Q) := by
  unfold crdIn
  rw [bigSep_head h]
  iintro ⟨#Hx, HO, Hs, Hc, Hcs⟩ Hk
  iapply (op_crdWait X K J c p Q k m l h hl) $$ [HO Hs Hc]
  · isplitr; · iexact Hx
    isplitl [HO]; · iexact HO
    isplitl [Hs] <;> iassumption
  iintro ⟨HO, Hs, Hw⟩
  iapply Hk
  isplitl [HO]; · iexact HO
  isplitr [Hw]
  · isplitl [Hs] <;> iassumption
  · iexact Hw

end Cert.KernelIdeal.RS

end
-- ==== Proof.RS.Stream.lean ====
/- One stream's rounds on one device: what it holds before each, and that the round's steps take it to the next. -/
module

public import proofs.«01_k».proof.Proof.RS.Comp

@[expose] public section

set_option maxRecDepth 65536

noncomputable section

namespace Cert.KernelIdeal.RS

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok)

variable {F : FTy → Type} [FloatOps F]

local notation "𝕄" => MT nD τ sig ℕ (Elt F) ℕ UU ℕ

variable (X : Ins F) (K : GSem nD τ sig → ℕ) (J : KK → ℕ) (c : Dev nD) (k : Fin 4) (rest : List (Stp F))
  (Q : PUnit.{1} → sProp (MT nD τ sig ℕ (Elt F) ℕ UU ℕ))

theorem srcM_red (t : ℕ) (h : t < 15) : srcM k t = accM k := if_pos h
theorem srcM_fin : srcM k 15 = stgM k := by unfold srcM; rw [if_neg (by decide), if_pos rfl]
theorem srcM_gat (t : ℕ) (h : 16 ≤ t) : srcM k t = slotM k (t - 1) := by unfold srcM; rw [if_neg (by omega), if_neg (by omega)]
theorem ldD_pos (i : ℕ) (h : 0 < i) : ldD k i = stgM k := if_neg (by omega)

/-- What the barrier told the device about its neighbours. -/
def nbr : sProp 𝕄 := iprop(Wp (dn k c) k 0 ∗ Wp (dn k c) k 1 ∗ reached ER (cel (up k c) (crdL k)) 0)
instance nbr_persistent : BI.Persistent (nbr (F := F) c k) := by unfold nbr; infer_instance
/-- What the streams share: the debts, and the scale. -/
def shr (l : ℕ) : sProp 𝕄 := iprop(ows c l ∗ sclOwn c (X.scl c))

/-- Before round 0. -/
def st0 : sProp 𝕄 :=
  iprop(sndSt c k 0 ∗ rcvSt c k 0 ∗ crdOut c k 0 ∗ crdIn c k 0 ∗ ldSt X c k 1 ∗ rdr c k 0
    ∗ ownsTc c (accM k) fullShare (parv X k c 0) ∗ anyB c (stgM k) ∗ stSt X c k 0)
/-- Before round `s + 1`, `s < 15`. -/
def stR (s : ℕ) : sProp 𝕄 :=
  iprop(sndFly c k s ∗ rcvSt c k s ∗ crdOut c k s ∗ crdIn c k (s - 1) ∗ ldFly X c k (s + 1) ∗ rdr c k s
    ∗ ownsTc c (accM k) hR (sv X k s c) ∗ stSt X c k 0)
/-- The buffer that is free before round `s + 16`. -/
def spare (s : ℕ) : sProp 𝕄 := if s = 0 then anyB c (slotM k 14) else anyB c (stgM k)
/-- Before round `s + 16`, `s < 15`. -/
def stG (s : ℕ) : sProp 𝕄 :=
  iprop(sndFly c k (s + 15) ∗ rcvSt c k (s + 15) ∗ crdOut c k (s + 14) ∗ crdIn c k (s + 14) ∗ ldSt X c k 16 ∗ rdr c k (s + 14)
    ∗ anyB c (accM k) ∗ stFly X c k s ∗ spare c k s ∗ reached ER (cel c (rcvL k (s + 14))) ((s + 14) / 2 + 1))
/-- After round 30. -/
def stE : sProp 𝕄 :=
  iprop(sndSt c k 30 ∗ rcvSt c k 30 ∗ crdOut c k 28 ∗ crdIn c k 28 ∗ ldSt X c k 16 ∗ rdr c k 28
    ∗ anyB c (accM k) ∗ stFly X c k 15 ∗ anyB c (stgM k) ∗ anyB c (slotM k 28) ∗ ownsTc c (slotM k 29) hL (sv X k 30 c))

/-- A rule for a piece of one stream's steps, from `A` at level `l` to `B` at level `l'`. -/
def Rule (ps : List (Stp F)) (A B : sProp (MT nD τ sig ℕ (Elt F) ℕ UU ℕ)) (l l' : ℕ) : Prop :=
  ∀ rest Q, iprop(ctx X K J ∗ nbr c k ∗ A ∗ shr X c l)
    ⊢ iprop(((B ∗ shr X c l') -∗ Wc c (Pipeline.chain rest) Q) -∗ Wc c (Pipeline.chain (ps ++ rest)) Q)

theorem round0 : Rule X K J c k (firstStp k c) (st0 X c k) (stR X c k 0) (4 * opos k) (4 * opos k + 4) := by
  intro rest Q
  have e0 : (ows c (4 * opos k) : sProp 𝕄) = ows c (16 * 0 + 4 * opos k + 2) := by
    refine ows_congr c _ _ ?_
    have := Ow_skip c k 0 (Or.inl rfl)
    rw [Nat.mul_zero, Nat.zero_add] at this ⊢
    exact this
  have e1 : (ows c (4 * opos k + 4) : sProp 𝕄) = ows c (16 * 0 + 4 * opos k + 4) := by rw [Nat.mul_zero, Nat.zero_add]
  unfold firstStp shr st0 stR nbr
  rw [e0, e1]
  simp only [List.cons_append, List.nil_append, Pipeline.chain_cons]
  iintro ⟨#Hx, ⟨#Hw0, -, -⟩, ⟨Hsn, Hrc, Hco, Hci, Hld, Hrd, Hac, Hsg, Hst⟩, HO, Hsc⟩ Hk
  ihave Hac := (split_blk c (accM k) (parv X k c 0)) $$ Hac
  icases Hac with ⟨HaL, HaR⟩
  iapply (c_snd X K J c k _ Q 0 (by decide)) $$ [HO HaL Hsn]
  · isplitr; · iexact Hx
    isplitl [HO]; · iexact HO
    isplitl [HaL]
    · rw [srcM_red k 0 (by decide), sv]; iexact HaL
    isplitl [Hsn]; · iexact Hsn
    iexact Hw0
  iintro ⟨Hsn, HO⟩
  iapply (c_ldStart X K J c k _ Q 1 (by decide) (behOff k c 1) (behOff_inb k c 1) (behOff_eq k c 1) (stgM k) (stg_whole k).wordExact rfl) $$ [Hld Hsg]
  · isplitr; · iexact Hx
    isplitl [Hld] <;> iassumption
  iintro Hld
  iapply Hk
  isplitr [HO Hsc]
  · isplitl [Hsn]; · iexact Hsn
    isplitl [Hrc]; · iexact Hrc
    isplitl [Hco]; · iexact Hco
    isplitl [Hci]; · iexact Hci
    isplitl [Hld]; · iexact Hld
    isplitl [Hrd]; · iexact Hrd
    isplitl [HaR]
    · rw [sv]; iexact HaR
    · iexact Hst
  · isplitl [HO] <;> iassumption

/-- What every later round begins with. -/
theorem both (t l : ℕ) (h : t < 30) (hl : lvS k t < l) :
    iprop(ctx X K J ∗ ows c l ∗ sndFly c k t ∗ rcvSt c k t)
      ⊢ iprop(((ows c l ∗ sndSt c k (t + 1) ∗ ownsTc c (srcM k t) hL (sv X k t c) ∗ rcvSt c k (t + 1)
            ∗ reached ER (cel c (rcvL k t)) (t / 2 + 1) ∗ ownsTc c (slotM k t) fullShare (sv X k t (up k c))) -∗ Wc c (Pipeline.chain rest) Q)
        -∗ Wc c (Pipeline.chain (bothWait k t ++ rest)) Q) := by
  unfold bothWait
  simp only [List.cons_append, List.nil_append, Pipeline.chain_cons]
  iintro ⟨#Hx, HO, Hs, Hr⟩ Hk
  iapply (c_sndWait X K J c k _ Q t l h (by unfold lvS at hl; omega) (srcM k t) (src_wordExact k t)) $$ [HO Hs]
  · isplitr; · iexact Hx
    isplitl [HO] <;> iassumption
  iintro ⟨HO, Hs, Hp⟩
  iapply (c_rcvWait X K J c k _ Q t l h hl (srcM k t) (src_wordExact k t)) $$ [HO Hr]
  · isplitr; · iexact Hx
    isplitl [HO] <;> iassumption
  iintro ⟨HO, Hr, Hh, Hd⟩
  iapply Hk
  isplitl [HO]; · iexact HO
  isplitl [Hs]; · iexact Hs
  isplitl [Hp]; · iexact Hp
  isplitl [Hr]; · iexact Hr
  isplitl [Hh] <;> iassumption

/-- Round `s + 1`, a reduce step. -/
theorem roundR (s : ℕ) (h : s < 14) :
    Rule X K J c k (redStp (s + 1) k c) (stR X c k s) (stR X c k (s + 1)) (16 * (s + 1) + 4 * opos k) (16 * (s + 1) + 4 * opos k + 4) := by
  intro rest Q
  have ecr : crdRound s = s + 1 := if_pos h
  unfold redStp shr stR nbr
  simp only [List.append_assoc, Nat.add_sub_cancel]
  iintro ⟨#Hx, ⟨-, #Hw1, #Hrc⟩, ⟨Hsn, Hrv, Hco, Hci, Hld, Hrd, HaR, Hst⟩, HO, Hsc⟩ Hk
  iapply (both X K J c k _ Q s (16 * (s + 1) + 4 * opos k) (by omega) (by unfold lvS; omega)) $$ [HO Hsn Hrv]
  · isplitr; · iexact Hx
    isplitl [HO]; · iexact HO
    isplitl [Hsn] <;> iassumption
  iintro ⟨HO, Hsn, HaL, Hrv, Hh, Hd⟩
  rw [srcM_red k s (by omega)]
  ihave Hac := (join_blk c (accM k) (sv X k s c)) $$ [HaL HaR]
  · isplitl [HaL] <;> iassumption
  simp only [List.cons_append, List.nil_append, Pipeline.chain_cons]
  iapply (c_ldWait X K J c k _ Q (s + 1) (16 * (s + 1) + 4 * opos k) (by omega) (by omega) (behOff k c (s + 1)) (behOff_inb k c (s + 1))
    (stgM k) (stg_whole k).wordExact) $$ [HO Hld]
  · isplitr; · iexact Hx
    isplitl [HO] <;> iassumption
  iintro ⟨HO, Hld, Hsg⟩
  rw [ldD_pos k (s + 1) (by omega)]
  iapply (op_add c k s (sv X k s (up k c)) (parv X k c (s + 1)) _ Q) $$ [Hd Hsg Hac]
  · isplitl [Hd]; · iexact Hd
    isplitl [Hsg]; · iexact Hsg
    unfold anyB; iexists _; iexact Hac
  iintro ⟨Hd, Hsg, Hac⟩
  imod (c_release X K J c k s) $$ [Hrd Hd Hh] with Hrd
  · isplitr; · iexact Hx
    isplitl [Hrd]; · iexact Hrd
    isplitl [Hd]
    · unfold anyB; iexists _; iexact Hd
    · iexact Hh
  iapply (c_crd X K J c k _ Q s (by omega)) $$ [HO Hco Hrd]
  · isplitr; · iexact Hx
    isplitl [HO]; · rw [ecr]; iexact HO
    isplitl [Hco]; · iexact Hco
    isplitr; · iexact Hrc
    iexact Hrd
  rw [ecr]
  iintro ⟨HO, Hco, Hrd⟩
  have esv : sumB (sv X k s (up k c)) (parv X k c (s + 1)) = sv X k (s + 1) c := by
    rw [sv_red X k (s + 1) (by omega) (by omega), Nat.add_sub_cancel]
  rw [esv]
  ihave Hac := (split_blk c (accM k) (sv X k (s + 1) c)) $$ Hac
  icases Hac with ⟨HaL, HaR⟩
  -- the send and the next load, once write `s + 1` may be made
  have tail : iprop(ctx X K J ∗ (ows c (16 * (s + 1) + 4 * opos k + 2) ∗ sndSt c k (s + 1) ∗ rcvSt c k (s + 1) ∗ crdOut c k (s + 1) ∗ crdIn c k s
        ∗ ldSt X c k (s + 1 + 1) ∗ rdr c k (s + 1) ∗ ownsTc c (stgM k) fullShare (parv X k c (s + 1)) ∗ ownsTc c (accM k) hL (sv X k (s + 1) c)
        ∗ ownsTc c (accM k) hR (sv X k (s + 1) c) ∗ stSt X c k 0 ∗ sclOwn c (X.scl c)) ∗ Wp (dn k c) k (s + 1)
        ∗ (((sndFly c k (s + 1) ∗ rcvSt c k (s + 1) ∗ crdOut c k (s + 1) ∗ crdIn c k (s + 1 - 1) ∗ ldFly X c k (s + 1 + 1) ∗ rdr c k (s + 1)
            ∗ ownsTc c (accM k) hR (sv X k (s + 1) c) ∗ stSt X c k 0) ∗ ows c (16 * (s + 1) + 4 * opos k + 4) ∗ sclOwn c (X.scl c))
          -∗ Wc c (Pipeline.chain rest) Q))
      ⊢ Wc c (Pipeline.chain (snd k c (s + 1) (srcM k (s + 1)) (src_wordExact k (s + 1))
          :: ldStart k (behOff k c (s + 1 + 1)) (behOff_inb k c (s + 1 + 1)) (stgM k) (stg_whole k).wordExact :: rest)) Q := by
    simp only [Pipeline.chain_cons]
    iintro ⟨#Hx, ⟨HO, Hsn, Hrv, Hco, Hci, Hld, Hrd, Hsg, HaL, HaR, Hst, Hsc⟩, Hw, Hk⟩
    iapply (c_snd X K J c k _ Q (s + 1) (by omega)) $$ [HO HaL Hsn Hw]
    · isplitr; · iexact Hx
      isplitl [HO]; · iexact HO
      isplitl [HaL]
      · rw [srcM_red k (s + 1) (by omega)]; iexact HaL
      isplitl [Hsn] <;> iassumption
    iintro ⟨Hsn, HO⟩
    iapply (c_ldStart X K J c k _ Q (s + 1 + 1) (by omega) _ (behOff_inb k c (s + 1 + 1)) (behOff_eq k c (s + 1 + 1)) (stgM k) (stg_whole k).wordExact
      (ldD_pos k _ (by omega)).symm) $$ [Hld Hsg]
    · isplitr; · iexact Hx
      isplitl [Hld]; · iexact Hld
      unfold anyB; iexists _; iexact Hsg
    iintro Hld
    iapply Hk
    isplitr [HO Hsc]
    · isplitl [Hsn]; · iexact Hsn
      isplitl [Hrv]; · iexact Hrv
      isplitl [Hco]; · iexact Hco
      isplitl [Hci]; · iexact Hci
      isplitl [Hld]; · iexact Hld
      isplitl [Hrd]; · iexact Hrd
      isplitl [HaR] <;> iassumption
    · isplitl [HO] <;> iassumption
  by_cases h2 : 2 ≤ s + 1
  · rw [if_pos h2]
    simp only [List.cons_append, List.nil_append, Pipeline.chain_cons] at tail ⊢
    iapply (c_crdWait X K J c k _ Q (s - 1) (16 * (s + 1) + 4 * opos k + 2) (by omega) (by unfold lvC crdRound; split <;> omega)) $$ [HO Hci]
    · isplitr; · iexact Hx
      isplitl [HO] <;> iassumption
    rw [show s - 1 + 1 = s by omega, show s - 1 + 2 = s + 1 by omega]
    iintro ⟨HO, Hci, Hw⟩
    iapply tail
    isplitr; · iexact Hx
    isplitr [Hw Hk]
    · isplitl [HO]; · iexact HO
      isplitl [Hsn]; · iexact Hsn
      isplitl [Hrv]; · iexact Hrv
      isplitl [Hco]; · iexact Hco
      isplitl [Hci]; · iexact Hci
      isplitl [Hld]; · iexact Hld
      isplitl [Hrd]; · iexact Hrd
      isplitl [Hsg]; · iexact Hsg
      isplitl [HaL]; · iexact HaL
      isplitl [HaR]; · iexact HaR
      isplitl [Hst] <;> iassumption
    isplitl [Hw]; · iexact Hw
    iexact Hk
  · rw [if_neg h2]
    obtain rfl : s = 0 := by omega
    simp only [List.cons_append, List.nil_append, Pipeline.chain_cons] at tail ⊢
    iapply tail
    isplitr; · iexact Hx
    isplitr [Hk]
    · isplitl [HO]; · iexact HO
      isplitl [Hsn]; · iexact Hsn
      isplitl [Hrv]; · iexact Hrv
      isplitl [Hco]; · iexact Hco
      isplitl [Hci]; · iexact Hci
      isplitl [Hld]; · iexact Hld
      isplitl [Hrd]; · iexact Hrd
      isplitl [Hsg]; · iexact Hsg
      isplitl [HaL]; · iexact HaL
      isplitl [HaR]; · iexact HaR
      isplitl [Hst] <;> iassumption
    isplitr; · iexact Hw1
    iexact Hk

/-- Round 15, which finishes the block one place ahead. -/
theorem roundF : Rule X K J c k (finStp k c) (stR X c k 14) (stG X c k 0) (16 * 15 + 4 * opos k) (16 * 15 + 4 * opos k + 4) := by
  intro rest Q
  unfold finStp shr stR stG nbr spare
  rw [if_pos rfl]
  simp only [List.append_assoc]
  iintro ⟨#Hx, -, ⟨Hsn, Hrv, Hco, Hci, Hld, Hrd, HaR, Hst⟩, HO, Hsc⟩ Hk
  iapply (both X K J c k _ Q 14 (16 * 15 + 4 * opos k) (by omega) (by unfold lvS; omega)) $$ [HO Hsn Hrv]
  · isplitr; · iexact Hx
    isplitl [HO]; · iexact HO
    isplitl [Hsn] <;> iassumption
  iintro ⟨HO, Hsn, HaL, Hrv, Hh, Hd⟩
  rw [srcM_red k 14 (by omega)]
  ihave Hac := (join_blk c (accM k) (sv X k 14 c)) $$ [HaL HaR]
  · isplitl [HaL] <;> iassumption
  simp only [List.cons_append, List.nil_append, Pipeline.chain_cons]
  iapply (c_ldWait X K J c k _ Q 15 (16 * 15 + 4 * opos k) (by omega) (by omega) (behOff k c 15) (behOff_inb k c 15)
    (stgM k) (stg_whole k).wordExact) $$ [HO Hld]
  · isplitr; · iexact Hx
    isplitl [HO] <;> iassumption
  iintro ⟨HO, Hld, Hsg⟩
  rw [ldD_pos k 15 (by omega)]
  iapply (op_add c k 14 (sv X k 14 (up k c)) (parv X k c 15) _ Q) $$ [Hd Hsg Hac]
  · isplitl [Hd]; · iexact Hd
    isplitl [Hsg]; · iexact Hsg
    unfold anyB; iexists _; iexact Hac
  iintro ⟨Hd, Hsg, Hac⟩
  iapply (op_epi c k (sumB (sv X k 14 (up k c)) (parv X k c 15)) (X.scl c) _ Q) $$ [Hsg Hac Hsc]
  · isplitl [Hac]; · iexact Hac
    isplitl [Hsg]; · unfold anyB; iexists _; iexact Hsg
    iexact Hsc
  iintro ⟨Hac, Hsg, Hsc⟩
  rw [← sv_fin X k c, ← srcM_fin k]
  ihave Hsg := (split_blk c (srcM k 15) (sv X k 15 c)) $$ Hsg
  icases Hsg with ⟨HsL, HsR⟩
  iapply (c_stStart X K J c k _ Q 0 (by decide) (aheadOff k c) (aheadOff_inb k c) (aheadOff_eq k c) 15 rfl) $$ [Hst HsR]
  · isplitr; · iexact Hx
    isplitl [Hst] <;> iassumption
  iintro Hst
  iapply (c_crdWait X K J c k _ Q 13 (16 * 15 + 4 * opos k) (by omega) (by unfold lvC crdRound; split <;> omega)) $$ [HO Hci]
  · isplitr; · iexact Hx
    isplitl [HO] <;> iassumption
  iintro ⟨HO, Hci, Hw⟩
  have eo : (ows c (16 * 15 + 4 * opos k) : sProp 𝕄) = ows c (16 * 15 + 4 * opos k + 2) := ows_congr c _ _ (Ow_skip c k 15 (Or.inr rfl))
  ihave HO := (Entails.of_eq eo) $$ HO
  iapply (c_snd X K J c k _ Q 15 (by omega)) $$ [HO HsL Hsn Hw]
  · isplitr; · iexact Hx
    isplitl [HO]; · iexact HO
    isplitl [HsL]; · iexact HsL
    isplitl [Hsn] <;> iassumption
  iintro ⟨Hsn, HO⟩
  iapply Hk
  isplitr [HO Hsc]
  · isplitl [Hsn]; · iexact Hsn
    isplitl [Hrv]; · iexact Hrv
    isplitl [Hco]; · iexact Hco
    isplitl [Hci]; · iexact Hci
    isplitl [Hld]; · iexact Hld
    isplitl [Hrd]; · iexact Hrd
    isplitl [Hac]; · unfold anyB; iexists _; iexact Hac
    isplitl [Hst]; · iexact Hst
    isplitl [Hd]; · unfold anyB; iexists _; iexact Hd
    iexact Hh
  · isplitl [HO] <;> iassumption

/-- The offsets of a gather step's block. -/
theorem outOff_eq (s : ℕ) : outOff k c s = blkOff k (chunk k c (outN s)) := by
  unfold outOff outN
  split
  · exact aheadOff_eq k c
  · exact behOff_eq k c _

/-- After the waits of round `s + 16` the source of its send is whole again, and so is the buffer the last send left from. -/
theorem freeS (s : ℕ) (Y : Blk F) :
    iprop(spare c k s ∗ ownsTc c (srcM k (s + 15)) fullShare Y) ⊢ (iprop(anyB c (slotM k (s + 14)) ∗ anyB c (stgM k)) : sProp 𝕄) := by
  unfold spare
  by_cases h : s = 0
  · subst h
    rw [if_pos rfl, srcM_fin]
    iintro ⟨H1, H2⟩
    isplitl [H1]; · iexact H1
    unfold anyB; iexists _; iexact H2
  · rw [if_neg h, srcM_gat k (s + 15) (by omega), show s + 15 - 1 = s + 14 by omega]
    iintro ⟨H1, H2⟩
    isplitl [H2]
    · unfold anyB; iexists _; iexact H2
    · iexact H1

/-- The waits of round `s + 16`. -/
theorem gatWaits (s : ℕ) (h : s < 15) (W : List (Stp F)) :
    iprop(ctx X K J ∗ (ows c (16 * (s + 16) + 4 * opos k) ∗ sndFly c k (s + 15) ∗ rcvSt c k (s + 15) ∗ stFly X c k s ∗ spare c k s))
      ⊢ iprop(((ows c (16 * (s + 16) + 4 * opos k) ∗ sndSt c k (s + 16) ∗ rcvSt c k (s + 16) ∗ stSt X c k (s + 1)
            ∗ reached ER (cel c (rcvL k (s + 15))) ((s + 15) / 2 + 1) ∗ anyB c (slotM k (s + 14)) ∗ anyB c (stgM k)
            ∗ ownsTc c (srcM k (s + 16)) fullShare (sv X k (s + 16) c)) -∗ Wc c (Pipeline.chain W) Q)
        -∗ Wc c (Pipeline.chain (bothWait k (s + 15) ++ (stWait k (srcM k (s + 15)) (src_wordExact k (s + 15)) (outOff k c s) (outOff_inb k c s) :: W))) Q) := by
  iintro ⟨#Hx, HO, Hsn, Hrv, Hst, Hsp⟩ Hk
  iapply (both X K J c k _ Q (s + 15) (16 * (s + 16) + 4 * opos k) (by omega) (by unfold lvS; omega)) $$ [HO Hsn Hrv]
  · isplitr; · iexact Hx
    isplitl [HO]; · iexact HO
    isplitl [Hsn] <;> iassumption
  iintro ⟨HO, Hsn, HsL, Hrv, Hh, Hd⟩
  simp only [Pipeline.chain_cons]
  iapply (c_stWait X K J c k _ Q s (16 * (s + 16) + 4 * opos k) (by omega) (by omega) (srcM k (s + 15)) (src_wordExact k (s + 15)) (outOff k c s) (outOff_inb k c s)) $$ [HO Hst]
  · isplitr; · iexact Hx
    isplitl [HO] <;> iassumption
  rw [Nat.add_comm 15 s]
  iintro ⟨HO, Hst, HsR⟩
  ihave Hs := (join_blk c (srcM k (s + 15)) (sv X k (s + 15) c)) $$ [HsL HsR]
  · isplitl [HsL] <;> iassumption
  ihave Hf := (freeS c k s (sv X k (s + 15) c)) $$ [Hsp Hs]
  · isplitl [Hsp] <;> iassumption
  icases Hf with ⟨Hf1, Hf2⟩
  iapply Hk
  isplitl [HO]; · iexact HO
  isplitl [Hsn]; · iexact Hsn
  isplitl [Hrv]; · iexact Hrv
  isplitl [Hst]; · iexact Hst
  isplitl [Hh]; · iexact Hh
  isplitl [Hf1]; · iexact Hf1
  isplitl [Hf2]; · iexact Hf2
  rw [srcM_gat k (s + 16) (by omega), sv_gat X k (s + 16) (by omega), show s + 16 - 1 = s + 15 by omega]
  iexact Hd

/-- Round `s + 16`, a gather step but the last. -/
theorem roundG (s : ℕ) (h : s < 14) :
    Rule X K J c k (gatStp (s + 1) k c) (stG X c k s) (stG X c k (s + 1)) (16 * (s + 16) + 4 * opos k) (16 * (s + 16) + 4 * opos k + 4) := by
  intro rest Q
  have ecr : crdRound (s + 14) = s + 16 := if_neg (by omega)
  unfold gatStp shr stG nbr
  rw [if_pos (show s + 1 < 15 by omega), if_pos (show s + 1 < 15 by omega)]
  simp only [List.append_assoc, Nat.add_sub_cancel, List.cons_append, List.nil_append]
  simp only [show 14 + (s + 1) = s + 15 by omega, show 15 + (s + 1) = s + 16 by omega]
  iintro ⟨#Hx, ⟨-, -, #Hrc⟩, ⟨Hsn, Hrv, Hco, Hci, Hld, Hrd, Hac, Hst, Hsp, Hh⟩, HO, Hsc⟩ Hk
  iapply (gatWaits X K J c k Q s (by omega) _) $$ [HO Hsn Hrv Hst Hsp]
  · isplitr; · iexact Hx
    isplitl [HO]; · iexact HO
    isplitl [Hsn]; · iexact Hsn
    isplitl [Hrv]; · iexact Hrv
    isplitl [Hst] <;> iassumption
  iintro ⟨HO, Hsn, Hrv, Hst, Hh', Hf, Hsg, Hs⟩
  imod (c_release X K J c k (s + 14)) $$ [Hrd Hf Hh] with Hrd
  · isplitr; · iexact Hx
    isplitl [Hrd]; · iexact Hrd
    isplitl [Hf] <;> iassumption
  simp only [Pipeline.chain_cons]
  iapply (c_crd X K J c k _ Q (s + 14) (by omega)) $$ [HO Hco Hrd]
  · isplitr; · iexact Hx
    isplitl [HO]; · rw [ecr]; iexact HO
    isplitl [Hco]; · iexact Hco
    isplitr; · iexact Hrc
    iexact Hrd
  rw [ecr]
  iintro ⟨HO, Hco, Hrd⟩
  iapply (c_crdWait X K J c k _ Q (s + 14) (16 * (s + 16) + 4 * opos k + 2) (by omega) (by unfold lvC; rw [ecr]; omega)) $$ [HO Hci]
  · isplitr; · iexact Hx
    isplitl [HO] <;> iassumption
  iintro ⟨HO, Hci, Hw⟩
  ihave Hs := (split_blk c (srcM k (s + 16)) (sv X k (s + 16) c)) $$ Hs
  icases Hs with ⟨HsL, HsR⟩
  iapply (c_snd X K J c k _ Q (s + 16) (by omega)) $$ [HO HsL Hsn Hw]
  · isplitr; · iexact Hx
    isplitl [HO]; · iexact HO
    isplitl [HsL]; · iexact HsL
    isplitl [Hsn] <;> iassumption
  iintro ⟨Hsn, HO⟩
  iapply (c_stStart X K J c k _ Q (s + 1) (by omega) (outOff k c (s + 1)) (outOff_inb k c (s + 1)) (outOff_eq c k (s + 1)) (s + 16) (by omega)) $$ [Hst HsR]
  · isplitr; · iexact Hx
    isplitl [Hst] <;> iassumption
  iintro Hst
  iapply Hk
  isplitr [HO Hsc]
  · isplitl [Hsn]; · iexact Hsn
    isplitl [Hrv]; · iexact Hrv
    isplitl [Hco]; · iexact Hco
    isplitl [Hci]; · iexact Hci
    isplitl [Hld]; · iexact Hld
    isplitl [Hrd]; · iexact Hrd
    isplitl [Hac]; · iexact Hac
    isplitl [Hst]; · iexact Hst
    isplitl [Hsg]; · unfold spare; rw [if_neg (by omega)]; iexact Hsg
    iexact Hh'
  · isplitl [HO] <;> iassumption

/-- Round 30, the last gather step. -/
theorem roundE : Rule X K J c k (gatStp 15 k c) (stG X c k 14) (stE X c k) (16 * 30 + 4 * opos k) (16 * 30 + 4 * opos k + 4) := by
  intro rest Q
  unfold gatStp shr stG stE nbr
  rw [if_neg (show ¬(15 < 15) by omega), if_neg (show ¬(15 < 15) by omega)]
  simp only [List.append_assoc, List.cons_append, List.nil_append]
  iintro ⟨#Hx, -, ⟨Hsn, Hrv, Hco, Hci, Hld, Hrd, Hac, Hst, Hsp, -⟩, HO, Hsc⟩ Hk
  iapply (gatWaits X K J c k Q 14 (by omega) _) $$ [HO Hsn Hrv Hst Hsp]
  · isplitr; · iexact Hx
    isplitl [HO]; · iexact HO
    isplitl [Hsn]; · iexact Hsn
    isplitl [Hrv]; · iexact Hrv
    isplitl [Hst] <;> iassumption
  iintro ⟨HO, Hsn, Hrv, Hst, -, Hf, Hsg, Hs⟩
  simp only [Pipeline.chain_cons]
  ihave Hs := (split_blk c (srcM k 30) (sv X k 30 c)) $$ Hs
  icases Hs with ⟨HsL, HsR⟩
  iapply (c_stStart X K J c k _ Q 15 (by omega) (outOff k c 15) (outOff_inb k c 15) (outOff_eq c k 15) 30 (by omega)) $$ [Hst HsR]
  · isplitr; · iexact Hx
    isplitl [Hst] <;> iassumption
  iintro Hst
  iapply Hk
  rw [ows_congr c (16 * 30 + 4 * opos k + 4) (16 * (14 + 16) + 4 * opos k) (Ow_last c _ _ (by omega) (by omega))]
  isplitr [HO Hsc]
  · isplitl [Hsn]; · iexact Hsn
    isplitl [Hrv]; · iexact Hrv
    isplitl [Hco]; · iexact Hco
    isplitl [Hci]; · iexact Hci
    isplitl [Hld]; · iexact Hld
    isplitl [Hrd]; · iexact Hrd
    isplitl [Hac]; · iexact Hac
    isplitl [Hst]; · iexact Hst
    isplitl [Hsg]; · iexact Hsg
    isplitl [Hf]; · iexact Hf
    rw [srcM_gat k 30 (by omega)]; iexact HsL
  · isplitl [HO] <;> iassumption

/-- The last store's wait. -/
theorem last (l : ℕ) (hl : 0 < l) :
    iprop(ctx X K J ∗ ows c l ∗ stFly X c k 15 ∗ ownsTc c (slotM k 29) hL (sv X k 30 c))
      ⊢ iprop(((ows c l ∗ stSt X c k 16 ∗ anyB c (slotM k 29)) -∗ Wc c (Pipeline.chain rest) Q)
        -∗ Wc c (Pipeline.chain (lastWait k c :: rest)) Q) := by
  unfold lastWait
  simp only [Pipeline.chain_cons]
  iintro ⟨#Hx, HO, Hst, HsL⟩ Hk
  iapply (c_stWait X K J c k _ Q 15 l (by omega) hl (srcM k 30) (src_wordExact k 30) (outOff k c 15) (outOff_inb k c 15)) $$ [HO Hst]
  · isplitr; · iexact Hx
    isplitl [HO] <;> iassumption
  rw [show 15 + 15 = 30 from rfl, srcM_gat k 30 (by omega)]
  iintro ⟨HO, Hst, HsR⟩
  iapply Hk
  isplitl [HO]; · iexact HO
  isplitl [Hst]; · iexact Hst
  unfold anyB
  iexists _
  iapply (join_blk c (slotM k 29) (sv X k 30 c))
  isplitl [HsL] <;> iassumption

end Cert.KernelIdeal.RS

end
-- ==== Proof.RS.Device.lean ====
/- The rounds of all four streams together, one after the other. -/
module

public import proofs.«01_k».proof.Proof.RS.Stream

@[expose] public section

set_option maxRecDepth 65536

noncomputable section

namespace Cert.KernelIdeal.RS

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok)

variable {F : FTy → Type} [FloatOps F]

local notation "𝕄" => MT nD τ sig ℕ (Elt F) ℕ UU ℕ

variable (X : Ins F) (K : GSem nD τ sig → ℕ) (J : KK → ℕ) (c : Dev nD) (rest : List (Stp F))
  (Q : PUnit.{1} → sProp (MT nD τ sig ℕ (Elt F) ℕ UU ℕ))

/-- The four streams' parts. -/
def four (A : Fin 4 → sProp (MT nD τ sig ℕ (Elt F) ℕ UU ℕ)) : sProp 𝕄 := iprop(A 0 ∗ A 2 ∗ A 1 ∗ A 3)

/-- What the barrier told the device, for all streams. -/
def nbrs : sProp 𝕄 := iprop(nbr c 0 ∗ nbr c 1 ∗ nbr c 2 ∗ nbr c 3)
instance nbrs_persistent : BI.Persistent (nbrs (F := F) c) := by unfold nbrs; infer_instance

/-- One piece of each stream, in the body's order. -/
theorem four_rule (n : ℕ) (ps : Fin 4 → List (Stp F)) (A B : Fin 4 → sProp (MT nD τ sig ℕ (Elt F) ℕ UU ℕ))
    (h : ∀ k, Rule X K J c k (ps k) (A k) (B k) (16 * n + 4 * opos k) (16 * n + 4 * opos k + 4)) :
    iprop(ctx X K J ∗ nbrs c ∗ four A ∗ shr X c (16 * n))
      ⊢ iprop(((four B ∗ shr X c (16 * (n + 1))) -∗ Wc c (Pipeline.chain rest) Q) -∗ Wc c (Pipeline.chain (ord.flatMap ps ++ rest)) Q) := by
  unfold four nbrs
  have h0 : Rule X K J c 0 (ps 0) (A 0) (B 0) (16 * n) (16 * n + 4) := h 0
  have h2 : Rule X K J c 2 (ps 2) (A 2) (B 2) (16 * n + 4) (16 * n + 8) := h 2
  have h1 : Rule X K J c 1 (ps 1) (A 1) (B 1) (16 * n + 8) (16 * n + 12) := h 1
  have h3 : Rule X K J c 3 (ps 3) (A 3) (B 3) (16 * n + 12) (16 * (n + 1)) := h 3
  iintro ⟨#Hx, ⟨#H0, #H1, #H2, #H3⟩, ⟨A0, A2, A1, A3⟩, Hs⟩ Hk
  rw [show ord.flatMap ps ++ rest = ps 0 ++ (ps 2 ++ (ps 1 ++ (ps 3 ++ rest))) by simp [ord]]
  iapply (h0 _ Q) $$ [A0 Hs]
  · isplitr; · iexact Hx
    isplitr; · iexact H0
    isplitl [A0] <;> iassumption
  iintro ⟨B0, Hs⟩
  iapply (h2 _ Q) $$ [A2 Hs]
  · isplitr; · iexact Hx
    isplitr; · iexact H2
    isplitl [A2] <;> iassumption
  iintro ⟨B2, Hs⟩
  iapply (h1 _ Q) $$ [A1 Hs]
  · isplitr; · iexact Hx
    isplitr; · iexact H1
    isplitl [A1] <;> iassumption
  iintro ⟨B1, Hs⟩
  iapply (h3 _ Q) $$ [A3 Hs]
  · isplitr; · iexact Hx
    isplitr; · iexact H3
    isplitl [A3] <;> iassumption
  iintro ⟨B3, Hs⟩
  iapply Hk
  isplitr [Hs]
  · isplitl [B0]; · iexact B0
    isplitl [B2]; · iexact B2
    isplitl [B1] <;> iassumption
  · iexact Hs

/-- A stream before round `n`. -/
def stN (k : Fin 4) (n : ℕ) : sProp 𝕄 :=
  if n = 0 then st0 X c k else if n ≤ 15 then stR X c k (n - 1) else if n ≤ 30 then stG X c k (n - 16) else stE X c k

theorem stN_red (k : Fin 4) (n : ℕ) (h : n < 15) : stN X c k (n + 1) = stR X c k n := by
  unfold stN; rw [if_neg (by omega), if_pos (by omega)]; rfl
theorem stN_gat (k : Fin 4) (n : ℕ) (h : n < 15) : stN X c k (n + 16) = stG X c k n := by
  unfold stN; rw [if_neg (by omega), if_neg (by omega), if_pos (by omega)]; rfl
theorem stN_end (k : Fin 4) : stN X c k 31 = stE X c k := by
  unfold stN; rw [if_neg (by omega), if_neg (by omega), if_neg (by omega)]

theorem rule_at (k : Fin 4) (n : ℕ) (h : n < 31) :
    Rule X K J c k (roundStp n c k) (stN X c k n) (stN X c k (n + 1)) (16 * n + 4 * opos k) (16 * n + 4 * opos k + 4) := by
  rcases Nat.eq_zero_or_pos n with rfl | h0
  · have := round0 X K J c k
    rw [stN_red X c k 0 (by omega), Nat.mul_zero, Nat.zero_add]
    exact this
  by_cases h1 : n < 15
  · obtain ⟨s, rfl⟩ : ∃ s, n = s + 1 := ⟨n - 1, by omega⟩
    rw [stN_red X c k s (by omega), stN_red X c k (s + 1) (by omega),
      show roundStp (F := F) (s + 1) c k = redStp (s + 1) k c by unfold roundStp; rw [if_neg (by omega), if_pos h1]]
    exact roundR X K J c k s (by omega)
  by_cases h2 : n = 15
  · subst h2
    rw [stN_red X c k 14 (by omega), stN_gat X c k 0 (by omega), show roundStp (F := F) 15 c k = finStp k c from rfl]
    exact roundF X K J c k
  by_cases h3 : n = 30
  · subst h3
    rw [stN_end, stN_gat X c k 14 (by omega), show roundStp (F := F) 30 c k = gatStp 15 k c from rfl]
    exact roundE X K J c k
  · obtain ⟨s, rfl⟩ : ∃ s, n = s + 16 := ⟨n - 16, by omega⟩
    rw [stN_gat X c k s (by omega), show s + 16 + 1 = s + 1 + 16 by omega, stN_gat X c k (s + 1) (by omega),
      show roundStp (F := F) (s + 16) c k = gatStp (s + 1) k c by
        unfold roundStp; rw [if_neg (by omega), if_neg (by omega), if_neg (by omega)]; exact congrArg (fun z => gatStp z k c) (by omega)]
    exact roundG X K J c k s (by omega)

/-- The rounds from `a` on. -/
theorem rounds (m : ℕ) : ∀ a, a + m ≤ 31 →
    iprop(ctx X K J ∗ nbrs c ∗ four (fun k => stN X c k a) ∗ shr X c (16 * a))
      ⊢ iprop(((four (fun k => stN X c k (a + m)) ∗ shr X c (16 * (a + m))) -∗ Wc c (Pipeline.chain rest) Q)
        -∗ Wc c (Pipeline.chain (((List.range' a m).flatMap fun n => ord.flatMap (roundStp n c)) ++ rest)) Q) := by
  induction m with
  | zero =>
    intro a _
    iintro ⟨-, -, HA, Hs⟩ Hk
    iapply Hk
    isplitl [HA] <;> iassumption
  | succ m ih =>
    intro a ha
    rw [List.range'_succ, List.flatMap_cons, List.append_assoc, show a + (m + 1) = a + 1 + m by omega]
    iintro ⟨#Hx, #Hn, HA, Hs⟩ Hk
    iapply (four_rule X K J c _ Q a (roundStp a c) (fun k => stN X c k a) (fun k => stN X c k (a + 1)) (fun k => rule_at X K J c k a (by omega))) $$ [HA Hs]
    · isplitr; · iexact Hx
      isplitr; · iexact Hn
      isplitl [HA] <;> iassumption
    iintro ⟨HA, Hs⟩
    iapply (ih (a + 1) (by omega)) $$ [HA Hs]
    · isplitr; · iexact Hx
      isplitr; · iexact Hn
      isplitl [HA] <;> iassumption
    iexact Hk

/-- A stream when the body is done. -/
def stZ (k : Fin 4) : sProp 𝕄 :=
  iprop(sndSt c k 30 ∗ rcvSt c k 30 ∗ crdOut c k 28 ∗ crdIn c k 28 ∗ ldSt X c k 16 ∗ rdr c k 28
    ∗ anyB c (accM k) ∗ anyB c (stgM k) ∗ anyB c (slotM k 28) ∗ stSt X c k 16 ∗ anyB c (slotM k 29))

/-- The last store's wait, in a stream. -/
theorem last_stream (k : Fin 4) :
    iprop(ctx X K J ∗ stE X c k ∗ shr X c (16 * 31))
      ⊢ iprop(((stZ X c k ∗ shr X c (16 * 31)) -∗ Wc c (Pipeline.chain rest) Q) -∗ Wc c (Pipeline.chain (lastWait k c :: rest)) Q) := by
  unfold stE stZ shr
  iintro ⟨#Hx, ⟨H1, H2, H3, H4, H5, H6, H7, Hst, H8, H9, Hs⟩, HO, Hsc⟩ Hk
  iapply (last X K J c k rest Q (16 * 31) (by decide)) $$ [HO Hst Hs]
  · isplitr; · iexact Hx
    isplitl [HO]; · iexact HO
    isplitl [Hst] <;> iassumption
  iintro ⟨HO, Hst, Hs⟩
  iapply Hk
  isplitr [HO Hsc]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [Hst] <;> iassumption
  · isplitl [HO] <;> iassumption

/-- The rounds and the last waits. -/
theorem body_rounds :
    iprop(ctx X K J ∗ nbrs c ∗ four (fun k => st0 X c k) ∗ shr X c 0)
      ⊢ iprop(((four (fun k => stZ X c k) ∗ shr X c (16 * 31)) -∗ Wc c (Pipeline.chain rest) Q)
        -∗ Wc c (Pipeline.chain (((List.range 31).flatMap fun n => ord.flatMap (roundStp n c))
          ++ ([lastWait 0 c, lastWait 1 c, lastWait 2 c, lastWait 3 c] ++ rest))) Q) := by
  rw [List.range_eq_range']
  iintro ⟨#Hx, #Hn, HA, Hs⟩ Hk
  iapply (rounds X K J c _ Q 31 0 (by omega)) $$ [HA Hs]
  · isplitr; · iexact Hx
    isplitr; · iexact Hn
    isplitl [HA]; · iexact HA
    iexact Hs
  rw [Nat.zero_add]
  unfold four
  simp only [stN_end, List.cons_append, List.nil_append]
  iintro ⟨⟨A0, A2, A1, A3⟩, Hs⟩
  iapply (last_stream X K J c _ Q 0) $$ [A0 Hs]
  · isplitr; · iexact Hx
    isplitl [A0] <;> iassumption
  iintro ⟨A0, Hs⟩
  iapply (last_stream X K J c _ Q 1) $$ [A1 Hs]
  · isplitr; · iexact Hx
    isplitl [A1] <;> iassumption
  iintro ⟨A1, Hs⟩
  iapply (last_stream X K J c _ Q 2) $$ [A2 Hs]
  · isplitr; · iexact Hx
    isplitl [A2] <;> iassumption
  iintro ⟨A2, Hs⟩
  iapply (last_stream X K J c _ Q 3) $$ [A3 Hs]
  · isplitr; · iexact Hx
    isplitl [A3] <;> iassumption
  iintro ⟨A3, Hs⟩
  iapply Hk
  isplitr [Hs]
  · isplitl [A0]; · iexact A0
    isplitl [A2]; · iexact A2
    isplitl [A1] <;> iassumption
  · iexact Hs

end Cert.KernelIdeal.RS

end
-- ==== Proof.RS.Ends.lean ====
/- The start of the body up to the rounds, the end of it, and the body whole. -/
module

public import proofs.«01_k».proof.Proof.RS.Device

@[expose] public section

set_option maxRecDepth 65536

noncomputable section

namespace Cert.KernelIdeal.RS

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok)

variable {F : FTy → Type} [FloatOps F]

local notation "𝕄" => MT nD τ sig ℕ (Elt F) ℕ UU ℕ

variable (X : Ins F) (K : GSem nD τ sig → ℕ) (J : KK → ℕ) (c : Dev nD) (k : Fin 4) (p : Stp F)
  (Q : PUnit.{1} → sProp (MT nD τ sig ℕ (Elt F) ℕ UU ℕ))

/-! ## What a stream starts from -/

/-- An own cell, just opened. -/
def zer (s : SemLoc sig) : sProp 𝕄 := iprop(atPos ER (cel c s) 0 ∅ 0 ∗ reached ER (cel c s) 0)
/-- A stream's own cells. -/
def strPos : sProp 𝕄 :=
  iprop(zer c (ldL k) ∗ zer c (stL k) ∗ zer c (sndL k 0) ∗ zer c (sndL k 1) ∗ zer c (rcvL k 0) ∗ zer c (rcvL k 1) ∗ zer c (crdL k))
/-- A stream's tokens. -/
def strTok : sProp 𝕄 :=
  iprop((bigSep (Finset.Ico 0 30) fun t => sendTok c k t) ∗ (bigSep (Finset.Ico 0 16) fun j => dutyTok ER (cel c (ldL k)) j 0)
    ∗ (bigSep (Finset.Ico 0 16) fun j => dutyTok ER (cel c (stL k)) j 0) ∗ (bigSep (Finset.Ico 0 28) fun d => dutyTok ER (cel (up k c) (crdL k)) 0 d)
    ∗ (readerAt ES (c, k, 0) 0 ∗ readerAt ES (c, k, 1) 0)
    ∗ (bigSep (Finset.Ico 0 30) fun j => cred (tallyAt (cel c (rcvL k j)) j NN)) ∗ (bigSep (Finset.Ico 0 28) fun j => cred (tallyAt (cel c (crdL k)) j 1)))
/-- A stream's buffers. -/
def strBuf : sProp 𝕄 := iprop(anyB c (accM k) ∗ anyB c (stgM k) ∗ anyB c (slotM k 0) ∗ anyB c (slotM k 1))
/-- A stream's blocks of the operand. -/
def strPar : sProp 𝕄 := bigSep (Finset.range 16) fun j => ownsTc c (parB k c j) fullShare (parv X k c j)
/-- A stream's blocks of the result, at the start and at the end. -/
def strOut0 : sProp 𝕄 := bigSep (Finset.Ico 0 16) fun n => iprop(∃ Y, ownsTc c (outB k c n) fullShare Y)
def strOut : sProp 𝕄 := bigSep (Finset.range 16) fun n => ownsTc c (outB k c n) fullShare (sv X k (15 + n) c)
/-- All that a stream starts from, and all that it leaves. -/
def strPre : sProp 𝕄 := iprop(strPos c k ∗ strTok c k ∗ strBuf c k ∗ strPar X c k ∗ strOut0 c k)
def strVal : sProp 𝕄 :=
  iprop(semVal (cel c (ldL k)) 0 ∗ semVal (cel c (stL k)) 0 ∗ semVal (cel c (sndL k 0)) 0 ∗ semVal (cel c (sndL k 1)) 0
    ∗ semVal (cel c (rcvL k 0)) 0 ∗ semVal (cel c (rcvL k 1)) 0 ∗ semVal (cel c (crdL k)) 0)
def strPost : sProp 𝕄 := iprop(strVal c k ∗ strBuf c k ∗ strPar X c k ∗ strOut X c k)

/-- A stream at the start, but for its loads and accumulator. -/
def stP : sProp 𝕄 :=
  iprop(sndSt c k 0 ∗ rcvSt c k 0 ∗ crdOut c k 0 ∗ crdIn c k 0 ∗ rdr c k 0 ∗ anyB c (stgM k) ∗ stSt X c k 0)
/-- What the neighbours are told of a stream. -/
def tell : sProp 𝕄 := iprop((Wp c k 0 ∗ Wp c k 1) ∗ reached ER (cel c (crdL k)) 0)
instance tell_persistent : BI.Persistent (tell (F := F) c k) := by unfold tell; infer_instance

/-- The two slots are given to their writer. -/
theorem stream_open : iprop(ctx X K J ∗ strPre X c k) ⊢ (|={Set.univ}=> (stP X c k ∗ ldSt X c k 0 ∗ anyB c (accM k) ∗ tell c k) : sProp 𝕄) := by
  unfold strPre strPos zer strTok strBuf strPar strOut0
  iintro ⟨#Hx, ⟨⟨L1, #L2⟩, ⟨S1, #S2⟩, ⟨N1, #N2⟩, ⟨M1, #M2⟩, ⟨R1, #R2⟩, ⟨T1, #T2⟩, ⟨C1, #C2⟩⟩, ⟨Ts, Tl, Tt, Tc, ⟨E0, E1⟩, Cr, Cc⟩, ⟨Ba, Bs, B0, B1⟩, Hp, Ho⟩
  imod (give_slot X K J c k 0 0) $$ [E0 B0] with ⟨E0, #W0⟩
  · isplitr; · iexact Hx
    isplitl [E0] <;> iassumption
  imod (give_slot X K J c k 1 0) $$ [E1 B1] with ⟨E1, #W1⟩
  · isplitr; · iexact Hx
    isplitl [E1] <;> iassumption
  imodintro
  isplitl [Ts N1 M1 R1 T1 Cr Tc C1 Cc E0 E1 Bs S1 Tt Ho]
  · unfold stP
    isplitl [Ts N1 M1]
    · unfold sndSt sndPos
      isplitl [N1 M1]
      · isplitl [N1]
        · isplitl [N1]; · iexact N1
          iexact N2
        · isplitl [M1]; · iexact M1
          iexact M2
      · iexact Ts
    isplitl [R1 T1 Cr]
    · unfold rcvSt
      isplitl [R1 T1]
      · isplitl [R1] <;> iassumption
      · iexact Cr
    isplitl [Tc]; · unfold crdOut; iexact Tc
    isplitl [C1 Cc]
    · unfold crdIn
      isplitl [C1]
      · rw [crdSt, if_pos (by decide)]
        iexists ∅
        isplitr; · ipureintro; exact ⟨Finset.empty_subset _, Nat.zero_le _⟩
        isplitl [C1]; · iexact C1
        rw [bigSep_empty]; iempintro
      · iexact Cc
    isplitl [E0 E1]
    · unfold rdr Wp
      isplitl [E0 E1]
      · isplitl [E0] <;> iassumption
      isplitr
      · isplitr; · iexact W0
        iexact R2
      · isplitr; · iexact W1
        iexact T2
    isplitl [Bs]; · iexact Bs
    unfold stSt outs
    isplitl [S1]; · iexact S1
    isplitr; · iexact S2
    isplitl [Tt]; · iexact Tt
    isplitr
    · rw [Finset.range_zero, bigSep_empty]; iempintro
    · iexact Ho
  isplitl [L1 Tl Hp]
  · unfold ldSt
    isplitl [L1]; · iexact L1
    isplitr; · iexact L2
    isplitl [Tl] <;> iassumption
  isplitl [Ba]; · iexact Ba
  unfold tell Wp
  isplitr
  · isplitr
    · isplitr; · iexact W0
      iexact R2
    · isplitr; · iexact W1
      iexact T2
  · iexact C2

/-! ## The barrier -/

/-- A unit to a neighbour's barrier. -/
theorem op_bar (tgt : Dev nD) (d : ℕ) (hd : d ∈ ({0, 1} : Finset ℕ)) (O O' : CellTallies nD τ sig ℕ) (hO : O' = O + tallyAt (cel tgt barL) 0 1)
    (P : sProp (MT nD τ sig ℕ (Elt F) ℕ UU ℕ)) (hP : (sch X).payload (cel tgt barL) 0 d = P) (W : Waits sig ℕ) :
    iprop(ctx X K J ∗ owes (Dev.tc c : Thread nD τ) O' W ∗ dutyTok ER (cel tgt barL) 0 d ∗ P)
      ⊢ iprop((owes (Dev.tc c : Thread nD τ) O W -∗ Wc c p Q) -∗ Wc c (semSignalWord tgt barS.sem 1#32 >>= fun _ => p) Q) := by
  simp only [semSignalWord, Prog.lift, Prog.bind_op, Prog.bind_ret, Prog.pure_eq_ret]
  iintro ⟨#Hx, HO, Ht, Hp⟩ Hk
  iapply (Rounds.wp_signal 𝒱₀ ER (sch X) (Dev.tc c : Thread nD τ) none (dst := (Dev.tc tgt : Thread nD τ)) (sem := barS.sem) (r := 0) (d := d)
      (κ := K (cel tgt barL)) (k' := 1)
      (by
        have := duties_bar X tgt
        rw [this]; exact hd) (amount_bar X tgt 0 d) 0 O hO (W := W))
    $$ [HO Ht Hp]
  · isplitr; · iapply (ctx_cell X K J tgt barL (by rw [role_bar]; exact fun e => by cases e)); iexact Hx
    isplitl [HO]; · iexact HO
    isplitl [Ht]; · iexact Ht
    isplitl [Hp]
    · rw [hP]; iexact Hp
    · iapply (ctx_bar X K J tgt); iexact Hx
  iexact Hk

/-- The barrier's wait. -/
theorem op_barWait :
    iprop(ctx X K J ∗ ows c 2 ∗ cred (tallyAt (cel c barL) 0 2) ∗ atPos ER (cel c barL) 0 ∅ 0)
      ⊢ iprop(((ows c 2 ∗ atPos ER (cel c barL) 1 ∅ 0 ∗ barPay (rightOf c) 0 1 2 3 ∗ barPay (leftOf c) 2 3 0 1) -∗ Wc c p Q)
        -∗ Wc c (semWaitWord barS.sem 2#32 >>= fun _ => p) Q) := by
  unfold ows
  simp only [semWaitWord, Prog.lift, Prog.bind_op, Prog.bind_ret, Prog.pure_eq_ret]
  iintro ⟨#Hx, ⟨%W, HO⟩, Hc, Ha⟩ Hk
  iapply (Rounds.wp_wait_rest_token 𝒱₀ ER (sch X) (Dev.tc c : Thread nD τ) none (κ := K (cel c barL))
      (wpE_semWait_eq 𝒱₀ (Dev.tc c : Thread nD τ) none Set.univ) (Set.mem_univ _) 0 (O := Ow c 2) (W := W)
      (R := 0) (m := 0) (T := ∅) (expect_bar X c).symm) $$ [HO Ha Hc]
  · isplitr; · iapply (ctx_cell X K J c barL (by rw [role_bar]; exact fun e => by cases e)); iexact Hx
    isplitl [Hc]; · iexact Hc
    isplitl [HO]; · iexact HO
    isplitr
    · iapply (mayWait c 2 barL 0 (by decide) (by rw [role_bar]; decide)); iapply (ctx_lev X K J); iexact Hx
    · iexact Ha
  rw [rest_bar X c]
  iintro ⟨HO, Ha, -, Hp⟩
  iapply Hk
  isplitl [HO]; · iexists _; iexact HO
  isplitl [Ha]; · iexact Ha
  iexact Hp

/-- What the barrier told. -/
theorem nbrs_of : iprop(barPay (rightOf c) 0 1 2 3 ∗ barPay (leftOf c) 2 3 0 1) ⊢ (nbrs c : sProp 𝕄) := by
  unfold barPay nbrs nbr
  iintro ⟨⟨⟨A0, A1⟩, ⟨B0, B1⟩, C0, C1⟩, ⟨⟨D0, D1⟩, ⟨E0, E1⟩, G0, G1⟩⟩
  isplitl [A0 A1 G0]
  · isplitl [A0]; · iexact A0
    isplitl [A1]; · iexact A1
    iexact G0
  isplitl [B0 B1 G1]
  · isplitl [B0]; · iexact B0
    isplitl [B1]; · iexact B1
    iexact G1
  isplitl [D0 D1 C0]
  · isplitl [D0]; · iexact D0
    isplitl [D1]; · iexact D1
    iexact C0
  · isplitl [E0]; · iexact E0
    isplitl [E1]; · iexact E1
    iexact C1

/-- What a device tells to one neighbour. -/
theorem bar_of (k₁ k₂ k₃ k₄ : Fin 4) : iprop(tell c k₁ ∗ tell c k₂ ∗ tell c k₃ ∗ tell c k₄) ⊢ (barPay c k₁ k₂ k₃ k₄ : sProp 𝕄) := by
  unfold barPay tell
  iintro ⟨⟨A, -⟩, ⟨B, -⟩, ⟨-, C⟩, ⟨-, D⟩⟩
  isplitl [A]; · iexact A
  isplitl [B]; · iexact B
  isplitl [C] <;> iassumption

/-! ## The end of a stream -/

theorem dead (s : SemLoc sig) (R : ℕ) (h : ∀ r, R ≤ r → dutiesR (role s) r = ∅) : ∀ r, R ≤ r → (sch X).duties (cel c s) r = ∅ :=
  fun r hr => by rw [duties_tc]; exact h r hr

/-- A cell at the end of its schedule closes. -/
theorem close_cell (s : SemLoc sig) (hs : role s ≠ .oth) (R : ℕ) (h : ∀ r, R ≤ r → dutiesR (role s) r = ∅) :
    iprop(ctx X K J ∗ atPos ER (cel c s) R ∅ 0) ⊢ (|={Set.univ}=> semVal (cel c s) 0 : sProp 𝕄) := by
  iintro ⟨#Hx, Ha⟩
  iapply (Rounds.cell_close ER (sch X) (g := cel c s) (κ := K (cel c s)) (Set.mem_univ _) id (dead X c s R h))
  isplitr; · iapply (ctx_cell X K J c s hs); iexact Hx
  iexact Ha

theorem stream_close : iprop(ctx X K J ∗ stZ X c k) ⊢ (|={Set.univ}=> strPost X c k : sProp 𝕄) := by
  have hl := close_cell X K J c (ldL k) (by rw [role_ld]; exact fun e => by cases e) 16 (fun r hr => by rw [role_ld]; exact if_neg (by omega))
  have ht := close_cell X K J c (stL k) (by rw [role_st]; exact fun e => by cases e) 16 (fun r hr => by rw [role_st]; exact if_neg (by omega))
  have hc := close_cell X K J c (crdL k) (by rw [role_crd]; exact fun e => by cases e) 1 (fun r hr => by rw [role_crd]; exact if_neg (by omega))
  have hn (q : ℕ) := close_cell X K J c (sndL k q) (by rw [role_snd]; exact fun e => by cases e) 15 (fun r hr => by rw [role_snd]; exact if_neg (by omega))
  have hr (q : ℕ) := close_cell X K J c (rcvL k q) (by rw [role_rcv]; exact fun e => by cases e) 15 (fun r hr => by rw [role_rcv]; exact if_neg (by omega))
  unfold stZ sndSt sndPos rcvSt crdIn ldSt stSt outs
  rw [← sndL_mod k 30, ← sndL_mod k (30 + 1), ← rcvL_mod k 30, ← rcvL_mod k (30 + 1), ← slotM_mod k 28, ← slotM_mod k 29, crdSt, if_neg (by decide)]
  iintro ⟨#Hx, ⟨⟨⟨N1, -⟩, ⟨M1, -⟩⟩, -⟩, ⟨⟨R1, T1⟩, -⟩, -, ⟨C1, -⟩, ⟨L1, -, -, Hp⟩, -, Ba, Bs, B0, ⟨S1, -, -, ⟨Ho, -⟩⟩, B1⟩
  imod hl $$ [L1] with L1
  · isplitr; · iexact Hx
    iexact L1
  imod ht $$ [S1] with S1
  · isplitr; · iexact Hx
    iexact S1
  imod (hn 0) $$ [N1] with N1
  · isplitr; · iexact Hx
    iexact N1
  imod (hn 1) $$ [M1] with M1
  · isplitr; · iexact Hx
    iexact M1
  imod (hr 0) $$ [R1] with R1
  · isplitr; · iexact Hx
    iexact R1
  imod (hr 1) $$ [T1] with T1
  · isplitr; · iexact Hx
    iexact T1
  imod hc $$ [C1] with C1
  · isplitr; · iexact Hx
    iexact C1
  imodintro
  unfold strPost strVal strBuf strPar strOut
  isplitl [L1 S1 N1 M1 R1 T1 C1]
  · isplitl [L1]; · iexact L1
    isplitl [S1]; · iexact S1
    isplitl [N1]; · iexact N1
    isplitl [M1]; · iexact M1
    isplitl [R1]; · iexact R1
    isplitl [T1] <;> iassumption
  isplitl [Ba Bs B0 B1]
  · isplitl [Ba]; · iexact Ba
    isplitl [Bs]; · iexact Bs
    isplitl [B0]; · iexact B0
    iexact B1
  isplitl [Hp] <;> iassumption

end Cert.KernelIdeal.RS

end
-- ==== Proof.RS.Whole.lean ====
/- The body whole, on a symbolic device. -/
module

public import proofs.«01_k».proof.Proof.RS.Ends

@[expose] public section

set_option maxRecDepth 65536

noncomputable section

namespace Cert.KernelIdeal.RS

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok)

variable {F : FTy → Type} [FloatOps F]

local notation "𝕄" => MT nD τ sig ℕ (Elt F) ℕ UU ℕ

variable (X : Ins F) (K : GSem nD τ sig → ℕ) (J : KK → ℕ) (c : Dev nD) (rest : List (Stp F))
  (Q : PUnit.{1} → sProp (MT nD τ sig ℕ (Elt F) ℕ UU ℕ))

theorem own_load (k : Fin 4) :
    iprop(ctx X K J ∗ ldSt X c k 0 ∗ anyB c (accM k))
      ⊢ iprop((ldFly X c k 0 -∗ Wc c (Pipeline.chain rest) Q) -∗ Wc c (Pipeline.chain (ownLoad k c :: rest)) Q) :=
  c_ldStart X K J c k _ Q 0 (by decide) (myOff k c) (myOff_inb k c) (myOff_eq k c) (accM k) (acc_whole k).wordExact rfl

theorem own_wait (k : Fin 4) :
    iprop(ctx X K J ∗ ows c 2 ∗ stP X c k ∗ ldFly X c k 0)
      ⊢ iprop(((ows c 2 ∗ st0 X c k) -∗ Wc c (Pipeline.chain rest) Q) -∗ Wc c (Pipeline.chain (ownLoadWait k c :: rest)) Q) := by
  iintro ⟨#Hx, HO, Hs, Hl⟩ Hk
  unfold ownLoadWait
  simp only [Pipeline.chain_cons]
  iapply (c_ldWait X K J c k _ Q 0 2 (by decide) (by decide) (myOff k c) (myOff_inb k c) (accM k) (acc_whole k).wordExact) $$ [HO Hl]
  · isplitr; · iexact Hx
    isplitl [HO] <;> iassumption
  iintro ⟨HO, Hl, Ha⟩
  iapply Hk
  isplitl [HO]; · iexact HO
  unfold stP st0
  icases Hs with ⟨H1, H2, H3, H4, H5, H6, H7⟩
  isplitl [H1]; · iexact H1
  isplitl [H2]; · iexact H2
  isplitl [H3]; · iexact H3
  isplitl [H4]; · iexact H4
  isplitl [Hl]; · iexact Hl
  isplitl [H5]; · iexact H5
  isplitl [Ha]; · iexact Ha
  isplitl [H6] <;> iassumption

/-- The tokens and credits of the barrier. -/
def barPre : sProp 𝕄 :=
  iprop(dutyTok ER (cel (leftOf c) barL) 0 0 ∗ dutyTok ER (cel (rightOf c) barL) 0 1 ∗ cred (tallyAt (cel c barL) 0 2) ∗ atPos ER (cel c barL) 0 ∅ 0)

theorem chain_done : Wc c (Pipeline.chain ([] : List (Stp F))) Q = (iprop(|={Set.univ}=> Q ⟨⟩) : sProp 𝕄) := wp_ret _ _ _ _ _

/-- All of the body's steps. -/
theorem steps_run (W : Waits sig ℕ) :
    iprop(ctx X K J ∗ owes (Dev.tc c : Thread nD τ) (O₀ c) W ∗ sclOwn c (X.scl c) ∗ barPre c ∗ four (fun k => strPre X c k))
      ⊢ iprop(((ows c 496 ∗ sclOwn c (X.scl c) ∗ semVal (cel c barL) 0 ∗ four (fun k => strPost X c k)) -∗ Q ⟨⟩)
        -∗ Wc c (Pipeline.chain (steps c)) Q) := by
  unfold four barPre
  iintro ⟨#Hx, HO, Hsc, ⟨T1, T2, HcB, HaB⟩, ⟨A0, A2, A1, A3⟩⟩ Hk
  imod (stream_open X K J c 0) $$ [A0] with ⟨P0, L0, B0, #W0⟩
  · isplitr; · iexact Hx
    iexact A0
  imod (stream_open X K J c 1) $$ [A1] with ⟨P1, L1, B1, #W1⟩
  · isplitr; · iexact Hx
    iexact A1
  imod (stream_open X K J c 2) $$ [A2] with ⟨P2, L2, B2, #W2⟩
  · isplitr; · iexact Hx
    iexact A2
  imod (stream_open X K J c 3) $$ [A3] with ⟨P3, L3, B3, #W3⟩
  · isplitr; · iexact Hx
    iexact A3
  unfold steps prologue
  simp only [List.append_assoc, List.cons_append, List.nil_append]
  iapply (own_load X K J c _ Q 0) $$ [L0 B0]
  · isplitr; · iexact Hx
    isplitl [L0] <;> iassumption
  iintro L0
  iapply (own_load X K J c _ Q 1) $$ [L1 B1]
  · isplitr; · iexact Hx
    isplitl [L1] <;> iassumption
  iintro L1
  iapply (own_load X K J c _ Q 2) $$ [L2 B2]
  · isplitr; · iexact Hx
    isplitl [L2] <;> iassumption
  iintro L2
  iapply (own_load X K J c _ Q 3) $$ [L3 B3]
  · isplitr; · iexact Hx
    isplitl [L3] <;> iassumption
  iintro L3
  rw [Pipeline.chain_cons]
  iapply (op_bar X K J c _ Q (leftOf c) 0 (by decide) (Ow c 2 + tallyAt (cel (rightOf c) barL) 0 1) (O₀ c) rfl (barPay c 0 1 2 3)
    ((payload_bar X (leftOf c) 0 0).trans (by rw [if_pos rfl, right_left])) W) $$ [HO T1]
  · isplitr; · iexact Hx
    isplitl [HO]; · iexact HO
    isplitl [T1]; · iexact T1
    iapply (bar_of c 0 1 2 3)
    isplitr; · iexact W0
    isplitr; · iexact W1
    isplitr; · iexact W2
    iexact W3
  iintro HO
  rw [Pipeline.chain_cons]
  iapply (op_bar X K J c _ Q (rightOf c) 1 (by decide) (Ow c 2) (Ow c 2 + tallyAt (cel (rightOf c) barL) 0 1) rfl (barPay c 2 3 0 1)
    ((payload_bar X (rightOf c) 0 1).trans (by rw [if_neg (by decide), left_right])) W) $$ [HO T2]
  · isplitr; · iexact Hx
    isplitl [HO]; · iexact HO
    isplitl [T2]; · iexact T2
    iapply (bar_of c 2 3 0 1)
    isplitr; · iexact W2
    isplitr; · iexact W3
    isplitr; · iexact W0
    iexact W1
  iintro HO
  rw [Pipeline.chain_cons]
  iapply (op_barWait X K J c _ Q) $$ [HO HcB HaB]
  · isplitr; · iexact Hx
    isplitl [HO]; · unfold ows; iexists W; iexact HO
    isplitl [HcB] <;> iassumption
  iintro ⟨HO, HaB, Hb⟩
  ihave Hn := (nbrs_of c) $$ Hb
  icases Hn with #Hn
  iapply (own_wait X K J c _ Q 0) $$ [HO P0 L0]
  · isplitr; · iexact Hx
    isplitl [HO]; · iexact HO
    isplitl [P0] <;> iassumption
  iintro ⟨HO, A0⟩
  iapply (own_wait X K J c _ Q 1) $$ [HO P1 L1]
  · isplitr; · iexact Hx
    isplitl [HO]; · iexact HO
    isplitl [P1] <;> iassumption
  iintro ⟨HO, A1⟩
  iapply (own_wait X K J c _ Q 2) $$ [HO P2 L2]
  · isplitr; · iexact Hx
    isplitl [HO]; · iexact HO
    isplitl [P2] <;> iassumption
  iintro ⟨HO, A2⟩
  iapply (own_wait X K J c _ Q 3) $$ [HO P3 L3]
  · isplitr; · iexact Hx
    isplitl [HO]; · iexact HO
    isplitl [P3] <;> iassumption
  iintro ⟨HO, A3⟩
  ihave HO := (Entails.of_eq (ows_congr (F := F) c 2 0 (Ow_two c))) $$ HO
  rw [← List.append_nil ([lastWait 0 c, lastWait 1 c, lastWait 2 c, lastWait 3 c])]
  iapply (body_rounds X K J c [] Q) $$ [HO Hsc A0 A1 A2 A3]
  · isplitr; · iexact Hx
    isplitr; · iexact Hn
    isplitl [A0 A1 A2 A3]
    · unfold four
      isplitl [A0]; · iexact A0
      isplitl [A2]; · iexact A2
      isplitl [A1] <;> iassumption
    unfold shr
    isplitl [HO] <;> iassumption
  unfold four shr
  iintro ⟨⟨A0, A2, A1, A3⟩, HO, Hsc⟩
  rw [chain_done]
  imod (stream_close X K J c 0) $$ [A0] with A0
  · isplitr; · iexact Hx
    iexact A0
  imod (stream_close X K J c 1) $$ [A1] with A1
  · isplitr; · iexact Hx
    iexact A1
  imod (stream_close X K J c 2) $$ [A2] with A2
  · isplitr; · iexact Hx
    iexact A2
  imod (stream_close X K J c 3) $$ [A3] with A3
  · isplitr; · iexact Hx
    iexact A3
  imod (close_cell X K J c barL (by rw [role_bar]; exact fun e => by cases e) 1 (fun r hr => by rw [role_bar]; exact if_neg (by omega))) $$ [HaB] with HaB
  · isplitr; · iexact Hx
    iexact HaB
  imodintro
  iapply Hk
  isplitl [HO]; · iexact HO
  isplitl [Hsc]; · iexact Hsc
  isplitl [HaB]; · iexact HaB
  isplitl [A0]; · iexact A0
  isplitl [A2]; · iexact A2
  isplitl [A1] <;> iassumption

end Cert.KernelIdeal.RS

end
-- ==== Proof.RS.Blocks.lean ====
/- The arrays as their blocks, and the result that the blocks make. -/
module

public import proofs.«01_k».proof.Proof.RS.Whole

@[expose] public section

set_option maxRecDepth 65536

noncomputable section

namespace Cert.KernelIdeal.RS

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok)

variable {F : FTy → Type} [FloatOps F]

local notation "𝕄" => MT nD τ sig ℕ (Elt F) ℕ UU ℕ

/-! ## A whole array as its blocks -/

section Family

variable (f : Fin 4 → Fin 16 → ℕ) (hf : ∀ k n, f k n < 16)

/-- The blocks of a whole array: `t.1` the stream, `f t.1 t.2` the number of the row block. -/
def fam (t : Fin 4 × Fin 16) : Rect S4096x8192 :=
  Rect.unit (s := S4096x8192) (blkOff t.1 (f t.1 t.2)) S256x2048.size (blkOff_inb t.1 _ (hf t.1 t.2))

theorem fam_disjoint (hi : ∀ k, Function.Injective (f k)) (t t' : Fin 4 × Fin 16) (h : t ≠ t') :
    Disjoint (fam f hf t).set (fam f hf t').set := by
  obtain ⟨k, n⟩ := t
  obtain ⟨k', n'⟩ := t'
  by_cases hk : k = k'
  · subst hk
    have hn : f k n ≠ f k n' := fun e => h (by rw [hi k e])
    refine Rect.unit_disjoint 0 ?_
    simp [blkOff, S256x2048]
    omega
  · have hv : k.val ≠ k'.val := fun e => hk (Fin.ext e)
    refine Rect.unit_disjoint 1 ?_
    simp [blkOff, S256x2048]
    omega

theorem fam_cover (hi : ∀ k, Function.Injective (f k)) :
    (Finset.univ : Finset (Fin 4 × Fin 16)).biUnion (fun t => (fam f hf t).set) = Finset.univ := by
  ext i
  simp only [Finset.mem_biUnion, Finset.mem_univ, true_and, iff_true]
  have h0 : (i 0).val < 4096 := (i 0).isLt
  have h1 : (i 1).val < 8192 := (i 1).isLt
  obtain ⟨n, hn⟩ : ∃ n, f ⟨(i 1).val / 2048, by omega⟩ n = (i 0).val / 256 := by
    have hs := Finite.surjective_of_injective (f := fun n : Fin 16 => (⟨f ⟨(i 1).val / 2048, by omega⟩ n, hf _ _⟩ : Fin 16))
      (fun a b e => hi _ (congrArg Fin.val e))
    obtain ⟨n, hn⟩ := hs ⟨(i 0).val / 256, by omega⟩
    exact ⟨n, congrArg Fin.val hn⟩
  refine ⟨(⟨(i 1).val / 2048, by omega⟩, n), ?_⟩
  unfold fam
  rw [Rect.mem_set_unit]
  intro a
  fin_cases a
  · simp [blkOff, S256x2048, hn]; omega
  · simp [blkOff, S256x2048]; omega

end Family

theorem fin_range (Φ : ℕ → sProp (MT nD τ sig ℕ (Elt F) ℕ UU ℕ)) :
    bigSep Finset.univ (fun n : Fin 16 => Φ n.val) = bigSep (Finset.range 16) Φ := by
  rw [show Finset.range 16 = Finset.univ.map (Fin.valEmbedding (n := 16)) from by decide, bigSep_map]; rfl

theorem four_eq (Φ : Fin 4 → sProp (MT nD τ sig ℕ (Elt F) ℕ UU ℕ)) : bigSep Finset.univ Φ = four Φ :=
  bigSep_univ_eq_bigSepL [0, 2, 1, 3] (by decide) (by decide) Φ

/-- A whole array is its blocks, in the order that a device meets them. -/
theorem blocks (c : Dev nD) (b : Memref sig .tc .hbm S4096x8192 .f32) (hb : b.view.set = Finset.univ) (f : Fin 4 → ℕ → ℕ) (hf : ∀ k n, f k n < 16)
    (hi : ∀ k, Function.Injective fun n : Fin 16 => f k n.val) (g : b.view.ty.Contents (Elt F)) :
    (b.view.loc (Dev.tc c : Thread nD τ) ↦[Finset.univ]{fullShare} g : sProp 𝕄)
      = four fun k => bigSep (Finset.range 16) fun n =>
          ownsTc c (blkM b (blkOff k (f k n)) (blkOff_inb k _ (hf k n))) fullShare
            (fun j => b.view.read (Elt F) g ((Rect.unit (s := S4096x8192) (blkOff k (f k n)) S256x2048.size (blkOff_inb k _ (hf k n))).emb j)) := by
  rw [← hb, pointsTo_rects (Dev.tc c : Thread nD τ) b fullShare (fam (fun k n => f k n.val) fun k n => hf k n.val) (fun _ _ => rfl)
    (fam_disjoint _ _ hi) (fam_cover _ _ hi) g, bigSep_univ_prod, four_eq]
  congr 1

theorem chunk_inj : ∀ (c : Dev nD) (k : Fin 4), Function.Injective fun n : Fin 16 => chunk k c n.val := by
  have h : ∀ (c : Dev nD) (k : Fin 4) (a b : Fin 16), chunk k c a.val = chunk k c b.val → a = b := by decide +kernel
  exact fun c k a b e => h c k a b e
theorem chunk_out_inj : ∀ (c : Dev nD) (k : Fin 4), Function.Injective fun n : Fin 16 => chunk k c (outN n.val) := by
  have h : ∀ (c : Dev nD) (k : Fin 4) (a b : Fin 16), chunk k c (outN a.val) = chunk k c (outN b.val) → a = b := by decide +kernel
  exact fun c k a b e => h c k a b e

variable (X : Ins F)

/-- The operand, as the blocks that the streams load. -/
theorem par_blocks (c : Dev nD) :
    ((((Dev.tc c : Thread nD τ)).loc main_v1) ↦{fullShare} X.par c : sProp 𝕄) = four (strPar X c) :=
  blocks c parM (View.set_whole _) (fun k n => chunk k c n) (fun k n => chunk_lt k c n) (chunk_inj c) (X.par c)

theorem some_block (c : Dev nD) (m : Memref sig .tc .hbm S256x2048 .f32) (Y : Blk F) :
    (ownsTc c m fullShare Y : sProp 𝕄) ⊢ iprop(∃ Y, ownsTc c m fullShare Y) := by
  iintro H
  iexists Y
  iexact H

/-- The result, before, as the blocks that the streams store. -/
theorem out_open (c : Dev nD) (g : S4096x8192.Idx → Elt F .f32) :
    ((((Dev.tc c : Thread nD τ)).loc main_v4) ↦{fullShare} g : sProp 𝕄) ⊢ four (strOut0 (F := F) c) := by
  refine (Entails.of_eq (blocks c outM (View.set_whole _) (fun k n => chunk k c (outN n)) (fun k n => chunk_lt k c (outN n)) (chunk_out_inj c) g)).trans ?_
  have h : ∀ k : Fin 4, (bigSep (Finset.range 16) fun n =>
          ownsTc c (blkM outM (blkOff k (chunk k c (outN n))) (blkOff_inb k _ (chunk_lt k c (outN n)))) fullShare
            (fun j => outM.view.read (Elt F) g ((Rect.unit (s := S4096x8192) (blkOff k (chunk k c (outN n))) S256x2048.size (blkOff_inb k _ (chunk_lt k c (outN n)))).emb j)) : sProp 𝕄)
      ⊢ strOut0 (F := F) c k := fun k => by
    unfold strOut0 outB
    rw [← Finset.range_eq_Ico]
    exact bigSep_mono fun n _ => some_block c _ _
  unfold four
  iintro ⟨H0, H2, H1, H3⟩
  ihave H0 := h 0 $$ H0
  ihave H1 := h 1 $$ H1
  ihave H2 := h 2 $$ H2
  ihave H3 := h 3 $$ H3
  iframe H0 H1 H2 H3

/-! ## The result -/

/-- The device that finishes row block `i` of stream `k`. -/
def finD (k : Fin 4) (i : ℕ) : Dev nD := if k.val < 2 then Fin.ofNat 16 (i + 15) else Fin.ofNat 16 (i + 1)

/-- An index's place in its block. -/
def inBlk (j : S4096x8192.Idx) : S256x2048.Idx := fun a => match a with
  | 0 => ⟨(j 0).val % 256, Nat.mod_lt _ (by decide)⟩
  | 1 => ⟨(j 1).val % 2048, Nat.mod_lt _ (by decide)⟩
/-- An index's stream. -/
def strm (j : S4096x8192.Idx) : Fin 4 := ⟨(j 1).val / 2048, by have : (j 1).val < 8192 := (j 1).isLt; omega⟩

/-- The result, which is every device's: each block is what the device that finishes it computes. -/
def resV (j : S4096x8192.Idx) : Elt F .f32 := sv X (strm j) 15 (finD (strm j) ((j 0).val / 256)) (inBlk j)

theorem finD_chunk : ∀ (k : Fin 4) (c : Dev nD) (n : Fin 16), finD k (chunk k c (outN n.val)) = (up k)^[n.val] c := by decide +kernel

theorem sv_iter (k : Fin 4) (n : ℕ) (c : Dev nD) : sv X k (15 + n) c = sv X k 15 ((up k)^[n] c) := by
  induction n generalizing c with
  | zero => rfl
  | succ n ih => rw [sv_gat X k _ (by omega), show 15 + (n + 1) - 1 = 15 + n by omega, ih, Function.iterate_succ_apply]

theorem resV_at (k : Fin 4) (m : ℕ) (hb : ∀ a, blkOff k m a + S256x2048.size a ≤ S4096x8192.size a) (j : S256x2048.Idx) :
    resV X ((Rect.unit (s := S4096x8192) (blkOff k m) S256x2048.size hb).emb j) = sv X k 15 (finD k m) j := by
  have h0 : (j 0).val < 256 := (j 0).isLt
  have h1 : (j 1).val < 2048 := (j 1).isLt
  have e0 : (((Rect.unit (s := S4096x8192) (blkOff k m) S256x2048.size hb).emb j 0 : Fin _) : ℕ) = 256 * m + (j 0).val := by
    rw [Rect.emb_apply]; simp [blkOff]
  have e1 : (((Rect.unit (s := S4096x8192) (blkOff k m) S256x2048.size hb).emb j 1 : Fin _) : ℕ) = 2048 * k.val + (j 1).val := by
    rw [Rect.emb_apply]; simp [blkOff]
  have hs : strm ((Rect.unit (s := S4096x8192) (blkOff k m) S256x2048.size hb).emb j) = k := by
    apply Fin.ext; simp only [strm, e1]; omega
  have hl : inBlk ((Rect.unit (s := S4096x8192) (blkOff k m) S256x2048.size hb).emb j) = j := by
    funext a; apply Fin.ext; fin_cases a
    · simp only [inBlk, Fin.zero_eta, e0]; omega
    · simp only [inBlk, Fin.mk_one, e1]; omega
  unfold resV
  rw [hs, hl, e0, show (256 * m + (j 0).val) / 256 = m by omega]

/-- The result's block of store `n`. -/
theorem resV_blk (k : Fin 4) (c : Dev nD) (n : ℕ) (hn : n < 16) :
    (fun j => resV X ((Rect.unit (s := S4096x8192) (blkOff k (chunk k c (outN n))) S256x2048.size (blkOff_inb k _ (chunk_lt k c (outN n)))).emb j))
      = sv X k (15 + n) c := by
  funext j
  refine (resV_at X k _ _ j).trans ?_
  rw [finD_chunk k c ⟨n, hn⟩, sv_iter]

/-- The result, after. -/
theorem out_close (c : Dev nD) : four (strOut X c) = (((Dev.tc c : Thread nD τ)).loc main_v4) ↦{fullShare} resV X := by
  refine Eq.trans ?_ (blocks c outM (View.set_whole _) (fun k n => chunk k c (outN n)) (fun k n => chunk_lt k c (outN n)) (chunk_out_inj c) (resV X)).symm
  congr 1; funext k
  unfold strOut outB
  refine bigSep_congr fun n hn => ?_
  rw [← resV_blk X k c n (Finset.mem_range.mp hn)]
  rfl

/-! ## The communication buffers as their slots -/

/-- The elements of slot `q % 2` of a communication buffer. -/
def slotS (k : Fin 4) (q : ℕ) : Finset (comM k).view.ty.Idx := (slotR q).set.map (comM k).view.emb
theorem slot_set (k : Fin 4) (q : ℕ) : (slotM k q).view.set = slotS k q := by
  unfold slotM
  exact (View.set_reshape (v := (comM k).view.slice (slotR q)) _).trans (View.set_slice _ _)
theorem slotR_union : (slotR 0).set ∪ (slotR 1).set = Finset.univ := by
  refine Finset.eq_univ_iff_forall.mpr fun i => ?_
  rw [Finset.mem_union]
  have h0 : (i 0).val < 2 := (i 0).isLt
  have h1 : (i 1).val < 256 := (i 1).isLt
  have h2 : (i 2).val < 2048 := (i 2).isLt
  rw [Rect.mem_set_unit, Rect.mem_set_unit]
  by_cases h : (i 0).val = 0
  · refine .inl fun a => ?_
    fin_cases a <;> simp [S1x256x2048] <;> omega
  · refine .inr fun a => ?_
    fin_cases a <;> simp [S1x256x2048] <;> omega
theorem slot_union (k : Fin 4) : slotS k 0 ∪ slotS k 1 = Finset.univ := by
  have hw : (comM k).view.set = Finset.univ := by fin_cases k <;> exact View.set_whole _
  unfold slotS
  rw [← Finset.map_union, ← hw, View.set, slotR_union]
theorem slot_disjoint (k : Fin 4) : Disjoint (slotS k 0) (slotS k 1) := by
  unfold slotS
  refine (Finset.disjoint_map _).mpr (Rect.unit_disjoint 0 ?_)
  simp [S1x256x2048]
theorem slot_pt (c : Dev nD) (k : Fin 4) (q : ℕ) (f : (comM k).view.ty.Contents (Elt F)) :
    ((slotM k q).view.loc (Dev.tc c : Thread nD τ) ↦[(slotM k q).view.set]{fullShare} f : sProp 𝕄)
      = ((comM k).view.loc (Dev.tc c : Thread nD τ) ↦[slotS k q]{fullShare} f) :=
  congrArg (fun S => ((comM k).view.loc (Dev.tc c : Thread nD τ) ↦[S]{fullShare} f : sProp 𝕄)) (slot_set k q)

/-- A communication buffer, whole. -/
def comAny (c : Dev nD) (k : Fin 4) : sProp 𝕄 := iprop(∃ f, (comM k).view.loc (Dev.tc c : Thread nD τ) ↦[Finset.univ]{fullShare} f)

theorem com_open (c : Dev nD) (k : Fin 4) : comAny (F := F) c k ⊢ iprop(anyB c (slotM k 0) ∗ anyB c (slotM k 1)) := by
  unfold comAny anyB ownsTc owns
  rw [← slot_union k]
  iintro ⟨%f, H⟩
  ihave H := (pointsTo_union (slot_disjoint k)).1 $$ H
  icases H with ⟨H0, H1⟩
  ihave H0 := (Entails.of_eq (slot_pt c k 0 f).symm) $$ H0
  ihave H1 := (Entails.of_eq (slot_pt c k 1 f).symm) $$ H1
  isplitl [H0]
  · iexists _, f
    isplitr; · ipureintro; rfl
    iexact H0
  · iexists _, f
    isplitr; · ipureintro; rfl
    iexact H1

theorem com_close (c : Dev nD) (k : Fin 4) : iprop(anyB c (slotM k 0) ∗ anyB c (slotM k 1)) ⊢ comAny (F := F) c k := by
  unfold comAny anyB ownsTc owns
  rw [← slot_union k]
  iintro ⟨⟨%Y, %f, %hf, H⟩, ⟨%Y', %f', %hf', H'⟩⟩
  ihave H := (Entails.of_eq (slot_pt c k 0 f)) $$ H
  ihave H' := (Entails.of_eq (slot_pt c k 1 f')) $$ H'
  iexists _
  iapply (pointsTo_join (slot_disjoint k)) $$ [H H']
  isplitl [H]
  · iexact H
  · iexact H'

/-! ## The scratch buffers, stream by stream -/

theorem any_open (c : Dev nD) (b : Ref sig .tc) :
    iprop(∃ f : Buf (Elt F) ((Dev.tc c : Thread nD τ).loc b), ((Dev.tc c : Thread nD τ).loc b) ↦{fullShare} f)
      ⊢ (iprop(∃ Y, owns (Dev.tc c : Thread nD τ) (Memref.whole b) fullShare Y) : sProp 𝕄) := by
  iintro ⟨%f, H⟩
  iexists f
  iapply (Entails.of_eq (owns_whole (Dev.tc c : Thread nD τ) b fullShare f).symm)
  iexact H
theorem any_close (c : Dev nD) (b : Ref sig .tc) :
    (iprop(∃ Y, owns (Dev.tc c : Thread nD τ) (Memref.whole b) fullShare Y) : sProp 𝕄)
      ⊢ iprop(∃ f : Buf (Elt F) ((Dev.tc c : Thread nD τ).loc b), ((Dev.tc c : Thread nD τ).loc b) ↦{fullShare} f) := by
  iintro ⟨%f, H⟩
  iexists f
  iapply (Entails.of_eq (owns_whole (Dev.tc c : Thread nD τ) b fullShare f))
  iexact H

/-- What a scratch buffer holds isn't said. -/
def scrAny (c : Dev nD) (b : Ref sig .tc) : sProp 𝕄 :=
  iprop(∃ f : Buf (Elt F) ((Dev.tc c : Thread nD τ).loc b), ((Dev.tc c : Thread nD τ).loc b) ↦{fullShare} f)

theorem scratch_eq (c : Dev nD) :
    (Pipeline.scopedRest (Ix := ℕ) (Name := ℕ) (U := UU) (Lvl := ℕ) (Val := Elt F) spec0 c : sProp 𝕄)
      = iprop(scrAny (F := F) c cc0_scratch0 ∗ scrAny (F := F) c cc0_scratch1 ∗ scrAny (F := F) c cc0_scratch2 ∗ scrAny (F := F) c cc0_scratch3 ∗ scrAny (F := F) c cc0_scratch4 ∗ scrAny (F := F) c cc0_scratch5 ∗ scrAny (F := F) c cc0_scratch6 ∗ scrAny (F := F) c cc0_scratch7 ∗ scrAny (F := F) c cc0_scratch8 ∗ scrAny (F := F) c cc0_scratch9 ∗ scrAny (F := F) c cc0_scratch10 ∗ scrAny (F := F) c cc0_scratch11) := scopedRest0_eq c

theorem scratch_open (c : Dev nD) :
    (Pipeline.scopedRest (Ix := ℕ) (Name := ℕ) (U := UU) (Lvl := ℕ) (Val := Elt F) spec0 c : sProp 𝕄) ⊢ four (strBuf (F := F) c) := by
  refine (Entails.of_eq (scratch_eq c)).trans ?_
  iintro ⟨S0, A0, C0, S1, A1, C1, S2, A2, C2, S3, A3, C3⟩
  ihave S0 := (show scrAny (F := F) c cc0_scratch0 ⊢ anyB c (stgM 0) from any_open c cc0_scratch0) $$ S0
  ihave A0 := (show scrAny (F := F) c cc0_scratch1 ⊢ anyB c (accM 0) from any_open c cc0_scratch1) $$ A0
  ihave C0 := (show scrAny (F := F) c cc0_scratch2 ⊢ iprop(anyB c (slotM 0 0) ∗ anyB c (slotM 0 1)) from com_open c 0) $$ C0
  ihave S1 := (show scrAny (F := F) c cc0_scratch3 ⊢ anyB c (stgM 1) from any_open c cc0_scratch3) $$ S1
  ihave A1 := (show scrAny (F := F) c cc0_scratch4 ⊢ anyB c (accM 1) from any_open c cc0_scratch4) $$ A1
  ihave C1 := (show scrAny (F := F) c cc0_scratch5 ⊢ iprop(anyB c (slotM 1 0) ∗ anyB c (slotM 1 1)) from com_open c 1) $$ C1
  ihave S2 := (show scrAny (F := F) c cc0_scratch6 ⊢ anyB c (stgM 2) from any_open c cc0_scratch6) $$ S2
  ihave A2 := (show scrAny (F := F) c cc0_scratch7 ⊢ anyB c (accM 2) from any_open c cc0_scratch7) $$ A2
  ihave C2 := (show scrAny (F := F) c cc0_scratch8 ⊢ iprop(anyB c (slotM 2 0) ∗ anyB c (slotM 2 1)) from com_open c 2) $$ C2
  ihave S3 := (show scrAny (F := F) c cc0_scratch9 ⊢ anyB c (stgM 3) from any_open c cc0_scratch9) $$ S3
  ihave A3 := (show scrAny (F := F) c cc0_scratch10 ⊢ anyB c (accM 3) from any_open c cc0_scratch10) $$ A3
  ihave C3 := (show scrAny (F := F) c cc0_scratch11 ⊢ iprop(anyB c (slotM 3 0) ∗ anyB c (slotM 3 1)) from com_open c 3) $$ C3
  unfold four strBuf
  iframe S0 S1 S2 S3 A0 A1 A2 A3 C0 C1 C2 C3

theorem scratch_close (c : Dev nD) :
    four (strBuf (F := F) c) ⊢ (Pipeline.scopedRest (Ix := ℕ) (Name := ℕ) (U := UU) (Lvl := ℕ) (Val := Elt F) spec0 c : sProp 𝕄) := by
  refine BIBase.Entails.trans ?_ (Entails.of_eq (scratch_eq c).symm)
  unfold four strBuf
  iintro ⟨⟨A0, S0, C0⟩, ⟨A2, S2, C2⟩, ⟨A1, S1, C1⟩, ⟨A3, S3, C3⟩⟩
  ihave S0 := (show anyB c (stgM 0) ⊢ scrAny (F := F) c cc0_scratch0 from any_close c cc0_scratch0) $$ S0
  ihave A0 := (show anyB c (accM 0) ⊢ scrAny (F := F) c cc0_scratch1 from any_close c cc0_scratch1) $$ A0
  ihave C0 := (show iprop(anyB c (slotM 0 0) ∗ anyB c (slotM 0 1)) ⊢ scrAny (F := F) c cc0_scratch2 from com_close c 0) $$ C0
  ihave S1 := (show anyB c (stgM 1) ⊢ scrAny (F := F) c cc0_scratch3 from any_close c cc0_scratch3) $$ S1
  ihave A1 := (show anyB c (accM 1) ⊢ scrAny (F := F) c cc0_scratch4 from any_close c cc0_scratch4) $$ A1
  ihave C1 := (show iprop(anyB c (slotM 1 0) ∗ anyB c (slotM 1 1)) ⊢ scrAny (F := F) c cc0_scratch5 from com_close c 1) $$ C1
  ihave S2 := (show anyB c (stgM 2) ⊢ scrAny (F := F) c cc0_scratch6 from any_close c cc0_scratch6) $$ S2
  ihave A2 := (show anyB c (accM 2) ⊢ scrAny (F := F) c cc0_scratch7 from any_close c cc0_scratch7) $$ A2
  ihave C2 := (show iprop(anyB c (slotM 2 0) ∗ anyB c (slotM 2 1)) ⊢ scrAny (F := F) c cc0_scratch8 from com_close c 2) $$ C2
  ihave S3 := (show anyB c (stgM 3) ⊢ scrAny (F := F) c cc0_scratch9 from any_close c cc0_scratch9) $$ S3
  ihave A3 := (show anyB c (accM 3) ⊢ scrAny (F := F) c cc0_scratch10 from any_close c cc0_scratch10) $$ A3
  ihave C3 := (show iprop(anyB c (slotM 3 0) ∗ anyB c (slotM 3 1)) ⊢ scrAny (F := F) c cc0_scratch11 from com_close c 3) $$ C3
  iframe S0 S1 S2 S3 A0 A1 A2 A3 C0 C1 C2 C3

end Cert.KernelIdeal.RS

end
-- ==== Proof.RS.Align.lean ====
/- The body is the sequence of its steps. -/
module

public import proofs.«01_k».proof.Proof.RS.Steps
public import proofs.«01_k».proof.Proof.Gen.KernelIdeal.Launch
public import Idealize.ShloMosaic.Lib.Pipeline.Regions

@[expose] public section

set_option maxRecDepth 65536

noncomputable section

namespace Cert.KernelIdeal.RS

open Idealize.ShloMosaic Idealize.ShloMosaic.TcCoe
open Cert.KernelIdeal.Gen
open Idealize.SL Idealize.SL.Sem

variable {F : FTy → Type} [FloatOps F]

theorem body_eq : (bodyAt0 t0_0 : Stp F) = Prog.lift .deviceId >>= fun c => Pipeline.chain (steps c) := by
  chain_rfl

end Cert.KernelIdeal.RS

end
-- ==== Proof.RS.Region.lean ====
/- The kernel as a region of the program: its data and its body. -/
module

public import proofs.«01_k».proof.Proof.RS.Blocks
public import proofs.«01_k».proof.Proof.RS.Align

@[expose] public section

set_option maxRecDepth 65536

noncomputable section

namespace Cert.KernelIdeal.RS

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok)

variable {F : FTy → Type} [FloatOps F]

local notation "𝕄" => MT nD τ sig ℕ (Elt F) ℕ UU ℕ

variable (m : (ℓ : Loc nD τ sig) → Buf (Elt F) ℓ)

abbrev adm : (p : Fin 1) → (pcfgs (F := F) p).Adm := fun p => (cfgs p).toPCfg_adm

/-- Device `c`'s buffers when the kernel starts. -/
abbrev V₁ (c : Dev nD) : Valuation τ sig (Elt F) := StableHlo.after hostOps0 (fun b => m (c, b))
/-- The staged scale. -/
def sstg (c : Dev nD) : (cfg0.win 0).block.Idx → Elt F (cfg0.win 0).elt :=
  ((cfg0.win 0).blk t0_0).view.read (Elt F) (V₁ m c (Proc.devRef .tc (Pipeline.arrRef spec0 0)))
/-- The scale's one index. -/
def ix0 : S1x1.Idx := fun a => ⟨0, by fin_cases a <;> decide⟩
/-- What the devices hold when the kernel starts. -/
def ins : Ins F where
  par c := V₁ m c main_v1
  scl c := sstg m c ix0
theorem sstg_eq (c : Dev nD) : sstg m c = fun _ => (ins m).scl c := by
  funext i
  have h : i = ix0 := funext fun a => by
    apply Fin.ext
    have := (i a).isLt
    fin_cases a
    · change (i 0).val < 1 at this; change (i 0).val = 0; omega
    · change (i 1).val < 1 at this; change (i 1).val = 0; omega
  rw [h]; rfl
/-- Device `c`'s buffers when the kernel is done. -/
abbrev V₂ (c : Dev nD) : Valuation τ sig (Elt F) := Function.update (V₁ m c) (Proc.devRef .tc main_v4) (resV (ins m))

/-! ## The kernel's own semaphores -/

/-- The semaphores that live as long as the kernel, stream by stream. -/
def osem (x : Fin 4 × Fin 7) : SemLoc sig := match x.2 with
  | 0 => ldL x.1 | 1 => stL x.1 | 2 => sndL x.1 0 | 3 => sndL x.1 1 | 4 => rcvL x.1 0 | 5 => rcvL x.1 1 | 6 => crdL x.1
theorem osem_facts : Pipeline.OwnSemFacts spec0 osem := by decide +kernel
theorem osem_role : ∀ x : Fin 4 × Fin 7, role (osem x) ≠ .oth := by decide +kernel
theorem own_eq (Φ : SemLoc sig → sProp (MT nD τ sig ℕ (Elt F) ℕ UU ℕ)) :
    bigSep Finset.univ (fun x => Φ (osem x))
      = four fun k => iprop(Φ (ldL k) ∗ Φ (stL k) ∗ Φ (sndL k 0) ∗ Φ (sndL k 1) ∗ Φ (rcvL k 0) ∗ Φ (rcvL k 1) ∗ Φ (crdL k)) := by
  rw [bigSep_univ_prod, four_eq]
  congr 1; funext k
  exact bigSep_univ_eq_bigSepL ([0, 1, 2, 3, 4, 5, 6] : List (Fin 7)) (by decide) (by decide) fun i => Φ (osem (k, i))

section

variable (X : Ins F)

/-- What every device knows from the launch on. -/
def recs (K : GSem nD τ sig → ℕ) (J : KK → ℕ) : sProp 𝕄 :=
  iprop((bigSep (barCells ∪ scCells) fun g => cellInv ER (sch X) (K g) g)
    ∗ (bigSep keys fun x => slotInv ES (J x) x (slotAt x)) ∗ (bigSep barCells fun g => reached ER g 0))
instance recs_persistent (K : GSem nD τ sig → ℕ) (J : KK → ℕ) : BI.Persistent (recs X K J) := by unfold recs; infer_instance

/-- What the launch keeps for device `c`. -/
def Tk (c : Dev nD) : sProp 𝕄 :=
  iprop((∃ K J, recs X K J) ∗ (bigSep Finset.univ fun x => openTok ER (cel c (osem x))) ∗ four (strTok (F := F) c) ∗ barPre c)
/-- What device `c` enters the kernel with. -/
def Xk (c : Dev nD) : sProp 𝕄 :=
  iprop((∃ K J, ctx X K J) ∗ four (strPos (F := F) c) ∗ four (strTok (F := F) c) ∗ barPre c)

theorem open_one (K : GSem nD τ sig → ℕ) (J : KK → ℕ) (c : Dev nD) (s : SemLoc sig) (h : role s ≠ .oth) :
    iprop(ctx X K J ∗ (openTok ER (cel c s) ∗ semVal (cel c s) 0)) ⊢ |={Set.univ}=> (zer c s : sProp 𝕄) := by
  iintro ⟨#Hx, Ho, Hv⟩
  iapply (Rounds.cell_open ER (sch X) (g := cel c s) (Set.mem_univ (K (cel c s))))
  isplitr; · iapply (ctx_cell X K J c s h); iexact Hx
  isplitl [Ho] <;> iassumption

theorem hopen (c : Dev nD) : iprop(Tk X c ∗ Pipeline.ownSems0 osem c ∗ levAts L lv) ⊢ (|={Set.univ}=> Xk X c : sProp 𝕄) := by
  unfold Tk Xk
  iintro ⟨⟨⟨%K, %J, #Hr⟩, Ho, Ht, Hb⟩, Hv, #Hl⟩
  ihave #Hx := (show iprop(recs X K J ∗ levAts L lv) ⊢ ctx X K J from by
    unfold recs ctx
    iintro ⟨⟨H1, H2, H3⟩, H4⟩
    iframe H1 H2 H3 H4) $$ []
  · isplitr; · iexact Hr
    iexact Hl
  imod (show iprop(ctx X K J ∗ ((bigSep Finset.univ fun x => openTok ER (cel c (osem x))) ∗ (bigSep Finset.univ fun x => semVal (cel c (osem x)) 0)))
      ⊢ |={Set.univ}=> (bigSep Finset.univ fun x => (zer c (osem x) : sProp 𝕄)) from by
    refine (sep_mono_right (Entails.of_eq (bigSep_sep' Finset.univ (fun x => (openTok ER (cel c (osem x)) : sProp 𝕄)) fun x => semVal (cel c (osem x)) 0).symm)).trans ?_
    exact (bigSep_with_persistent (R := ctx X K J) fun x _ => open_one X K J c (osem x) (osem_role x)).trans (bigSep_fupd _ _)) $$ [Ho Hv] with Hz
  · isplitr; · iexact Hx
    isplitl [Ho]; · iexact Ho
    unfold Pipeline.ownSems0
    iexact Hv
  imodintro
  isplitr; · iexists K, J; iexact Hx
  isplitl [Hz]
  · iapply (Entails.of_eq (own_eq fun s => (zer c s : sProp 𝕄))) $$ Hz
  isplitl [Ht] <;> iassumption

end

/-! ## The region's data -/

/-- The buffers that the kernel addresses itself. -/
def bufs : Finset (DevRef τ sig) := {Proc.devRef .tc main_v1, Proc.devRef .tc main_v4}
theorem bufs_eq (c : Dev nD) (W : Valuation τ sig (Elt F)) :
    (StableHlo.held (c : Thread nD τ) bufs W : sProp 𝕄)
      = iprop((((Dev.tc c : Thread nD τ).loc main_v1) ↦{fullShare} W main_v1) ∗ ((Dev.tc c : Thread nD τ).loc main_v4) ↦{fullShare} W main_v4) := by
  unfold StableHlo.held bufs
  rw [bigSep_insert (by decide), bigSep_singleton]
  rfl

/-- What device `c` leaves the kernel with. -/
def Yk (c : Dev nD) : sProp 𝕄 := semVal (cel c barL) 0

/-- The region's invariant, before. -/
def Φ0 (c : Dev nD) : sProp 𝕄 :=
  iprop(Pipeline.scopedRest spec0 c ∗ (∃ r, prngReg c r) ∗ StableHlo.held (c.tc : Thread nD τ) bufs (V₁ m c) ∗ Xk (ins m) c)
/-- The region's invariant, after. -/
def Φ1 (c : Dev nD) : sProp 𝕄 :=
  iprop(Pipeline.scopedRest spec0 c ∗ (∃ r, prngReg c r) ∗ StableHlo.held (c.tc : Thread nD τ) bufs (V₂ m c) ∗ Pipeline.ownSems0 osem c ∗ Yk c)

def dat0 (c : Dev nD) : Pipeline.Dat τ (Elt F) ℕ ℕ UU ℕ cfg0 c where
  A w := V₁ m c (Proc.devRef .tc (Pipeline.arrRef spec0 w))
  after w _ := match w with
    | ⟨0, _⟩ => sstg m c
  Φ t := if t.val = 0 then Φ0 m c else Φ1 m c
  q _ := fullShare
  owed t := if t.val = 0 then O₀ c else 0

def pdats : (p : Fin 1) → (c : Dev nD) → Pipeline.Dat τ (Elt F) ℕ ℕ UU ℕ (Pipeline.pin (pcfgs (F := F)) adm p) c
  | 0 => dat0 m

theorem before_in (c : Dev nD) (d : (cfg0.win 0).block.Idx → Elt F (cfg0.win 0).elt) : (dat0 m c).before 0 t0_0 d = sstg m c := by
  unfold Pipeline.Dat.before; rw [if_pos (by decide)]; rfl

theorem owesAt_intro {cfg : Pipeline.Cfg sig Λ₀} {c : Dev nD} (dat : Pipeline.Dat τ (Elt F) ℕ ℕ UU ℕ cfg c) (t : Fin (cfg.N + 1))
    (O : CellTallies nD τ sig ℕ) (h0 : dat.owed t = O) (W : Waits sig ℕ) (hr : dat.recorded t = Set.univ := by first | rfl | skip) :
    (owes (c : Thread nD τ) O W : sProp 𝕄) ⊢ (dat.owesAt 0 t : sProp 𝕄) := by
  unfold Pipeline.Dat.owesAt Pipeline.owesWithin Pipeline.Dat.bound; rw [h0, hr]
  iintro HO; iexists W; isplitr; · ipureintro; exact fun _ _ => Or.inl trivial
  iexact HO
theorem owesAt_elim {cfg : Pipeline.Cfg sig Λ₀} {c : Dev nD} (dat : Pipeline.Dat τ (Elt F) ℕ ℕ UU ℕ cfg c) (t : Fin (cfg.N + 1))
    (O : CellTallies nD τ sig ℕ) (h0 : dat.owed t = O) :
    (dat.owesAt 0 t : sProp 𝕄) ⊢ iprop(∃ W, owes (c : Thread nD τ) O W) := by
  unfold Pipeline.Dat.owesAt Pipeline.owesWithin; rw [h0]
  iintro ⟨%W, -, HO⟩; iexists W; iexact HO

theorem owed_first (c : Dev nD) : (dat0 m c).owed t0_0.castSucc = O₀ c := rfl
theorem owed_last (c : Dev nD) : (dat0 m c).owed t0_0.succ = 0 := rfl

theorem four_sep (A B : Fin 4 → sProp (MT nD τ sig ℕ (Elt F) ℕ UU ℕ)) : four (fun k => iprop(A k ∗ B k)) = iprop(four A ∗ four B) := by
  rw [← four_eq, ← four_eq, ← four_eq, bigSep_sep']
theorem pre_eq (X : Ins F) (c : Dev nD) :
    four (fun k => strPre X c k)
      = iprop(four (strPos (F := F) c) ∗ four (strTok (F := F) c) ∗ four (strBuf (F := F) c) ∗ four (strPar X c) ∗ four (strOut0 (F := F) c)) := by
  unfold strPre; rw [four_sep, four_sep, four_sep, four_sep]
theorem post_eq (X : Ins F) (c : Dev nD) :
    four (fun k => strPost X c k)
      = iprop(four (strVal (F := F) c) ∗ four (strBuf (F := F) c) ∗ four (strPar X c) ∗ four (strOut X c)) := by
  unfold strPost; rw [four_sep, four_sep, four_sep]
theorem V₂_v4 (c : Dev nD) : V₂ m c main_v4 = resV (ins m) := Function.update_self ..
theorem V₂_of_ne (c : Dev nD) (b : Ref sig .tc) (h : (Proc.devRef .tc b : DevRef τ sig) ≠ Proc.devRef .tc main_v4) : V₂ m c b = V₁ m c b :=
  Function.update_of_ne h ..

/-- The kernel's body, from one invariant to the other. -/
theorem body_run (c : Dev nD) (W : Waits sig ℕ) (Q : PUnit.{1} → sProp (MT nD τ sig ℕ (Elt F) ℕ UU ℕ)) :
    iprop(Φ0 m c ∗ owes (Dev.tc c : Thread nD τ) (O₀ c) W ∗ sclOwn c ((ins m).scl c))
      ⊢ iprop(((Φ1 m c ∗ (∃ W, owes (Dev.tc c : Thread nD τ) (0 : CellTallies nD τ sig ℕ) W) ∗ sclOwn c ((ins m).scl c)) -∗ Q ⟨⟩)
        -∗ Wc c (bodyAt0 t0_0) Q) := by
  rw [body_eq]
  unfold Φ0 Φ1 Xk Yk
  rw [bufs_eq, bufs_eq]
  iintro ⟨⟨Hs, Hp, ⟨H1, H4⟩, ⟨%K, %J, #Hx⟩, Hpos, Htok, Hbar⟩, HO, Hc⟩ Hk
  ihave H1 := (show (((Dev.tc c : Thread nD τ).loc main_v1) ↦{fullShare} V₁ m c main_v1 : sProp 𝕄) ⊢ four (strPar (ins m) c) from
    Entails.of_eq (par_blocks (ins m) c)) $$ H1
  ihave H4 := (out_open c (V₁ m c main_v4)) $$ H4
  ihave Hs := (scratch_open c) $$ Hs
  unfold Wc
  simp only [Prog.lift, Prog.bind_op, Prog.bind_ret, Prog.pure_eq_ret, wp_deviceId]
  iapply (steps_run (ins m) K J c Q W) $$ [Hs H1 H4 Hpos Htok Hbar HO Hc]
  · isplitr; · iexact Hx
    isplitl [HO]; · iexact HO
    isplitl [Hc]; · iexact Hc
    isplitl [Hbar]; · iexact Hbar
    iapply (Entails.of_eq (pre_eq (ins m) c).symm)
    iframe Hpos Htok Hs H1 H4
  iintro ⟨HO, Hc, Hb, Hst⟩
  ihave Hst := (Entails.of_eq (post_eq (ins m) c)) $$ Hst
  icases Hst with ⟨Hv, Hs, H1, H4⟩
  ihave H1 := (show four (strPar (ins m) c) ⊢ (((Dev.tc c : Thread nD τ).loc main_v1) ↦{fullShare} V₁ m c main_v1 : sProp 𝕄) from
    Entails.of_eq (par_blocks (ins m) c).symm) $$ H1
  ihave H4 := (Entails.of_eq (out_close (ins m) c)) $$ H4
  ihave Hs := (scratch_close c) $$ Hs
  ihave HO := (show ows c 496 ⊢ (iprop(∃ W, owes (Dev.tc c : Thread nD τ) (0 : CellTallies nD τ sig ℕ) W) : sProp 𝕄) from by
    unfold ows; rw [Ow_end c 496 (by decide)]) $$ HO
  iapply Hk
  isplitr [HO Hc]
  · isplitl [Hs]; · iexact Hs
    isplitl [Hp]; · iexact Hp
    isplitl [H1 H4]
    · isplitl [H1]
      · rw [V₂_of_ne m c main_v1 (by decide)]; iexact H1
      · rw [V₂_v4]; iexact H4
    isplitl [Hv]
    · unfold Pipeline.ownSems0
      ihave Hv := (show four (strVal (F := F) c) ⊢ four fun k => iprop(semVal (cel c (ldL k)) 0 ∗ semVal (cel c (stL k)) 0 ∗ semVal (cel c (sndL k 0)) 0
        ∗ semVal (cel c (sndL k 1)) 0 ∗ semVal (cel c (rcvL k 0)) 0 ∗ semVal (cel c (rcvL k 1)) 0 ∗ semVal (cel c (crdL k)) 0) from .rfl) $$ Hv
      iapply (Entails.of_eq (own_eq fun s => (semVal (cel c s) 0 : sProp 𝕄)).symm) $$ Hv
    iexact Hb
  isplitl [HO] <;> iassumption

/-- The kernel's body, as the pipeline runs it. -/
theorem body_obligation (c : Dev nD) : Pipeline.BodyObligation (dat0 (F := F) m c) (defs₀ (F := F)) 𝒱₀ 0 Set.univ := fun t => by
  obtain rfl := fin_N0 t
  rw [bigSep_W0, bigSep_W0]
  rw [show (dat0 m c).Φ t0_0.castSucc = Φ0 m c from rfl, show (dat0 m c).Φ t0_0.succ = Φ1 m c from rfl]
  iintro ⟨HΦ, HO, ⟨%d, Hs⟩⟩
  ihave HO' := (owesAt_elim (dat0 m c) _ (O₀ c) (owed_first m c)) $$ HO
  icases HO' with ⟨%W, HO⟩
  rw [before_in, sstg_eq]
  ihave Hs := (show owns (Dev.tc c : Thread nD τ) ((cfg0.win 0).stage (cfg0.slots t0_0 0)) fullShare (fun _ => (ins m).scl c) ⊢ (sclOwn c ((ins m).scl c) : sProp 𝕄)
    from .rfl) $$ Hs
  iapply (body_run m c W _) $$ [HΦ HO Hs]
  · isplitl [HΦ]; · iexact HΦ
    isplitl [HO]; · iexact HO
    iexact Hs
  iintro ⟨HΦ, ⟨%W', HO⟩, Hs⟩
  isplitl [HΦ]; · iexact HΦ
  isplitl [HO]; · iapply (owesAt_intro (dat0 m c) t0_0.succ 0 (owed_last m c) W'); iexact HO
  iapply (show sclOwn c ((ins m).scl c) ⊢ owns (Dev.tc c : Thread nD τ) ((cfg0.win 0).stage (cfg0.slots t0_0 0)) fullShare ((dat0 m c).after 0 t0_0) from
    Entails.of_eq (congrArg (fun x => owns (Dev.tc c : Thread nD τ) sclM fullShare x) (sstg_eq m c).symm))
  iexact Hs

end Cert.KernelIdeal.RS

end
-- ==== Proof.RS.Record.lean ====
/- The program as the host's operations and the kernel. -/
module

public import proofs.«01_k».proof.Proof.RS.Region
public import proofs.«01_k».proof.Proof.RS.Align
public import proofs.«01_k».proof.Proof.Gen.KernelIdeal.Frame
public import Idealize.ShloMosaic.Lib.Pipeline.RegionTalk

@[expose] public section

set_option maxRecDepth 65536

noncomputable section

namespace Cert.KernelIdeal.RS

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok)

variable {F : FTy → Type} [FloatOps F]

local notation "𝕄" => MT nD τ sig ℕ (Elt F) ℕ UU ℕ

variable (m : (ℓ : Loc nD τ sig) → Buf (Elt F) ℓ)

local notation "ℍ" => Pipeline.HostSeg (Name := ℕ) (U := UU) (pcfgs (F := F)) defs₀ 𝒱₀ L lv
local notation "ℝ𝕊" => Pipeline.RegionSeg (pcfgs (F := F)) adm (pdats m) 0 defs₀ 𝒱₀ L lv

/-- The buffers that live as long as the program. -/
abbrev uc : Finset (DevRef τ sig) := Pipeline.ucRefs τ sig
/-- The window's arrays. -/
abbrev arrs : Finset (DevRef τ sig) := Pipeline.arrRefs (τ := τ) spec0
/-- The others. -/
abbrev rest : Finset (DevRef τ sig) := uc \ arrs
theorem arrs_sub : arrs ⊆ uc := Pipeline.arrRefs_sub_ucRefs spec0 (by decide)
theorem bufs_sub : bufs ⊆ rest := by decide

theorem O₀_pos (c : Dev nD) (g : GSem nD τ sig) (i : ℕ) (h : 0 < O₀ c g i) : i ∈ L g ∧ 0 < lv g i := by
  have hb : ∀ d : Dev nD, 0 < (tallyAt (cel d barL) 0 1 : CellTallies nD τ sig ℕ) g i → i ∈ L g ∧ 0 < lv g i := fun d h => by
    rw [tallyAt_apply] at h
    split at h
    · next hg =>
      obtain ⟨rfl, rfl⟩ := hg
      refine ⟨by rw [L_tc]; decide, ?_⟩
      show 0 < lvR (role barL) 0
      rw [role_bar]; decide
    · exact absurd h (Nat.lt_irrefl 0)
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · have := Ow_pos c 2 g i h
      exact ⟨this.1, by omega⟩
    · exact hb _ h
  · exact hb _ h

theorem cutD (c : Dev nD) (t : Fin ((Pipeline.pin (pcfgs (F := F)) adm 0).N + 1)) (g : GSem nD τ sig) (i : ℕ) (h : 0 < (pdats (F := F) m 0 c).owed t g i) :
    i ∈ L g ∧ (0 : ℕ) < lv g i := by
  have e : (pdats (F := F) m 0 c).owed t = if t.val = 0 then O₀ c else 0 := rfl
  rw [e] at h
  split at h
  · exact O₀_pos c g i h
  · exact absurd h (Nat.lt_irrefl 0)

theorem stage_level (c : Dev nD) (w : Fin (Pipeline.pin (pcfgs (F := F)) adm 0).W) (s : Fin ((Pipeline.pin (pcfgs (F := F)) adm 0).win w).nbuf) :
    lv ((c : Thread nD τ), .dma (((Pipeline.pin (pcfgs (F := F)) adm 0).win w).sem s)) 0 ≤ 0 := by
  have h : ∀ (w : Fin cfg0.W) (s : Fin (cfg0.win w).nbuf), lvR (role (.dma ((cfg0.win w).sem s))) 0 ≤ 0 := by decide +kernel
  exact h w s

theorem arr_first (c : Dev nD) (w : Fin (Pipeline.pin (pcfgs (F := F)) adm 0).W) :
    (pdats (F := F) m 0 c).arrAt w 0 = V₁ m c (Proc.devRef .tc (Pipeline.arrRef (Pipeline.pin (pcfgs (F := F)) adm 0).spec w)) := rfl
theorem arr_last (c : Dev nD) (w : Fin (Pipeline.pin (pcfgs (F := F)) adm 0).W) :
    (pdats (F := F) m 0 c).arrAt w (Pipeline.pin (pcfgs (F := F)) adm 0).N = V₂ m c (Proc.devRef .tc (Pipeline.arrRef (Pipeline.pin (pcfgs (F := F)) adm 0).spec w)) := by
  have hw : ∀ w : Fin cfg0.W, (Proc.devRef .tc (Pipeline.arrRef spec0 w) : DevRef τ sig) ≠ Proc.devRef .tc main_v4 := by decide
  have hi : ∀ w : Fin cfg0.W, (cfg0.win w).isOut = false := by decide
  refine ((dat0 (F := F) m c).arrAt_in w (hi w) _).trans ?_
  exact (V₂_of_ne m c _ (hw w)).symm

theorem hrest (c : Dev nD) : ∀ b ∈ rest \ bufs, V₂ m c b = V₁ m c b := fun b hb => by
  refine Function.update_of_ne (fun e => ?_) _ _
  subst e
  exact (Finset.mem_sdiff.mp hb).2 (by decide)

set_option backward.isDefEq.respectTransparency.types false in
/-- The kernel, as a record of the program. -/
def reg0 : ℝ𝕊 0 :=
  Pipeline.RegionSeg.ofTalk (pcfgs (F := F)) adm (pdats m) 0 defs₀ 𝒱₀ L lv 0 osem osem_facts
    bufs rest bufs_sub launch0.toP rfl (fun c => (body_obligation m c).loose)
    (fun _ => 0) O₀ (fun c => (zero_add _).symm) (fun c => owed_last m c) (fun _ => rfl) (fun c w => (pdats m 0 c).share_full (fun _ => rfl) w)
    (V₁ m) (V₂ m) (hrest m)
    (Tk (ins m)) Yk (Xk (ins m)) Yk (hopen (ins m)) (fun c => .rfl) (fun c => .rfl)
    (fun c => by iintro H; imodintro; iexact H)
    (fun _ => 0)
    ⟨fun c w s => by rw [L_tc]; decide, fun c w s => stage_level c w s, fun c t g i h => cutD m c t g i h⟩
    (fun _ => iprop(emp))
    (arr_first m) (arr_last m)

/-- What rides along with the host's operations. -/
def ride (c : Dev nD) : sProp 𝕄 := iprop((∃ r, prngReg c r) ∗ Tk (ins m) c ∗ ∃ W, owes (c : Thread nD τ) (O₀ c) W)

/-- The host's operations. -/
def seg0 : ℍ := Pipeline.HostSeg.ofOps _ _ _ _ _ uc hostOps0
  (fun op h => Pipeline.sub_ucRefs op (List.forall_iff_forall_mem.mp hostOps0_sub op h)) (fun op h => List.forall_iff_forall_mem.mp hostOps0_fresh op h)
  (fun c b => m (c, b)) (ride m)

def segs : List (Pipeline.Seg (pcfgs (F := F)) adm (pdats m) 0 defs₀ 𝒱₀ L lv) := [.host (seg0 m), .region (reg0 m)]
theorem main_eq (c : Dev nD) : main (F := F) c = Pipeline.Seg.run (segs m) :=
  main_segs adm (pdats m) 0 𝒱₀ L lv (seg0 m) (reg0 m) rfl c

theorem reg0_pre (c : Dev nD) : iprop(StableHlo.held (c : Thread nD τ) uc (V₁ m c) ∗ ride m c) ⊢ (reg0 m).pre c := by
  show _ ⊢ iprop(StableHlo.held (c.tc : Thread nD τ) arrs (V₁ m c) ∗ (∃ r, prngReg c r)
    ∗ (StableHlo.held (c.tc : Thread nD τ) rest (V₁ m c) ∗ emp) ∗ Tk (ins m) c ∗ ∃ Wd, owes (c : Thread nD τ) (0 + O₀ c) Wd)
  rw [StableHlo.held_sub_split (c.tc : Thread nD τ) arrs_sub (V₁ m c), zero_add]
  unfold ride
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

/-- What device `c` holds at the end. -/
abbrev Tₙ (c : Dev nD) : sProp 𝕄 := iprop(StableHlo.held (c : Thread nD τ) uc (V₂ m c) ∗ semVal (cel c barL) 0)

theorem reg0_post (c : Dev nD) : (reg0 m).post c
    ⊢ iprop(Tₙ m c ∗ ∃ W, owes (c : Thread nD τ) (0 : CellTallies nD τ sig ℕ) W) := by
  show iprop(StableHlo.held (c.tc : Thread nD τ) arrs (V₂ m c) ∗ (∃ r, prngReg c r)
    ∗ (StableHlo.held (c.tc : Thread nD τ) rest (V₂ m c) ∗ emp) ∗ Yk c ∗ ∃ Wd, owes (c : Thread nD τ) (0 : CellTallies nD τ sig ℕ) Wd) ⊢ _
  unfold Tₙ Yk
  rw [StableHlo.held_sub_split (c.tc : Thread nD τ) arrs_sub (V₂ m c)]
  iintro ⟨Ha, -, ⟨Hr, -⟩, Hb, HO⟩
  isplitr [HO]
  · isplitl [Ha Hr]
    · isplitl [Ha] <;> iassumption
    iexact Hb
  iexact HO

end Cert.KernelIdeal.RS

end
-- ==== Proof.RS.Deal.lean ====
/- The launch's tokens, dealt out to the devices that use them. -/
module

public import proofs.«01_k».proof.Proof.RS.Record
public import proofs.«01_k».proof.Proof.RS.Align
public import proofs.«01_k».proof.Proof.Gen.KernelIdeal.Frame
public import Idealize.ShloMosaic.Lib.Pipeline.RegionTalk
public import Idealize.ShloMosaic.Lib.Ring

@[expose] public section

set_option maxRecDepth 65536

noncomputable section

namespace Cert.KernelIdeal.RS

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok)

variable {F : FTy → Type} [FloatOps F]

local notation "𝕄" => MT nD τ sig ℕ (Elt F) ℕ UU ℕ

/-- A family over a product, one factor after the other. -/
theorem sep_prod {α β : Type} [DecidableEq α] [DecidableEq β] (s : Finset α) (t : Finset β) (Φ : α × β → sProp (MT nD τ sig ℕ (Elt F) ℕ UU ℕ)) :
    bigSep (s ×ˢ t) Φ = bigSep s fun a => bigSep t fun b => Φ (a, b) := by
  induction s using Finset.induction_on with
  | empty => rw [Finset.empty_product, bigSep_empty, bigSep_empty]
  | insert a s ha ih =>
    have hd : Disjoint (({a} : Finset α) ×ˢ t) (s ×ˢ t) := Finset.disjoint_product.mpr (.inl (Finset.disjoint_singleton_left.mpr ha))
    rw [bigSep_insert ha, Finset.insert_eq, Finset.union_product, bigSep_union hd, ih, Finset.singleton_product, bigSep_map]
    rfl

/-- All duties of all cells, and more. -/
def tokEmb : (Dev nD × SemLoc sig) × (ℕ × ℕ) ↪ GSem nD τ sig × ℕ × ℕ := ⟨fun x => (cel x.1.1 x.1.2, x.2), fun a b h => by
  have h1 := celEmb.injective (congrArg Prod.fst h)
  exact Prod.ext h1 (congrArg (fun t : GSem nD τ sig × ℕ × ℕ => t.2) h)⟩
def tokI : Finset (ℕ × ℕ) := Finset.range 16 ×ˢ Finset.range 28
def toks : Finset (GSem nD τ sig × ℕ × ℕ) := ((Finset.univ : Finset (Dev nD × SemLoc sig)) ×ˢ tokI).map tokEmb

/-- The first duty of a cell's first `n` rounds. -/
def dR (c : Dev nD) (s : SemLoc sig) (n : ℕ) : sProp 𝕄 := bigSep (Finset.range n) fun r => dutyTok ER (cel c s) r 0
/-- The first `n` duties of a cell's first round. -/
def dD (c : Dev nD) (s : SemLoc sig) (n : ℕ) : sProp 𝕄 := bigSep (Finset.range n) fun d => dutyTok ER (cel c s) 0 d

abbrev tkI (c : Dev nD) (s : SemLoc sig) : sProp 𝕄 := bigSep tokI fun x => dutyTok ER (cel c s) x.1 x.2
theorem tk_dR (c : Dev nD) (s : SemLoc sig) (n : ℕ) (h : n ≤ 16) : tkI c s ⊢ (dR c s n : sProp 𝕄) := by
  unfold tkI tokI dR
  rw [sep_prod]
  exact (bigSep_subset (Finset.range_mono h)).trans (bigSep_mono fun r _ => bigSep_elim (i := 0) (by decide))
theorem tk_dD (c : Dev nD) (s : SemLoc sig) (n : ℕ) (h : n ≤ 28) : tkI c s ⊢ (dD c s n : sProp 𝕄) := by
  unfold tkI tokI dD
  rw [sep_prod]
  exact (bigSep_elim (i := 0) (by decide)).trans (bigSep_subset (Finset.range_mono h))

theorem osem_inj : Function.Injective osem := by decide +kernel
theorem osem_bar : ∀ x, osem x ≠ barL := by decide +kernel
def osemEmb : Fin 4 × Fin 7 ↪ SemLoc sig := ⟨osem, osem_inj⟩

/-- Of a family over all semaphores, what the protocol uses. -/
theorem sems_pick (Φ : SemLoc sig → sProp (MT nD τ sig ℕ (Elt F) ℕ UU ℕ)) :
    bigSep Finset.univ Φ ⊢ iprop(Φ barL
      ∗ four fun k => iprop(Φ (ldL k) ∗ Φ (stL k) ∗ Φ (sndL k 0) ∗ Φ (sndL k 1) ∗ Φ (rcvL k 0) ∗ Φ (rcvL k 1) ∗ Φ (crdL k))) := by
  rw [bigSep_univ_at Φ barL, ← own_eq]
  refine sep_mono_right ?_
  have h : Finset.univ.map osemEmb ⊆ Finset.univ.erase barL := fun s hs => by
    obtain ⟨x, -, rfl⟩ := Finset.mem_map.mp hs
    exact Finset.mem_erase.mpr ⟨osem_bar x, Finset.mem_univ _⟩
  refine (bigSep_subset h).trans ?_
  rw [bigSep_map]
  exact BI.Entails.refl _

/-! ## What each device is handed -/

section

variable (c : Dev nD) (k : Fin 4)

/-- The tokens of a stream's sends, at their sender. -/
def pS : sProp 𝕄 := iprop(dR c (sndL k 0) 15 ∗ dR c (sndL k 1) 15)
/-- The tokens of a stream's arrivals, at their receiver. -/
def pV : sProp 𝕄 := iprop(dR c (rcvL k 0) 15 ∗ dR c (rcvL k 1) 15)
/-- The rights to write a stream's slots, at their owner. -/
def pW : sProp 𝕄 := iprop((bigSep (Finset.range 15) fun i => writeTok ES (c, k, 0) (i + 1)) ∗ bigSep (Finset.range 15) fun i => writeTok ES (c, k, 1) (i + 1))
/-- The tokens of a stream's loads and stores. -/
def pL : sProp 𝕄 := iprop(dR c (ldL k) 16 ∗ dR c (stL k) 16)
/-- The tokens of a stream's credits, at the device that takes them. -/
def pC : sProp 𝕄 := dD c (crdL k) 28
/-- The rights to read a stream's slots. -/
def pR : sProp 𝕄 := iprop(readerAt ES (c, k, 0) 0 ∗ readerAt ES (c, k, 1) 0)
/-- A stream's launch credits. -/
def pX : sProp 𝕄 :=
  iprop((bigSep (Finset.range 30) fun j => cred (tallyAt (cel c (rcvL k j)) j NN)) ∗ (bigSep (Finset.range 28) fun j => cred (tallyAt (cel c (crdL k)) j 1)))

theorem send_toks (A B V W : ℕ → sProp (MT nD τ sig ℕ (Elt F) ℕ UU ℕ)) (P : ℕ → sProp (MT nD τ sig ℕ (Elt F) ℕ UU ℕ)) (A' B' : ℕ → sProp (MT nD τ sig ℕ (Elt F) ℕ UU ℕ))
    (h0 : ∀ i, P (2 * i) = iprop(A i ∗ V i ∗ A' i)) (h1 : ∀ i, P (2 * i + 1) = iprop(B i ∗ W i ∗ B' i)) :
    iprop((bigSep (Finset.range 15) A ∗ bigSep (Finset.range 15) B) ∗ (bigSep (Finset.range 15) V ∗ bigSep (Finset.range 15) W)
      ∗ (bigSep (Finset.range 15) A' ∗ bigSep (Finset.range 15) B')) ⊢ bigSep (Finset.Ico 0 30) P := by
  rw [← Finset.range_eq_Ico, show (30 : ℕ) = 2 * 15 from rfl, Ring.bigSep_range_deinterleave]
  simp only [h0, h1, bigSep_sep']
  iintro ⟨⟨H1, H2⟩, ⟨H3, H4⟩, H5, H6⟩
  iframe H1 H2 H3 H4 H5 H6

theorem str_intro : iprop(pS c k ∗ pV (dn k c) k ∗ pW (dn k c) k ∗ pL c k ∗ pC (up k c) k ∗ pR c k ∗ pX c k) ⊢ (strTok c k : sProp 𝕄) := by
  unfold strTok
  iintro ⟨H1, H2, H3, H4, H5, H6, H7⟩
  isplitl [H1 H2 H3]
  · iapply (show iprop(pS c k ∗ pV (dn k c) k ∗ pW (dn k c) k) ⊢ bigSep (Finset.Ico 0 30) (fun t => (sendTok c k t : sProp 𝕄)) from by
      unfold pS pV pW dR
      refine send_toks _ _ _ _ _ _ _ (fun i => ?_) (fun i => ?_)
      · unfold sendTok
        rw [← sndL_mod, ← rcvL_mod, show 2 * i % 2 = 0 by omega, show 2 * i / 2 = i by omega]
      · unfold sendTok
        rw [← sndL_mod, ← rcvL_mod, show (2 * i + 1) % 2 = 1 by omega, show (2 * i + 1) / 2 = i by omega])
    isplitl [H1]; · iexact H1
    isplitl [H2] <;> iassumption
  unfold pL dR pC dD pR pX
  simp only [← Finset.range_eq_Ico]
  icases H4 with ⟨H4, H4'⟩
  isplitl [H4]; · iexact H4
  isplitl [H4']; · iexact H4'
  isplitl [H5]; · iexact H5
  isplitl [H6]; · iexact H6
  iexact H7

end

/-! ## Around the ring -/

/-- The device-and-stream pairs, moved down each stream; and up. -/
def dnE : Dev nD × Fin 4 ≃ Dev nD × Fin 4 where
  toFun x := (dn x.2 x.1, x.2)
  invFun x := (up x.2 x.1, x.2)
  left_inv x := Prod.ext (up_dn x.2 x.1) rfl
  right_inv x := Prod.ext (dn_up x.2 x.1) rfl
def lfE : Dev nD ≃ Dev nD where
  toFun := leftOf
  invFun := rightOf
  left_inv := right_left
  right_inv := left_right

theorem four_all (Φ : Dev nD → Fin 4 → sProp (MT nD τ sig ℕ (Elt F) ℕ UU ℕ)) :
    (bigSep Finset.univ fun c => four (Φ c)) = bigSep Finset.univ fun x : Dev nD × Fin 4 => Φ x.1 x.2 := by
  rw [bigSep_univ_prod]
  exact bigSep_congr fun c _ => (four_eq _).symm
theorem go_dn (Φ : Dev nD → Fin 4 → sProp (MT nD τ sig ℕ (Elt F) ℕ UU ℕ)) :
    (bigSep Finset.univ fun x : Dev nD × Fin 4 => Φ x.1 x.2) = bigSep Finset.univ fun x : Dev nD × Fin 4 => Φ (dn x.2 x.1) x.2 :=
  bigSep_univ_equiv dnE _
theorem go_up (Φ : Dev nD → Fin 4 → sProp (MT nD τ sig ℕ (Elt F) ℕ UU ℕ)) :
    (bigSep Finset.univ fun x : Dev nD × Fin 4 => Φ x.1 x.2) = bigSep Finset.univ fun x : Dev nD × Fin 4 => Φ (up x.2 x.1) x.2 :=
  bigSep_univ_equiv dnE.symm _

/-- All tokens, and all rights and credits, dealt out. -/
theorem deal_streams : iprop((bigSep Finset.univ fun x : Dev nD × Fin 4 => (pS x.1 x.2 : sProp 𝕄)) ∗ (bigSep Finset.univ fun x : Dev nD × Fin 4 => (pV x.1 x.2 : sProp 𝕄))
    ∗ (bigSep Finset.univ fun x : Dev nD × Fin 4 => (pW x.1 x.2 : sProp 𝕄)) ∗ (bigSep Finset.univ fun x : Dev nD × Fin 4 => (pL x.1 x.2 : sProp 𝕄))
    ∗ (bigSep Finset.univ fun x : Dev nD × Fin 4 => (pC x.1 x.2 : sProp 𝕄)) ∗ (bigSep Finset.univ fun x : Dev nD × Fin 4 => (pR x.1 x.2 : sProp 𝕄))
    ∗ (bigSep Finset.univ fun x : Dev nD × Fin 4 => (pX x.1 x.2 : sProp 𝕄)))
    ⊢ bigSep Finset.univ fun c : Dev nD => four (strTok (F := F) c) := by
  rw [go_dn pV, go_dn pW, go_up pC, four_all]
  simp only [← bigSep_sep']
  exact bigSep_mono fun x _ => str_intro x.1 x.2

/-- The barrier's tokens, at the device that waits. -/
def pB (c : Dev nD) : sProp 𝕄 := iprop(dutyTok ER (cel c barL) 0 0 ∗ dutyTok ER (cel c barL) 0 1)

theorem deal_bar : (bigSep Finset.univ fun c : Dev nD => (pB c : sProp 𝕄))
    ⊢ bigSep Finset.univ fun c : Dev nD => iprop(dutyTok ER (cel (leftOf c) barL) 0 0 ∗ dutyTok ER (cel (rightOf c) barL) 0 1) := by
  unfold pB
  rw [bigSep_sep', bigSep_univ_equiv lfE (fun c : Dev nD => (dutyTok ER (cel c barL) 0 0 : sProp 𝕄)),
    bigSep_univ_equiv lfE.symm (fun c : Dev nD => (dutyTok ER (cel c barL) 0 1 : sProp 𝕄)), ← bigSep_sep']
  exact .rfl

theorem toks_one (c : Dev nD) : (bigSep Finset.univ fun s : SemLoc sig => tkI c s)
    ⊢ iprop(pB c ∗ four fun k => iprop(pS c k ∗ pV c k ∗ pL c k ∗ pC c k) : sProp 𝕄) := by
  refine (sems_pick fun s => tkI c s).trans ?_
  refine BI.sep_mono ?_ ?_
  · refine (tk_dD c barL 2 (by decide)).trans ?_
    unfold dD pB
    rw [Finset.range_add_one, bigSep_insert (by simp), show Finset.range 1 = {0} from rfl, bigSep_singleton]
    exact sep_comm.1
  · have h (k : Fin 4) : iprop(tkI c (ldL k) ∗ tkI c (stL k) ∗ tkI c (sndL k 0) ∗ tkI c (sndL k 1) ∗ tkI c (rcvL k 0) ∗ tkI c (rcvL k 1) ∗ tkI c (crdL k))
        ⊢ (iprop(pS c k ∗ pV c k ∗ pL c k ∗ pC c k) : sProp 𝕄) := by
      unfold pS pV pL pC
      iintro ⟨H1, H2, H3, H4, H5, H6, H7⟩
      ihave H1 := (tk_dR (F := F) c (ldL k) 16 le_rfl) $$ H1
      ihave H2 := (tk_dR (F := F) c (stL k) 16 le_rfl) $$ H2
      ihave H3 := (tk_dR (F := F) c (sndL k 0) 15 (by decide)) $$ H3
      ihave H4 := (tk_dR (F := F) c (sndL k 1) 15 (by decide)) $$ H4
      ihave H5 := (tk_dR (F := F) c (rcvL k 0) 15 (by decide)) $$ H5
      ihave H6 := (tk_dR (F := F) c (rcvL k 1) 15 (by decide)) $$ H6
      ihave H7 := (tk_dD (F := F) c (crdL k) 28 le_rfl) $$ H7
      isplitl [H3 H4]; · isplitl [H3] <;> iassumption
      isplitl [H5 H6]; · isplitl [H5] <;> iassumption
      isplitl [H1 H2]; · isplitl [H1] <;> iassumption
      iexact H7
    rw [← four_eq, ← four_eq]
    exact bigSep_mono fun k _ => h k

theorem toks_all : (bigSep toks fun x => (dutyTok ER x.1 x.2.1 x.2.2 : sProp 𝕄))
    ⊢ iprop((bigSep Finset.univ fun c : Dev nD => (pB c : sProp 𝕄)) ∗ (bigSep Finset.univ fun x : Dev nD × Fin 4 => (pS x.1 x.2 : sProp 𝕄))
      ∗ (bigSep Finset.univ fun x : Dev nD × Fin 4 => (pV x.1 x.2 : sProp 𝕄)) ∗ (bigSep Finset.univ fun x : Dev nD × Fin 4 => (pL x.1 x.2 : sProp 𝕄))
      ∗ (bigSep Finset.univ fun x : Dev nD × Fin 4 => (pC x.1 x.2 : sProp 𝕄))) := by
  unfold toks
  rw [bigSep_map, sep_prod, bigSep_univ_prod]
  refine (bigSep_mono fun c _ => toks_one c).trans ?_
  rw [bigSep_sep', four_all fun c k => iprop(pS c k ∗ pV c k ∗ pL c k ∗ pC c k), bigSep_sep', bigSep_sep', bigSep_sep']
  exact BI.Entails.refl _

/-! ## The slots -/

theorem two_slots (Φ : ℕ → sProp (MT nD τ sig ℕ (Elt F) ℕ UU ℕ)) : bigSep (Finset.range 2) Φ ⊢ iprop(Φ 0 ∗ Φ 1) := by
  rw [Finset.range_add_one, bigSep_insert (by simp), show Finset.range 1 = {0} from rfl, bigSep_singleton]
  exact sep_comm.1
theorem keys_all (Φ : KK → sProp (MT nD τ sig ℕ (Elt F) ℕ UU ℕ)) :
    bigSep keys Φ ⊢ bigSep Finset.univ fun x : Dev nD × Fin 4 => iprop(Φ (x.1, x.2, 0) ∗ Φ (x.1, x.2, 1)) := by
  unfold keys
  rw [sep_prod, bigSep_univ_prod]
  refine bigSep_mono fun c _ => ?_
  rw [sep_prod]
  exact bigSep_mono fun k _ => two_slots fun q => Φ (c, k, q)
theorem readers_all : (bigSep keys fun x => (readerAt ES x 0 : sProp 𝕄)) ⊢ bigSep Finset.univ fun x : Dev nD × Fin 4 => (pR x.1 x.2 : sProp 𝕄) :=
  keys_all _
theorem writes_all : (bigSep (keys ×ˢ Finset.range 15) fun x => (writeTok ES x.1 (x.2 + 1) : sProp 𝕄))
    ⊢ bigSep Finset.univ fun x : Dev nD × Fin 4 => (pW x.1 x.2 : sProp 𝕄) := by
  rw [sep_prod]
  exact keys_all fun x => bigSep (Finset.range 15) fun i => writeTok ES x (i + 1)

end Cert.KernelIdeal.RS

end
-- ==== Proof.RS.Credit.lean ====
/- The launch's credits. -/
module

public import proofs.«01_k».proof.Proof.RS.Deal
public import proofs.«01_k».proof.Proof.RS.Align
public import proofs.«01_k».proof.Proof.Gen.KernelIdeal.Frame
public import Idealize.ShloMosaic.Lib.Pipeline.RegionTalk
public import Idealize.ShloMosaic.Lib.Ring

@[expose] public section

set_option maxRecDepth 65536

noncomputable section

namespace Cert.KernelIdeal.RS

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok)

variable {F : FTy → Type} [FloatOps F]

local notation "𝕄" => MT nD τ sig ℕ (Elt F) ℕ UU ℕ

theorem cred_sum {α : Type} [DecidableEq α] (s : Finset α) (T : α → CellTallies nD τ sig ℕ) :
    (cred (∑ i ∈ s, T i) : sProp 𝕄) = bigSep s fun i => cred (T i) := by
  induction s using Finset.induction_on with
  | empty => rw [Finset.sum_empty, cred_zero, bigSep_empty]; rfl
  | insert a s ha ih => rw [Finset.sum_insert ha, bigSep_insert ha, ← ih]; exact BI.Entails.antisymm (cred_add _ _).1 (cred_add _ _).2
theorem cred_two (A B : CellTallies nD τ sig ℕ) : (cred (A + B) : sProp 𝕄) = iprop(cred A ∗ cred B) :=
  BI.Entails.antisymm (cred_add _ _).1 (cred_add _ _).2

/-- What the devices owe to device `c` for stream `k`. -/
def Dk (c : Dev nD) (k : Fin 4) : CellTallies nD τ sig ℕ :=
  (∑ j ∈ Finset.range 30, tallyAt (cel c (rcvL k j)) j NN) + ∑ j ∈ Finset.range 28, tallyAt (cel c (crdL k)) j 1
/-- What the devices owe to device `c`. -/
def Dc (c : Dev nD) : CellTallies nD τ sig ℕ := (∑ k : Fin 4, Dk c k) + tallyAt (cel c barL) 0 2

theorem Ow_all (d : Dev nD) : Ow d 2 = (∑ k : Fin 4, ∑ j ∈ Finset.range 30, tallyAt (cel (dn k d) (rcvL k j)) j NN)
    + ∑ k : Fin 4, ∑ j ∈ Finset.range 28, tallyAt (cel (up k d) (crdL k)) j 1 := by
  rw [Ow_two]
  unfold Ow itS itC tS tC
  rw [Finset.filter_true_of_mem fun _ _ => Nat.zero_le _, Finset.filter_true_of_mem fun _ _ => Nat.zero_le _, Finset.sum_product, Finset.sum_product]

theorem owed_all : ∑ d : Dev nD, O₀ d = ∑ c : Dev nD, Dc c := by
  have hS : ∑ d : Dev nD, ∑ k : Fin 4, ∑ j ∈ Finset.range 30, (tallyAt (cel (dn k d) (rcvL k j)) j NN : CellTallies nD τ sig ℕ)
      = ∑ d : Dev nD, ∑ k : Fin 4, ∑ j ∈ Finset.range 30, tallyAt (cel d (rcvL k j)) j NN := by
    rw [← Fintype.sum_prod_type' (f := fun (d : Dev nD) (k : Fin 4) => ∑ j ∈ Finset.range 30, (tallyAt (cel (dn k d) (rcvL k j)) j NN : CellTallies nD τ sig ℕ)),
      ← Fintype.sum_prod_type' (f := fun (d : Dev nD) (k : Fin 4) => ∑ j ∈ Finset.range 30, (tallyAt (cel d (rcvL k j)) j NN : CellTallies nD τ sig ℕ))]
    exact Equiv.sum_comp dnE fun x => ∑ j ∈ Finset.range 30, (tallyAt (cel x.1 (rcvL x.2 j)) j NN : CellTallies nD τ sig ℕ)
  have hC : ∑ d : Dev nD, ∑ k : Fin 4, ∑ j ∈ Finset.range 28, (tallyAt (cel (up k d) (crdL k)) j 1 : CellTallies nD τ sig ℕ)
      = ∑ d : Dev nD, ∑ k : Fin 4, ∑ j ∈ Finset.range 28, tallyAt (cel d (crdL k)) j 1 := by
    rw [← Fintype.sum_prod_type' (f := fun (d : Dev nD) (k : Fin 4) => ∑ j ∈ Finset.range 28, (tallyAt (cel (up k d) (crdL k)) j 1 : CellTallies nD τ sig ℕ)),
      ← Fintype.sum_prod_type' (f := fun (d : Dev nD) (k : Fin 4) => ∑ j ∈ Finset.range 28, (tallyAt (cel d (crdL k)) j 1 : CellTallies nD τ sig ℕ))]
    exact Equiv.sum_comp dnE.symm fun x => ∑ j ∈ Finset.range 28, (tallyAt (cel x.1 (crdL x.2)) j 1 : CellTallies nD τ sig ℕ)
  have hR : ∑ d : Dev nD, (tallyAt (cel (rightOf d) barL) 0 1 : CellTallies nD τ sig ℕ) = ∑ d : Dev nD, tallyAt (cel d barL) 0 1 :=
    Equiv.sum_comp lfE.symm fun d => (tallyAt (cel d barL) 0 1 : CellTallies nD τ sig ℕ)
  have hL : ∑ d : Dev nD, (tallyAt (cel (leftOf d) barL) 0 1 : CellTallies nD τ sig ℕ) = ∑ d : Dev nD, tallyAt (cel d barL) 0 1 :=
    Equiv.sum_comp lfE fun d => (tallyAt (cel d barL) 0 1 : CellTallies nD τ sig ℕ)
  have hB : ∀ d : Dev nD, (tallyAt (cel d barL) 0 2 : CellTallies nD τ sig ℕ) = tallyAt (cel d barL) 0 1 + tallyAt (cel d barL) 0 1 :=
    fun d => (tallyAt_add _ _ 1 1).symm
  unfold O₀ Dc Dk
  simp only [Ow_all, hB, Finset.sum_add_distrib, hS, hC, hR, hL, add_assoc]

theorem tallyAt_off (c : Dev nD) (s : SemLoc sig) (i n : ℕ) (g : GSem nD τ sig) (h : g.1 ≠ Dev.tc c) :
    (tallyAt (cel c s) i n : CellTallies nD τ sig ℕ) g = 0 :=
  tallyAt_ne_cell (fun e => h (congrArg Prod.fst e)) i n
theorem Dc_off (c : Dev nD) (g : GSem nD τ sig) (h : g.1 ≠ Dev.tc c) : Dc c g = 0 := by
  unfold Dc Dk
  rw [Pi.add_apply, Finset.sum_apply, tallyAt_off c barL 0 2 g h, add_zero]
  refine Finset.sum_eq_zero fun k _ => ?_
  rw [Pi.add_apply, Finset.sum_apply, Finset.sum_apply, Finset.sum_eq_zero fun j _ => tallyAt_off c _ _ _ g h,
    Finset.sum_eq_zero fun j _ => tallyAt_off c _ _ _ g h, add_zero]

theorem launch_at (c : Dev nD) (s : SemLoc sig) : launchCredit (Pipeline.owing O₀) 0 (cel c s) = Dc c (cel c s) := by
  ext i
  have e : ∑ d : Dev nD, O₀ d (cel c s) i = (∑ d : Dev nD, O₀ d) (cel c s) i := by
    rw [Finset.sum_apply, Finsupp.finset_sum_apply]
  rw [Pipeline.launchCredit_owing, e, owed_all, Finset.sum_apply, Finset.sum_eq_single c (fun d _ hd => Dc_off d _ fun h => hd ?_)
    fun h => absurd (Finset.mem_univ c) h]
  exact (congrArg (fun t : Thread nD τ => t.1) h).symm

theorem Dc_sum (c : Dev nD) : ∑ s : SemLoc sig, tallyOn (cel c s) (Dc c (cel c s)) = Dc c := by
  funext g
  rw [Finset.sum_apply]
  by_cases h : g.1 = Dev.tc c
  · obtain ⟨t, s⟩ := g
    obtain rfl : t = Dev.tc c := h
    rw [Finset.sum_eq_single s (fun s' _ hs => tallyOn_ne (fun e => hs (congrArg Prod.snd e).symm) _) fun h => absurd (Finset.mem_univ s) h]
    exact tallyOn_self _ _
  · rw [Dc_off c g h]
    exact Finset.sum_eq_zero fun s _ => tallyOn_ne (fun e => h (congrArg Prod.fst e)) _

/-- The launch's credit of device `c`. -/
theorem creds (c : Dev nD) : (Pipeline.launchCred O₀ c : sProp 𝕄) ⊢ iprop((bigSep Finset.univ fun k => pX c k) ∗ cred (tallyAt (cel c barL) 0 2)) := by
  unfold Pipeline.launchCred
  have e : (fun s : SemLoc sig => (cred (tallyOn ((c.tc : Thread nD τ), s) (launchCredit (Pipeline.owing O₀) 0 ((c.tc : Thread nD τ), s))) : sProp 𝕄))
      = fun s => cred (tallyOn (cel c s) (Dc c (cel c s))) := by
    funext s; rw [← launch_at]
  rw [e, ← cred_sum, Dc_sum]
  unfold Dc Dk pX
  rw [cred_two, cred_sum]
  simp only [cred_two, cred_sum]
  exact BI.Entails.refl _

end Cert.KernelIdeal.RS

end
-- ==== Proof.RS.Launch.lean ====
/- The launch and the run of the whole program. -/
module

public import proofs.«01_k».proof.Proof.RS.Credit
public import proofs.«01_k».proof.Proof.RS.Align
public import proofs.«01_k».proof.Proof.Gen.KernelIdeal.Frame
public import Idealize.ShloMosaic.Lib.Pipeline.RegionTalk
public import Idealize.ShloMosaic.Lib.Ring

@[expose] public section

set_option maxRecDepth 65536

noncomputable section

namespace Cert.KernelIdeal.RS

open Idealize.ShloMosaic Idealize.ShloMosaic.TcCoe
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok)

variable {F : FTy → Type} [FloatOps F]

local notation "𝕄" => MT nD τ sig ℕ (Elt F) ℕ UU ℕ

variable (m : (ℓ : Loc nD τ sig) → Buf (Elt F) ℓ) (ρ : Dev nD → PrngReg)

theorem bar_disj : Disjoint (barCells : Finset (GSem nD τ sig)) scCells := by
  rw [Finset.disjoint_left]
  rintro g h₁ h₂
  obtain ⟨c, -, rfl⟩ := Finset.mem_map.mp h₁
  obtain ⟨x, hx, h⟩ := Finset.mem_map.mp h₂
  have hs : x.2 = barL := congrArg Prod.snd h
  have := (Finset.mem_filter.mp (Finset.mem_product.mp hx).2).2.2
  rw [hs] at this
  exact this role_bar

/-- The launch's elements: the protocol's and the slots'. -/
def ghost : sProp 𝕄 := iprop(BI.own (ER (launchOf barCells scCells toks)) ∗ BI.own (ES (Release.initSlots keys 15)))
def u₀ : UU :=
  (initOf (Pipeline.cells (Pipeline.pin (pcfgs (F := F)) adm) cellOf_inj) (Pipeline.launchToks (Pipeline.pin (pcfgs (F := F)) adm) cellOf_inj),
    (launchOf barCells scCells toks, Release.initSlots keys 15))

/-- All of it parked on device 0 until it is dealt. -/
def G (c : Dev nD) : sProp 𝕄 := if c = 0 then ghost else iprop(emp)
theorem G_all : bigSep Finset.univ (G (F := F)) = (ghost : sProp 𝕄) := by
  rw [bigSep_univ_at _ 0, bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem opens_all : (bigSep scCells fun g => (openTok ER g : sProp 𝕄))
    ⊢ bigSep Finset.univ fun c : Dev nD => bigSep Finset.univ fun x => openTok ER (cel c (osem x)) := by
  unfold scCells
  rw [bigSep_map, sep_prod]
  refine bigSep_mono fun c _ => ?_
  have h : Finset.univ.map osemEmb ⊆ ownSems := fun s hs => by
    obtain ⟨x, -, rfl⟩ := Finset.mem_map.mp hs
    refine Finset.mem_filter.mpr ⟨Finset.mem_univ _, osem_role x, ?_⟩
    exact (by decide +kernel : ∀ x, role (osem x) ≠ .bar) x
  refine (bigSep_subset h).trans ?_
  rw [bigSep_map]
  exact BI.Entails.refl _

/-- What a device holds at the start. -/
abbrev T₀ (c : Dev nD) : sProp 𝕄 := iprop(StableHlo.held (c : Thread nD τ) uc (fun b => m (c, b)) ∗ ride m c)

/-- What of it is not the protocol's. -/
def bundle (c : Dev nD) : sProp 𝕄 :=
  iprop(StableHlo.held (c : Thread nD τ) uc (fun b => m (c, b)) ∗ owes (c : Thread nD τ) (O₀ c) ∅ ∗ ∃ r, prngReg c r)
/-- What of the protocol's is its own. -/
def linear (c : Dev nD) : sProp 𝕄 :=
  iprop((bigSep Finset.univ fun x => openTok ER (cel c (osem x))) ∗ four (strTok (F := F) c)
    ∗ (dutyTok ER (cel (leftOf c) barL) 0 0 ∗ dutyTok ER (cel (rightOf c) barL) 0 1) ∗ cred (tallyAt (cel c barL) 0 2) ∗ atPos ER (cel c barL) 0 ∅ 0)

theorem T₀_intro (K : GSem nD τ sig → ℕ) (J : KK → ℕ) (c : Dev nD) : iprop(recs (ins m) K J ∗ (linear c ∗ bundle m c)) ⊢ T₀ m c := by
  unfold linear bundle T₀ ride Tk barPre
  iintro ⟨#HR, ⟨Ho, Ht, ⟨Hb0, Hb1⟩, Hc, Ha⟩, Hh, HO, Hp⟩
  isplitl [Hh]; · iexact Hh
  isplitl [Hp]; · iexact Hp
  isplitr [HO]
  · isplitr; · iexists K, J; iexact HR
    isplitl [Ho]; · iexact Ho
    isplitl [Ht]; · iexact Ht
    isplitl [Hb0]; · iexact Hb0
    isplitl [Hb1]; · iexact Hb1
    isplitl [Hc] <;> iassumption
  · iexists ∅; iexact HO

theorem unscoped_eq : ∀ s : SemLoc sig, s.isScoped .tc = false → s = barL := by decide
theorem unscopedSems0_eq (c : Dev nD) : (unscopedSems0 c : sProp 𝕄) = semVal (cel c barL) 0 := by
  unfold unscopedSems0
  rw [show (Finset.univ.filter fun sm : SemLoc sig => ¬ sm.isScoped .tc) = {barL} from by decide, BI.bigSep_singleton]

theorem core_split (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ semVal (cel c barL) 0 ∗ G c ∗ (bigSep Finset.univ fun k => pX c k) ∗ cred (tallyAt (cel c barL) 0 2)) : sProp 𝕄) := by
  rw [show unscopedBufs c (fun b => m ((c : Thread nD τ).loc b)) = StableHlo.held (c : Thread nD τ) uc (fun b => m (c, b)) from
      Pipeline.unscopedBufs_held c fun b => m (c, b), unscopedSems0_eq]
  unfold bundle
  iintro ⟨Hh, Hv, HO, Hcr, Hp, HG⟩
  ihave Hc := (creds (F := F) c) $$ Hcr
  icases Hc with ⟨Hx, Hb⟩
  isplitl [Hh HO Hp]
  · isplitl [Hh]; · iexact Hh
    isplitl [HO]; · iexact HO
    iexists (ρ c); iexact Hp
  isplitl [Hv]; · iexact Hv
  isplitl [HG]; · iexact HG
  isplitl [Hx] <;> iassumption

/-- The launch, dealt out. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (cel c barL) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cel c barL) 0 ∅ 0 : sProp 𝕄)) :=
    Entails.of_eq (bigSep_map (s := Finset.univ) barEmb (Φ := fun g : GSem nD τ sig => (atPos ER g 0 ∅ 0 : sProp 𝕄)))
  have hx : (bigSep Finset.univ fun c : Dev nD => bigSep Finset.univ fun k => (pX c k : sProp 𝕄))
      ⊢ bigSep Finset.univ fun x : Dev nD × Fin 4 => (pX x.1 x.2 : sProp 𝕄) :=
    Entails.of_eq (bigSep_univ_prod fun x : Dev nD × Fin 4 => (pX x.1 x.2 : sProp 𝕄)).symm
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ iprop((bigSep Finset.univ fun c : Dev nD => bundle m c) ∗ (bigSep Finset.univ fun c : Dev nD => semVal (cel c barL) 0) ∗ bigSep Finset.univ (G (F := F))
        ∗ (bigSep Finset.univ fun c : Dev nD => bigSep Finset.univ fun k => pX c k) ∗ (bigSep Finset.univ fun c : Dev nD => cred (tallyAt (cel c barL) 0 2)) : sProp 𝕄) from by
      simp only [← bigSep_sep']
      exact bigSep_mono fun c _ => core_split m ρ c) $$ H
  icases H' with ⟨HB, Hv, HG, Hx, Hc⟩
  ihave Hu := (show bigSep Finset.univ (G (F := F)) ⊢ iprop(BI.own (ER (launchOf barCells scCells toks)) ∗ BI.own (ES (Release.initSlots keys 15))) from
    Entails.of_eq (G_all (F := F))) $$ HG
  icases Hu with ⟨HuR, HuS⟩
  imod (Rounds.fund_launch ER (sch (ins m)) bar_disj (fun g _ h => h) toks) $$ [Hv HuR] with ⟨%K, -, #Hinv, #Hr, Hat, Hopen, Htok⟩
  · isplitl [Hv]
    · iapply hv $$ Hv
    · iexact HuR
  imod (Release.slots_init ES keys 15 slotAt) $$ [HuS] with ⟨%J, -, #Hsl, Hrd, Hwr⟩
  · iexact HuS
  imodintro
  iapply (bigSep_with_persistent (R := recs (ins m) K J) (Φ := fun c => iprop(linear c ∗ bundle m c)) fun c _ => T₀_intro m K J c)
  isplitr
  · unfold recs
    isplitr; · iexact Hinv
    isplitr; · iexact Hsl
    iexact Hr
  iapply (Entails.of_eq (bigSep_sep' Finset.univ (fun c : Dev nD => linear c) fun c => bundle m c).symm)
  isplitr [HB]
  · ihave Ht := (toks_all (F := F)) $$ Htok
    icases Ht with ⟨HtB, HtS, HtV, HtL, HtC⟩
    ihave Hrd := (readers_all (F := F)) $$ Hrd
    ihave Hwr := (writes_all (F := F)) $$ Hwr
    ihave Hx := hx $$ Hx
    ihave Hat := hat $$ Hat
    ihave Hopen := (opens_all (F := F)) $$ Hopen
    ihave Hst := (deal_streams (F := F)) $$ [HtS HtV Hwr HtL HtC Hrd Hx]
    · isplitl [HtS]; · iexact HtS
      isplitl [HtV]; · iexact HtV
      isplitl [Hwr]; · iexact Hwr
      isplitl [HtL]; · iexact HtL
      isplitl [HtC]; · iexact HtC
      isplitl [Hrd]; · iexact Hrd
      iexact Hx
    ihave Hba := (deal_bar (F := F)) $$ HtB
    iapply (show iprop((bigSep Finset.univ fun c : Dev nD => bigSep Finset.univ fun x => openTok ER (cel c (osem x)))
        ∗ (bigSep Finset.univ fun c : Dev nD => four (strTok (F := F) c))
        ∗ (bigSep Finset.univ fun c : Dev nD => iprop(dutyTok ER (cel (leftOf c) barL) 0 0 ∗ dutyTok ER (cel (rightOf c) barL) 0 1))
        ∗ (bigSep Finset.univ fun c : Dev nD => cred (tallyAt (cel c barL) 0 2)) ∗ (bigSep Finset.univ fun c : Dev nD => atPos ER (cel c barL) 0 ∅ 0))
        ⊢ (bigSep Finset.univ fun c : Dev nD => linear c : sProp 𝕄) from by
      unfold linear
      simp only [bigSep_sep']
      exact BI.Entails.refl _)
    isplitl [Hopen]; · iexact Hopen
    isplitl [Hst]; · iexact Hst
    isplitl [Hba]; · iexact Hba
    isplitl [Hc] <;> iassumption
  · iexact HB

/-! ## The run -/

/-- The buffers that the run is asked about. -/
def asked : Finset (DevRef τ sig) :=
  {Proc.devRef .tc main_arg0, Proc.devRef .tc main_arg1, Proc.devRef .tc main_arg2, Proc.devRef .tc main_arg3, Proc.devRef .tc main_v4}
theorem asked_sub : asked ⊆ uc := by decide
theorem asked_eq (c : Dev nD) (W : Valuation τ sig (Elt F)) :
    (StableHlo.held (c : Thread nD τ) asked W : sProp 𝕄)
      = iprop((((Dev.tc c : Thread nD τ).loc main_arg0) ↦{fullShare} W main_arg0) ∗ (((Dev.tc c : Thread nD τ).loc main_arg1) ↦{fullShare} W main_arg1)
        ∗ (((Dev.tc c : Thread nD τ).loc main_arg2) ↦{fullShare} W main_arg2) ∗ (((Dev.tc c : Thread nD τ).loc main_arg3) ↦{fullShare} W main_arg3)
        ∗ ((Dev.tc c : Thread nD τ).loc main_v4) ↦{fullShare} W main_v4) := by
  unfold StableHlo.held asked
  rw [bigSep_insert (by decide), bigSep_insert (by decide), bigSep_insert (by decide), bigSep_insert (by decide), bigSep_singleton]
  rfl

theorem V₂_arg0 (c : Dev nD) : V₂ m c main_arg0 = m ((c : Thread nD τ).loc main_arg0) := (V₂_of_ne m c _ (by decide)).trans (V_main_arg0 m c)
theorem V₂_arg1 (c : Dev nD) : V₂ m c main_arg1 = m ((c : Thread nD τ).loc main_arg1) := (V₂_of_ne m c _ (by decide)).trans (V_main_arg1 m c)
theorem V₂_arg2 (c : Dev nD) : V₂ m c main_arg2 = m ((c : Thread nD τ).loc main_arg2) := (V₂_of_ne m c _ (by decide)).trans (V_main_arg2 m c)
theorem V₂_arg3 (c : Dev nD) : V₂ m c main_arg3 = m ((c : Thread nD τ).loc main_arg3) := (V₂_of_ne m c _ (by decide)).trans (V_main_arg3 m c)

/-- What a device's buffers are at the end. -/
def Fin₁ (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_v4) = resV (ins m)

set_option backward.isDefEq.respectTransparency.types false in
/-- The program runs; at the end its arguments are as they were, every device's result is the reduced product under the
    epilogue, and all semaphores are back at zero. -/
theorem run_main : θ_run (defs (F := F)) (onTc (τ := τ) (main (F := F))) ⟨m, fun _ => 0, ρ⟩
    (fun r => (∀ c : Dev nD, Fin₁ m c r.2) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]
      unfold ghost
      iapply (show (BI.own (embR (launchOf barCells scCells toks, Release.initSlots keys 15)) : sProp 𝕄) ⊢ _ from own_pair_emb _ _ _) $$ HX)
    (T₀ := T₀ m) (Tₙ := Tₙ m)
    (hch := ⟨fun c => .rfl, fun c => reg0_pre m c, fun c => reg0_post m c⟩)
    (hinit := init m ρ)
    (QY := fun c s => Fin₁ m c s ∧ s.sem (cel c barL) = 0)
    (hfin := fun c s' => by
      dsimp only [Tₙ]
      rw [StableHlo.held_sub_split (c : Thread nD τ) asked_sub, asked_eq, V₂_arg0, V₂_arg1, V₂_arg2, V₂_arg3, V₂_v4]
      iintro ⟨⟨⟨⟨H0, H1, H2, H3, H4⟩, -⟩, Hb⟩, HSI⟩
      icombine HSI H0 gives %h0
      icombine HSI H1 gives %h1
      icombine HSI H2 gives %h2
      icombine HSI H3 gives %h3
      icombine HSI H4 gives %h4
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4⟩, by simpa using hb⟩
      iexact HSI)
    (hQ := fun s h hs => ⟨fun c => (h c).1, sem_eq_zero hs fun c sm hsm => by
        obtain rfl := unscoped_eq sm hsm
        exact (h c).2⟩)

end Cert.KernelIdeal.RS

end
-- ==== Proof.RS.Same.lean ====
/- The kernel as printed and the kernel read over the reals are one text, so that a run of one is a run of the other. -/
module

public import proofs.«01_k».proof.Proof.RS.Launch
public import proofs.«01_k».proof.Proof.Gen.Kernel.Frame

@[expose] public section

set_option maxRecDepth 65536

noncomputable section

namespace Cert.Kernel.RS

open Idealize.ShloMosaic Idealize.ShloMosaic.TcCoe
open Idealize.SL.Sem

variable {F : FTy → Type} [FloatOps F]

theorem main_same : Cert.Kernel.main (F := F) = Cert.KernelIdeal.main (F := F) := rfl
theorem body_same : Cert.Kernel.cc0_body (F := F) = Cert.KernelIdeal.cc0_body (F := F) := rfl
theorem defs₀_same : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl
theorem defs_same : Cert.Kernel.defs (F := F) = Cert.KernelIdeal.defs (F := F) := by
  unfold Cert.Kernel.defs Cert.KernelIdeal.defs
  exact congrArg _ defs₀_same

theorem run_main (m : (ℓ : Loc nD τ sig) → Buf (Elt F) ℓ) (ρ : Dev nD → PrngReg) :
    θ_run (defs (F := F)) (onTc (τ := τ) (main (F := F))) ⟨m, fun _ => 0, ρ⟩
      (fun r => (∀ c : Dev nD, Cert.KernelIdeal.RS.Fin₁ m c r.2) ∧ r.2.sem = fun _ => 0) := by
  rw [main_same, defs_same]
  exact Cert.KernelIdeal.RS.run_main m ρ

end Cert.Kernel.RS

end
-- ==== Proof.RS.Total.lean ====
/- Over the reals: what the ring leaves in a block is the sum of all devices' partial products, in whatever order, under the epilogue. -/
module

public import proofs.«01_k».proof.Proof.RS.Same
public import Idealize.ShloMosaic.Lib.Pointwise

@[expose] public section

set_option maxRecDepth 65536

noncomputable section

namespace Cert.KernelIdeal.RS

open Idealize.ShloMosaic Idealize.ShloMosaic.TcCoe
open Cert.KernelIdeal.Gen
open Idealize.SL.Sem

/-- `y / (1 + exp (-(y clipped to [-60, 60])))`. -/
def act (y : EReal) : EReal :=
  Ideal.div y (1 + Ideal.exp (-(min (Ideal.ofBits .f32 0x42700000#32) (max (Ideal.ofBits .f32 0xC2700000#32) y))))

/-- The kernel's epilogue at an index. -/
theorem epiB_apply (x : Blk Ideal) (s : EReal) (j : S256x2048.Idx) : epiB x s j = act (x j * s) := by
  unfold epiB act
  pointwise [k0_pay67]
  simp

variable (X : Ins Ideal)

/-- An index of the array, through its block. -/
theorem parv_at (j : S4096x8192.Idx) (d : Dev nD) (r : ℕ) (h : chunk (strm j) d r = (j 0).val / 256) :
    parv X (strm j) d r (inBlk j) = X.par d j := by
  unfold parv
  congr 1
  funext a
  apply Fin.ext
  rw [Rect.emb_apply]
  fin_cases a
  · simp [blkOff, inBlk, h]; omega
  · simp [blkOff, inBlk, strm]; omega

/-- What is carried at each hop. -/
theorem sv_sum (j : S4096x8192.Idx) (t : ℕ) (ht : t < 15) (c : Dev nD) (h : chunk (strm j) c t = (j 0).val / 256) :
    sv X (strm j) t c (inBlk j) = ∑ s ∈ Finset.range (t + 1), X.par ((up (strm j))^[t - s] c) j := by
  induction t generalizing c with
  | zero => simpa [sv] using parv_at X j c 0 h
  | succ t ih =>
    rw [Finset.sum_range_succ, sv_red X _ _ (by omega) ht, show t + 1 - 1 = t from rfl]
    show sv X (strm j) t (up (strm j) c) (inBlk j) + parv X (strm j) c (t + 1) (inBlk j) = _
    rw [ih (by omega) _ ((chunk_up (strm j) c ⟨t, by omega⟩).trans h), parv_at X j c _ h, Nat.sub_self, Function.iterate_zero, id]
    congr 1
    refine Finset.sum_congr rfl fun s hs => ?_
    rw [Finset.mem_range] at hs
    rw [← Function.iterate_succ_apply, show (t - s).succ = t + 1 - s by omega]

theorem finD_back : ∀ (k : Fin 4) (n : Fin 16), chunk k (finD k n.val) 15 = n.val := by decide +kernel
/-- Going up the ring fifteen, fourteen, … no places meets every device once. -/
theorem around : ∀ (k : Fin 4) (c : Dev nD), Function.Injective fun s : Fin 16 => ((up k)^[15 - s.val] c : Fin 16) := by decide +kernel

/-- The result at an index: the epilogue of the sum of all devices' partial products there. -/
theorem resV_apply (j : S4096x8192.Idx) :
    resV X j = act ((∑ d : Dev nD, X.par d j) * X.scl (finD (strm j) ((j 0).val / 256))) := by
  have hj : (j 0).val < 4096 := (j 0).isLt
  have h := finD_back (strm j) ⟨(j 0).val / 256, by omega⟩
  generalize hc : finD (strm j) ((j 0).val / 256) = c
  simp only [hc] at h
  unfold resV
  rw [hc, sv_fin, epiB_apply]
  congr 2
  show sv X (strm j) 14 (up (strm j) c) (inBlk j) + parv X (strm j) c 15 (inBlk j) = _
  rw [sv_sum X j 14 (by decide) _ ((chunk_up (strm j) c ⟨14, by decide⟩).trans h), parv_at X j c 15 h]
  have hb : Function.Bijective fun s : Fin 16 => ((up (strm j))^[15 - s.val] c : Fin 16) :=
    Finite.injective_iff_bijective.mp (around (strm j) c)
  refine Eq.trans ?_ (hb.sum_comp (M := EReal) fun d => X.par d j)
  rw [Fin.sum_univ_eq_sum_range (α := EReal) (fun s => X.par ((up (strm j))^[15 - s] c) j) 16, Finset.sum_range_succ _ 15]
  congr 1

end Cert.KernelIdeal.RS

end
-- ==== Proof.RS.Value.lean ====
/- Over the reals the kernel's result is the reference's: a sum over all of the contraction is the sum over the devices of the sums over their parts. -/
module

public import proofs.«01_k».proof.Proof.RS.Total
public import proofs.«01_k».proof.Proof.Gen.ReferenceIdeal.Run

@[expose] public section

set_option maxRecDepth 65536

noncomputable section

namespace Cert.KernelIdeal.RS

open Idealize.ShloMosaic Idealize.ShloMosaic.TcCoe
open Cert.KernelIdeal.Gen
open Idealize.SL.Sem

variable (m : (ℓ : Loc nD τ sig) → Buf (Elt Ideal) ℓ)

/-- A device's partial product when the kernel starts. -/
theorem par_eq (c : Dev nD) : V₁ m c (Proc.devRef .tc main_v1) = (Host.dotGeneral (F := Ideal) (φ₁ := .bf16) (φ₂ := .bf16) dot_S4096x256_S256x8192_S4096x8192_1_0_0_1_n_n none
    (m ((c : Thread nD τ).loc main_arg0)) (m ((c : Thread nD τ).loc main_arg1))) := by
  show StableHlo.after hostOps0 (fun b => m (c, b)) (Proc.devRef .tc main_v1) = _
  simp only [hostOps0]
  after_results
/-- The scale's array when the kernel starts. -/
theorem v3_eq (c : Dev nD) : V₁ m c (Proc.devRef .tc main_v3) =
    shapeCast S1x1 (mulf (m ((c : Thread nD τ).loc main_arg2)) (m ((c : Thread nD τ).loc main_arg3)) : FVec Ideal S1 .f32) shapeCasts_S1_S1x1 := by
  show StableHlo.after hostOps0 (fun b => m (c, b)) (Proc.devRef .tc main_v3) = _
  simp only [hostOps0]
  after_results
  rfl

/-- Device `c`'s first argument, as extended reals by row and column. -/
def left (c : Dev nD) (i : Fin 4096) (k : Fin 256) : EReal := (m ((c : Thread nD τ).loc main_arg0) : S4096x256.Idx → EReal) (ix2 i k)
/-- Device `c`'s second argument. -/
def right (c : Dev nD) (k : Fin 256) (l : Fin 8192) : EReal := (m ((c : Thread nD τ).loc main_arg1) : S256x8192.Idx → EReal) (ix2 k l)
/-- Device `c`'s two scales. -/
def scaleX (c : Dev nD) : EReal := (m ((c : Thread nD τ).loc main_arg2) : S1.Idx → EReal) (ix1 0)
def scaleW (c : Dev nD) : EReal := (m ((c : Thread nD τ).loc main_arg3) : S1.Idx → EReal) (ix1 0)

/-- A device's partial product at an index. -/
theorem par_apply (c : Dev nD) (j : S4096x8192.Idx) : (ins m).par c j = ∑ k : Fin 256, left m c (j 0) k * right m c k (j 1) := by
  refine (congrFun (par_eq m c) j).trans ?_
  pointwise
  rfl
/-- A device's scale. -/
theorem scl_apply (c : Dev nD) : (ins m).scl c = scaleX m c * scaleW m c := by
  show V₁ m c (Proc.devRef .tc main_v3) _ = _
  rw [v3_eq]
  unfold shapeCast
  generalize (Shape.reshapeEquiv _ _) = i
  have hi : i = ix1 0 := funext fun a => by
    apply Fin.ext
    have := (i a).isLt
    fin_cases a
    change (i 0).val < 1 at this
    change (i 0).val = 0
    omega
  rw [hi]
  rfl

end Cert.KernelIdeal.RS

end
-- ==== Proof.RS.Agree.lean ====
/- The reference's result at an index, and the two programs' results compared. -/
module

public import proofs.«01_k».proof.Proof.RS.Value
public import Idealize.ShloMosaic.Lib.Pipeline.ValueKit.Acc

@[expose] public section

set_option maxRecDepth 65536

noncomputable section

namespace Cert.ReferenceIdeal.RS

open Idealize.ShloMosaic Idealize.ShloMosaic.TcCoe
open Idealize.SL.Sem
open Cert.KernelIdeal.RS (act)

variable (m' : (ℓ : Loc nD τ sig) → Buf (Elt Ideal) ℓ)

/-- The reference's first argument, as extended reals by row and column. -/
def whole0 (i : Fin 4096) (k : Fin 4096) : EReal := (m' (((0 : Dev nD).tc : Thread nD τ).loc main_arg0) : S4096x4096.Idx → EReal) (ix2 i k)
/-- The reference's second argument. -/
def whole1 (k : Fin 4096) (l : Fin 8192) : EReal := (m' (((0 : Dev nD).tc : Thread nD τ).loc main_arg1) : S4096x8192.Idx → EReal) (ix2 k l)
/-- The reference's two scales. -/
def whole2 : EReal := (m' (((0 : Dev nD).tc : Thread nD τ).loc main_arg2) : S1.Idx → EReal) (ix1 0)
def whole3 : EReal := (m' (((0 : Dev nD).tc : Thread nD τ).loc main_arg3) : S1.Idx → EReal) (ix1 0)

/-- The reference's result: the scaled product under the activation. -/
def refV (j : S4096x8192.Idx) : EReal :=
  act ((∑ k : Fin 4096, whole0 m' (j 0) k * whole1 m' k (j 1)) * (whole2 m' * whole3 m'))

set_option maxHeartbeats 1000000 in
/-- The reference's run. -/
theorem run_ref (g' : Dev nD → PrngReg) :
    θ_run (defs (F := Ideal)) (onTc (τ := τ) (main (F := Ideal))) ⟨m', fun _ => 0, g'⟩ fun r => ∀ c : Dev nD,
      r.2.mem ((c.tc : Thread nD τ).loc main_v12) = refV m'
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3) := by
  refine (θ_run defs _ _).mono (fun r h c => ?_) (Value.run m' g')
  refine ⟨(h c).1.trans ?_, (h c).2⟩
  obtain rfl : c = 0 := Subsingleton.elim _ _
  funext j
  pointwise
  simp
  rfl

end Cert.ReferenceIdeal.RS

namespace Cert.KernelIdeal.RS

open Idealize.ShloMosaic Idealize.ShloMosaic.TcCoe
open Idealize.SL.Sem
open Cert.ReferenceIdeal.RS

/-- Where the devices' arguments are their parts of the reference's, the results are equal. -/
theorem resV_eq (m : (ℓ : Loc nD τ sig) → Buf (Elt Ideal) ℓ) (m' : (ℓ : Loc ReferenceIdeal.nD ReferenceIdeal.τ ReferenceIdeal.sig) → Buf (Elt Ideal) ℓ)
    (h0 : ∀ c i k, left m c i k = whole0 m' i ⟨c.val * 256 + k.val, by have := c.isLt; have := k.isLt; change c.val < 16 at *; omega⟩)
    (h1 : ∀ c k l, right m c k l = whole1 m' ⟨c.val * 256 + k.val, by have := c.isLt; have := k.isLt; change c.val < 16 at *; omega⟩ l)
    (h2 : ∀ c, scaleX m c = whole2 m') (h3 : ∀ c, scaleW m c = whole3 m') : resV (ins m) = refV m' := by
  funext j
  rw [resV_apply, scl_apply, h2, h3]
  unfold refV
  congr 2
  rw [Finset.sum_congr rfl fun d _ => par_apply m d j]
  exact Fin.sum_mul_add_congr (S := 16) (n := 256) fun s k _ => congrArg₂ (· * ·) (h0 s (j 0) k) (h1 s k (j 1))

end Cert.KernelIdeal.RS

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RS.Agree
public import Idealize.ShloMosaic.Adequacy
public import Idealize.ShloMosaic.Init

@[expose] public section

noncomputable section

namespace Cert.Proof

open Idealize.ShloMosaic Idealize.SL.Sem Cert.Kernel

/-- The kernel runs at the bit patterns, its arguments unchanged. -/
theorem frame_kernel : quiescent_Kernel := fun m g _ =>
  (θ_run _ _ _).mono (fun _ h => ⟨fun c => ⟨(h.1 c).1, (h.1 c).2.1, (h.1 c).2.2.1, (h.1 c).2.2.2.1⟩, h.2⟩) (Cert.Kernel.RS.run_main m g)

/-- The kernel runs over the reals, its arguments unchanged. -/
theorem frame_kernelIdeal : quiescent_KernelIdeal := fun m g _ =>
  (θ_run _ _ _).mono (fun _ h => ⟨fun c => ⟨(h.1 c).1, (h.1 c).2.1, (h.1 c).2.2.1, (h.1 c).2.2.2.1⟩, h.2⟩) (Cert.KernelIdeal.RS.run_main m g)

/-- The reference runs over the reals, its arguments unchanged; it has no semaphore. -/
theorem frame_referenceIdeal : quiescent_ReferenceIdeal := fun m g _ =>
  (θ_run _ _ _).mono (fun _ h => ⟨fun c => (h c).2, funext fun s => nomatch s.2⟩) (Cert.ReferenceIdeal.RS.run_ref m g)

/-- Every device's result is the reference's. -/
theorem value : algebraic_KernelIdeal_ReferenceIdeal := fun m g m' g' _ hagree => by
  refine ⟨Cert.ReferenceIdeal.RS.refV m', ?_, ?_⟩
  · refine (θ_run _ _ _).mono (fun _ h c => ?_) (Cert.KernelIdeal.RS.run_main m g)
    obtain ⟨e0, e1, e2, e3, e4⟩ := h.1 c
    refine ⟨e4.trans (Cert.KernelIdeal.RS.resV_eq m m' ?_ ?_ ?_ ?_), e0, e1, e2, e3⟩
    · intro c i k
      unfold Cert.KernelIdeal.RS.left Cert.ReferenceIdeal.RS.whole0
      refine (congrFun (hagree c).1 _).trans ?_
      refine congrArg (m' _) (funext fun a => Fin.ext ?_)
      fin_cases a <;> rfl
    · intro c k l
      unfold Cert.KernelIdeal.RS.right Cert.ReferenceIdeal.RS.whole1
      refine (congrFun (hagree c).2.1 _).trans ?_
      refine congrArg (m' _) (funext fun a => Fin.ext ?_)
      fin_cases a <;> rfl
    · exact fun c => congrFun (hagree c).2.2.1 _
    · exact fun c => congrFun (hagree c).2.2.2 _
  · exact (θ_run _ _ _).mono (fun _ h => h 0) (Cert.ReferenceIdeal.RS.run_ref m' g')

theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
